-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite [hPre_finite : Cert.Pre_finite.Facts] (m : (ℓ : Loc Cert.CtxIdeal.nD Cert.CtxIdeal.τ Cert.CtxIdeal.sig) → Buf (Elt Ideal) ℓ) : Prop :=
  ∀ c : Dev Cert.CtxIdeal.nD,
    (Cert.Pre_finite.fn (F := Ideal) (m ((c.tc : Thread Cert.CtxIdeal.nD Cert.CtxIdeal.τ).loc Cert.CtxIdeal.main_arg0))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite [hPre_finite : Cert.Pre_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite.fn (F := Ideal) (m ((c.tc : Thread Cert.CtxRefIdeal.nD Cert.CtxRefIdeal.τ).loc Cert.CtxRefIdeal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Proje (m : (ℓ : Loc Cert.Proje.nD Cert.Proje.τ Cert.Proje.sig) → Buf (Elt Bits) ℓ) : Prop :=
  True

def Pre_ProjeIdeal (m : (ℓ : Loc Cert.ProjeIdeal.nD Cert.ProjeIdeal.τ Cert.ProjeIdeal.sig) → Buf (Elt Ideal) ℓ) : Prop :=
  True

def Pre_ProjeIdeal_finite_gates [hPre_finite_gates : Cert.Pre_finite_gates.Facts] (m : (ℓ : Loc Cert.ProjeIdeal.nD Cert.ProjeIdeal.τ Cert.ProjeIdeal.sig) → Buf (Elt Ideal) ℓ) : Prop :=
  ∀ c : Dev Cert.ProjeIdeal.nD,
    (Cert.Pre_finite_gates.fn (F := Ideal) (m ((c.tc : Thread Cert.ProjeIdeal.nD Cert.ProjeIdeal.τ).loc Cert.ProjeIdeal.main_arg0)) (m ((c.tc : Thread Cert.ProjeIdeal.nD Cert.ProjeIdeal.τ).loc Cert.ProjeIdeal.main_arg1)) (m ((c.tc : Thread Cert.ProjeIdeal.nD Cert.ProjeIdeal.τ).loc Cert.ProjeIdeal.main_arg2)) (m ((c.tc : Thread Cert.ProjeIdeal.nD Cert.ProjeIdeal.τ).loc Cert.ProjeIdeal.main_arg3)) (m ((c.tc : Thread Cert.ProjeIdeal.nD Cert.ProjeIdeal.τ).loc Cert.ProjeIdeal.main_arg4)) (m ((c.tc : Thread Cert.ProjeIdeal.nD Cert.ProjeIdeal.τ).loc Cert.ProjeIdeal.main_arg5))) = (fun _ => 1#1)

def Pre_ProjeRefIdeal (m : (ℓ : Loc Cert.ProjeRefIdeal.nD Cert.ProjeRefIdeal.τ Cert.ProjeRefIdeal.sig) → Buf (Elt Ideal) ℓ) : Prop :=
  True

def Pre_ProjeRefIdeal_finite_gates [hPre_finite_gates : Cert.Pre_finite_gates.Facts] (m : (ℓ : Loc Cert.ProjeRefIdeal.nD Cert.ProjeRefIdeal.τ Cert.ProjeRefIdeal.sig) → Buf (Elt Ideal) ℓ) : Prop :=
  ∀ c : Dev Cert.ProjeRefIdeal.nD,
    (Cert.Pre_finite_gates.fn (F := Ideal) (m ((c.tc : Thread Cert.ProjeRefIdeal.nD Cert.ProjeRefIdeal.τ).loc Cert.ProjeRefIdeal.main_arg0)) (m ((c.tc : Thread Cert.ProjeRefIdeal.nD Cert.ProjeRefIdeal.τ).loc Cert.ProjeRefIdeal.main_arg1)) (m ((c.tc : Thread Cert.ProjeRefIdeal.nD Cert.ProjeRefIdeal.τ).loc Cert.ProjeRefIdeal.main_arg2)) (m ((c.tc : Thread Cert.ProjeRefIdeal.nD Cert.ProjeRefIdeal.τ).loc Cert.ProjeRefIdeal.main_arg3)) (m ((c.tc : Thread Cert.ProjeRefIdeal.nD Cert.ProjeRefIdeal.τ).loc Cert.ProjeRefIdeal.main_arg4)) (m ((c.tc : Thread Cert.ProjeRefIdeal.nD Cert.ProjeRefIdeal.τ).loc Cert.ProjeRefIdeal.main_arg5))) = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Oprojt (m : (ℓ : Loc Cert.Oprojt.nD Cert.Oprojt.τ Cert.Oprojt.sig) → Buf (Elt Bits) ℓ) : Prop :=
  True

def Pre_OprojtIdeal (m : (ℓ : Loc Cert.OprojtIdeal.nD Cert.OprojtIdeal.τ Cert.OprojtIdeal.sig) → Buf (Elt Ideal) ℓ) : Prop :=
  True

def Pre_OprojtRefIdeal (m : (ℓ : Loc Cert.OprojtRefIdeal.nD Cert.OprojtRefIdeal.τ Cert.OprojtRefIdeal.sig) → Buf (Elt Ideal) ℓ) : Prop :=
  True

def Pre_Exp [hPre_experts_in_range : Cert.Pre_experts_in_range.Facts] (m : (ℓ : Loc Cert.Exp.nD Cert.Exp.τ Cert.Exp.sig) → Buf (Elt Bits) ℓ) : Prop :=
  ∀ c : Dev Cert.Exp.nD,
    (Cert.Pre_experts_in_range.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_experts_in_range : Cert.Pre_experts_in_range.Facts] (m : (ℓ : Loc Cert.ExpIdeal.nD Cert.ExpIdeal.τ Cert.ExpIdeal.sig) → Buf (Elt Ideal) ℓ) : Prop :=
  ∀ c : Dev Cert.ExpIdeal.nD,
    (Cert.Pre_experts_in_range.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_experts_in_range [hPre_experts_in_range : Cert.Pre_experts_in_range.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_experts_in_range.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def Pre_Fnp (m : (ℓ : Loc Cert.Fnp.nD Cert.Fnp.τ Cert.Fnp.sig) → Buf (Elt Bits) ℓ) : Prop :=
  True

def Pre_FnpIdeal (m : (ℓ : Loc Cert.FnpIdeal.nD Cert.FnpIdeal.τ Cert.FnpIdeal.sig) → Buf (Elt Ideal) ℓ) : Prop :=
  True

def Pre_FnpRefIdeal (m : (ℓ : Loc Cert.FnpRefIdeal.nD Cert.FnpRefIdeal.τ Cert.FnpRefIdeal.sig) → Buf (Elt Ideal) ℓ) : Prop :=
  True

def Pre_Fns (m : (ℓ : Loc Cert.Fns.nD Cert.Fns.τ Cert.Fns.sig) → Buf (Elt Bits) ℓ) : Prop :=
  True

def Pre_FnsIdeal (m : (ℓ : Loc Cert.FnsIdeal.nD Cert.FnsIdeal.τ Cert.FnsIdeal.sig) → Buf (Elt Ideal) ℓ) : Prop :=
  True

def Pre_FnsRefIdeal (m : (ℓ : Loc Cert.FnsRefIdeal.nD Cert.FnsRefIdeal.τ Cert.FnsRefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxIdeal_pre_finite [hCtxIdeal : Cert.CtxIdeal.Facts] [hPre_finite : Cert.Pre_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_CtxRefIdeal_pre_finite [hCtxRefIdeal : Cert.CtxRefIdeal.Facts] [hPre_finite : Cert.Pre_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Proje [hProje : Cert.Proje.Facts] : Prop :=
  ∀ (m : (ℓ : Loc Cert.Proje.nD Cert.Proje.τ Cert.Proje.sig) → Buf (Elt Bits) ℓ) (g : Dev Cert.Proje.nD → PrngReg), Pre_Proje m →
    θ_run (Cert.Proje.defs (F := Bits)) (onTc (τ := Cert.Proje.τ) (Cert.Proje.main (F := Bits))) ⟨m, fun _ => 0, g⟩ (fun r => (∀ c : Dev Cert.Proje.nD,
      r.2.mem ((c.tc : Thread Cert.Proje.nD Cert.Proje.τ).loc Cert.Proje.main_arg0) = m ((c.tc : Thread Cert.Proje.nD Cert.Proje.τ).loc Cert.Proje.main_arg0)
      ∧ r.2.mem ((c.tc : Thread Cert.Proje.nD Cert.Proje.τ).loc Cert.Proje.main_arg1) = m ((c.tc : Thread Cert.Proje.nD Cert.Proje.τ).loc Cert.Proje.main_arg1)
      ∧ r.2.mem ((c.tc : Thread Cert.Proje.nD Cert.Proje.τ).loc Cert.Proje.main_arg2) = m ((c.tc : Thread Cert.Proje.nD Cert.Proje.τ).loc Cert.Proje.main_arg2)
      ∧ r.2.mem ((c.tc : Thread Cert.Proje.nD Cert.Proje.τ).loc Cert.Proje.main_arg3) = m ((c.tc : Thread Cert.Proje.nD Cert.Proje.τ).loc Cert.Proje.main_arg3)
      ∧ r.2.mem ((c.tc : Thread Cert.Proje.nD Cert.Proje.τ).loc Cert.Proje.main_arg4) = m ((c.tc : Thread Cert.Proje.nD Cert.Proje.τ).loc Cert.Proje.main_arg4)
      ∧ r.2.mem ((c.tc : Thread Cert.Proje.nD Cert.Proje.τ).loc Cert.Proje.main_arg5) = m ((c.tc : Thread Cert.Proje.nD Cert.Proje.τ).loc Cert.Proje.main_arg5))
      ∧ r.2.sem = fun _ => 0)

def quiescent_ProjeIdeal [hProjeIdeal : Cert.ProjeIdeal.Facts] : Prop :=
  ∀ (m : (ℓ : Loc Cert.ProjeIdeal.nD Cert.ProjeIdeal.τ Cert.ProjeIdeal.sig) → Buf (Elt Ideal) ℓ) (g : Dev Cert.ProjeIdeal.nD → PrngReg), Pre_ProjeIdeal m →
    θ_run (Cert.ProjeIdeal.defs (F := Ideal)) (onTc (τ := Cert.ProjeIdeal.τ) (Cert.ProjeIdeal.main (F := Ideal))) ⟨m, fun _ => 0, g⟩ (fun r => (∀ c : Dev Cert.ProjeIdeal.nD,
      r.2.mem ((c.tc : Thread Cert.ProjeIdeal.nD Cert.ProjeIdeal.τ).loc Cert.ProjeIdeal.main_arg0) = m ((c.tc : Thread Cert.ProjeIdeal.nD Cert.ProjeIdeal.τ).loc Cert.ProjeIdeal.main_arg0)
      ∧ r.2.mem ((c.tc : Thread Cert.ProjeIdeal.nD Cert.ProjeIdeal.τ).loc Cert.ProjeIdeal.main_arg1) = m ((c.tc : Thread Cert.ProjeIdeal.nD Cert.ProjeIdeal.τ).loc Cert.ProjeIdeal.main_arg1)
      ∧ r.2.mem ((c.tc : Thread Cert.ProjeIdeal.nD Cert.ProjeIdeal.τ).loc Cert.ProjeIdeal.main_arg2) = m ((c.tc : Thread Cert.ProjeIdeal.nD Cert.ProjeIdeal.τ).loc Cert.ProjeIdeal.main_arg2)
      ∧ r.2.mem ((c.tc : Thread Cert.ProjeIdeal.nD Cert.ProjeIdeal.τ).loc Cert.ProjeIdeal.main_arg3) = m ((c.tc : Thread Cert.ProjeIdeal.nD Cert.ProjeIdeal.τ).loc Cert.ProjeIdeal.main_arg3)
      ∧ r.2.mem ((c.tc : Thread Cert.ProjeIdeal.nD Cert.ProjeIdeal.τ).loc Cert.ProjeIdeal.main_arg4) = m ((c.tc : Thread Cert.ProjeIdeal.nD Cert.ProjeIdeal.τ).loc Cert.ProjeIdeal.main_arg4)
      ∧ r.2.mem ((c.tc : Thread Cert.ProjeIdeal.nD Cert.ProjeIdeal.τ).loc Cert.ProjeIdeal.main_arg5) = m ((c.tc : Thread Cert.ProjeIdeal.nD Cert.ProjeIdeal.τ).loc Cert.ProjeIdeal.main_arg5))
      ∧ r.2.sem = fun _ => 0)

def quiescent_ProjeIdeal_pre_finite_gates [hProjeIdeal : Cert.ProjeIdeal.Facts] [hPre_finite_gates : Cert.Pre_finite_gates.Facts] : Prop :=
  ∀ (m : (ℓ : Loc Cert.ProjeIdeal.nD Cert.ProjeIdeal.τ Cert.ProjeIdeal.sig) → Buf (Elt Ideal) ℓ) (g : Dev Cert.ProjeIdeal.nD → PrngReg), Pre_ProjeIdeal_finite_gates m →
    θ_run (Cert.ProjeIdeal.defs (F := Ideal)) (onTc (τ := Cert.ProjeIdeal.τ) (Cert.ProjeIdeal.main (F := Ideal))) ⟨m, fun _ => 0, g⟩ (fun r => (∀ c : Dev Cert.ProjeIdeal.nD,
      r.2.mem ((c.tc : Thread Cert.ProjeIdeal.nD Cert.ProjeIdeal.τ).loc Cert.ProjeIdeal.main_arg0) = m ((c.tc : Thread Cert.ProjeIdeal.nD Cert.ProjeIdeal.τ).loc Cert.ProjeIdeal.main_arg0)
      ∧ r.2.mem ((c.tc : Thread Cert.ProjeIdeal.nD Cert.ProjeIdeal.τ).loc Cert.ProjeIdeal.main_arg1) = m ((c.tc : Thread Cert.ProjeIdeal.nD Cert.ProjeIdeal.τ).loc Cert.ProjeIdeal.main_arg1)
      ∧ r.2.mem ((c.tc : Thread Cert.ProjeIdeal.nD Cert.ProjeIdeal.τ).loc Cert.ProjeIdeal.main_arg2) = m ((c.tc : Thread Cert.ProjeIdeal.nD Cert.ProjeIdeal.τ).loc Cert.ProjeIdeal.main_arg2)
      ∧ r.2.mem ((c.tc : Thread Cert.ProjeIdeal.nD Cert.ProjeIdeal.τ).loc Cert.ProjeIdeal.main_arg3) = m ((c.tc : Thread Cert.ProjeIdeal.nD Cert.ProjeIdeal.τ).loc Cert.ProjeIdeal.main_arg3)
      ∧ r.2.mem ((c.tc : Thread Cert.ProjeIdeal.nD Cert.ProjeIdeal.τ).loc Cert.ProjeIdeal.main_arg4) = m ((c.tc : Thread Cert.ProjeIdeal.nD Cert.ProjeIdeal.τ).loc Cert.ProjeIdeal.main_arg4)
      ∧ r.2.mem ((c.tc : Thread Cert.ProjeIdeal.nD Cert.ProjeIdeal.τ).loc Cert.ProjeIdeal.main_arg5) = m ((c.tc : Thread Cert.ProjeIdeal.nD Cert.ProjeIdeal.τ).loc Cert.ProjeIdeal.main_arg5))
      ∧ r.2.sem = fun _ => 0)

def quiescent_ProjeRefIdeal [hProjeRefIdeal : Cert.ProjeRefIdeal.Facts] : Prop :=
  ∀ (m : (ℓ : Loc Cert.ProjeRefIdeal.nD Cert.ProjeRefIdeal.τ Cert.ProjeRefIdeal.sig) → Buf (Elt Ideal) ℓ) (g : Dev Cert.ProjeRefIdeal.nD → PrngReg), Pre_ProjeRefIdeal m →
    θ_run (Cert.ProjeRefIdeal.defs (F := Ideal)) (onTc (τ := Cert.ProjeRefIdeal.τ) (Cert.ProjeRefIdeal.main (F := Ideal))) ⟨m, fun _ => 0, g⟩ (fun r => (∀ c : Dev Cert.ProjeRefIdeal.nD,
      r.2.mem ((c.tc : Thread Cert.ProjeRefIdeal.nD Cert.ProjeRefIdeal.τ).loc Cert.ProjeRefIdeal.main_arg0) = m ((c.tc : Thread Cert.ProjeRefIdeal.nD Cert.ProjeRefIdeal.τ).loc Cert.ProjeRefIdeal.main_arg0)
      ∧ r.2.mem ((c.tc : Thread Cert.ProjeRefIdeal.nD Cert.ProjeRefIdeal.τ).loc Cert.ProjeRefIdeal.main_arg1) = m ((c.tc : Thread Cert.ProjeRefIdeal.nD Cert.ProjeRefIdeal.τ).loc Cert.ProjeRefIdeal.main_arg1)
      ∧ r.2.mem ((c.tc : Thread Cert.ProjeRefIdeal.nD Cert.ProjeRefIdeal.τ).loc Cert.ProjeRefIdeal.main_arg2) = m ((c.tc : Thread Cert.ProjeRefIdeal.nD Cert.ProjeRefIdeal.τ).loc Cert.ProjeRefIdeal.main_arg2)
      ∧ r.2.mem ((c.tc : Thread Cert.ProjeRefIdeal.nD Cert.ProjeRefIdeal.τ).loc Cert.ProjeRefIdeal.main_arg3) = m ((c.tc : Thread Cert.ProjeRefIdeal.nD Cert.ProjeRefIdeal.τ).loc Cert.ProjeRefIdeal.main_arg3)
      ∧ r.2.mem ((c.tc : Thread Cert.ProjeRefIdeal.nD Cert.ProjeRefIdeal.τ).loc Cert.ProjeRefIdeal.main_arg4) = m ((c.tc : Thread Cert.ProjeRefIdeal.nD Cert.ProjeRefIdeal.τ).loc Cert.ProjeRefIdeal.main_arg4)
      ∧ r.2.mem ((c.tc : Thread Cert.ProjeRefIdeal.nD Cert.ProjeRefIdeal.τ).loc Cert.ProjeRefIdeal.main_arg5) = m ((c.tc : Thread Cert.ProjeRefIdeal.nD Cert.ProjeRefIdeal.τ).loc Cert.ProjeRefIdeal.main_arg5))
      ∧ r.2.sem = fun _ => 0)

def quiescent_ProjeRefIdeal_pre_finite_gates [hProjeRefIdeal : Cert.ProjeRefIdeal.Facts] [hPre_finite_gates : Cert.Pre_finite_gates.Facts] : Prop :=
  ∀ (m : (ℓ : Loc Cert.ProjeRefIdeal.nD Cert.ProjeRefIdeal.τ Cert.ProjeRefIdeal.sig) → Buf (Elt Ideal) ℓ) (g : Dev Cert.ProjeRefIdeal.nD → PrngReg), Pre_ProjeRefIdeal_finite_gates m →
    θ_run (Cert.ProjeRefIdeal.defs (F := Ideal)) (onTc (τ := Cert.ProjeRefIdeal.τ) (Cert.ProjeRefIdeal.main (F := Ideal))) ⟨m, fun _ => 0, g⟩ (fun r => (∀ c : Dev Cert.ProjeRefIdeal.nD,
      r.2.mem ((c.tc : Thread Cert.ProjeRefIdeal.nD Cert.ProjeRefIdeal.τ).loc Cert.ProjeRefIdeal.main_arg0) = m ((c.tc : Thread Cert.ProjeRefIdeal.nD Cert.ProjeRefIdeal.τ).loc Cert.ProjeRefIdeal.main_arg0)
      ∧ r.2.mem ((c.tc : Thread Cert.ProjeRefIdeal.nD Cert.ProjeRefIdeal.τ).loc Cert.ProjeRefIdeal.main_arg1) = m ((c.tc : Thread Cert.ProjeRefIdeal.nD Cert.ProjeRefIdeal.τ).loc Cert.ProjeRefIdeal.main_arg1)
      ∧ r.2.mem ((c.tc : Thread Cert.ProjeRefIdeal.nD Cert.ProjeRefIdeal.τ).loc Cert.ProjeRefIdeal.main_arg2) = m ((c.tc : Thread Cert.ProjeRefIdeal.nD Cert.ProjeRefIdeal.τ).loc Cert.ProjeRefIdeal.main_arg2)
      ∧ r.2.mem ((c.tc : Thread Cert.ProjeRefIdeal.nD Cert.ProjeRefIdeal.τ).loc Cert.ProjeRefIdeal.main_arg3) = m ((c.tc : Thread Cert.ProjeRefIdeal.nD Cert.ProjeRefIdeal.τ).loc Cert.ProjeRefIdeal.main_arg3)
      ∧ r.2.mem ((c.tc : Thread Cert.ProjeRefIdeal.nD Cert.ProjeRefIdeal.τ).loc Cert.ProjeRefIdeal.main_arg4) = m ((c.tc : Thread Cert.ProjeRefIdeal.nD Cert.ProjeRefIdeal.τ).loc Cert.ProjeRefIdeal.main_arg4)
      ∧ r.2.mem ((c.tc : Thread Cert.ProjeRefIdeal.nD Cert.ProjeRefIdeal.τ).loc Cert.ProjeRefIdeal.main_arg5) = m ((c.tc : Thread Cert.ProjeRefIdeal.nD Cert.ProjeRefIdeal.τ).loc Cert.ProjeRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_Oprojt [hOprojt : Cert.Oprojt.Facts] : Prop :=
  ∀ (m : (ℓ : Loc Cert.Oprojt.nD Cert.Oprojt.τ Cert.Oprojt.sig) → Buf (Elt Bits) ℓ) (g : Dev Cert.Oprojt.nD → PrngReg), Pre_Oprojt m →
    θ_run (Cert.Oprojt.defs (F := Bits)) (onTc (τ := Cert.Oprojt.τ) (Cert.Oprojt.main (F := Bits))) ⟨m, fun _ => 0, g⟩ (fun r => (∀ c : Dev Cert.Oprojt.nD,
      r.2.mem ((c.tc : Thread Cert.Oprojt.nD Cert.Oprojt.τ).loc Cert.Oprojt.main_arg0) = m ((c.tc : Thread Cert.Oprojt.nD Cert.Oprojt.τ).loc Cert.Oprojt.main_arg0)
      ∧ r.2.mem ((c.tc : Thread Cert.Oprojt.nD Cert.Oprojt.τ).loc Cert.Oprojt.main_arg1) = m ((c.tc : Thread Cert.Oprojt.nD Cert.Oprojt.τ).loc Cert.Oprojt.main_arg1)
      ∧ r.2.mem ((c.tc : Thread Cert.Oprojt.nD Cert.Oprojt.τ).loc Cert.Oprojt.main_arg2) = m ((c.tc : Thread Cert.Oprojt.nD Cert.Oprojt.τ).loc Cert.Oprojt.main_arg2)
      ∧ r.2.mem ((c.tc : Thread Cert.Oprojt.nD Cert.Oprojt.τ).loc Cert.Oprojt.main_arg3) = m ((c.tc : Thread Cert.Oprojt.nD Cert.Oprojt.τ).loc Cert.Oprojt.main_arg3)
      ∧ r.2.mem ((c.tc : Thread Cert.Oprojt.nD Cert.Oprojt.τ).loc Cert.Oprojt.main_arg4) = m ((c.tc : Thread Cert.Oprojt.nD Cert.Oprojt.τ).loc Cert.Oprojt.main_arg4)
      ∧ r.2.mem ((c.tc : Thread Cert.Oprojt.nD Cert.Oprojt.τ).loc Cert.Oprojt.main_arg5) = m ((c.tc : Thread Cert.Oprojt.nD Cert.Oprojt.τ).loc Cert.Oprojt.main_arg5)
      ∧ r.2.mem ((c.tc : Thread Cert.Oprojt.nD Cert.Oprojt.τ).loc Cert.Oprojt.main_arg6) = m ((c.tc : Thread Cert.Oprojt.nD Cert.Oprojt.τ).loc Cert.Oprojt.main_arg6))
      ∧ r.2.sem = fun _ => 0)

def quiescent_OprojtIdeal [hOprojtIdeal : Cert.OprojtIdeal.Facts] : Prop :=
  ∀ (m : (ℓ : Loc Cert.OprojtIdeal.nD Cert.OprojtIdeal.τ Cert.OprojtIdeal.sig) → Buf (Elt Ideal) ℓ) (g : Dev Cert.OprojtIdeal.nD → PrngReg), Pre_OprojtIdeal m →
    θ_run (Cert.OprojtIdeal.defs (F := Ideal)) (onTc (τ := Cert.OprojtIdeal.τ) (Cert.OprojtIdeal.main (F := Ideal))) ⟨m, fun _ => 0, g⟩ (fun r => (∀ c : Dev Cert.OprojtIdeal.nD,
      r.2.mem ((c.tc : Thread Cert.OprojtIdeal.nD Cert.OprojtIdeal.τ).loc Cert.OprojtIdeal.main_arg0) = m ((c.tc : Thread Cert.OprojtIdeal.nD Cert.OprojtIdeal.τ).loc Cert.OprojtIdeal.main_arg0)
      ∧ r.2.mem ((c.tc : Thread Cert.OprojtIdeal.nD Cert.OprojtIdeal.τ).loc Cert.OprojtIdeal.main_arg1) = m ((c.tc : Thread Cert.OprojtIdeal.nD Cert.OprojtIdeal.τ).loc Cert.OprojtIdeal.main_arg1)
      ∧ r.2.mem ((c.tc : Thread Cert.OprojtIdeal.nD Cert.OprojtIdeal.τ).loc Cert.OprojtIdeal.main_arg2) = m ((c.tc : Thread Cert.OprojtIdeal.nD Cert.OprojtIdeal.τ).loc Cert.OprojtIdeal.main_arg2)
      ∧ r.2.mem ((c.tc : Thread Cert.OprojtIdeal.nD Cert.OprojtIdeal.τ).loc Cert.OprojtIdeal.main_arg3) = m ((c.tc : Thread Cert.OprojtIdeal.nD Cert.OprojtIdeal.τ).loc Cert.OprojtIdeal.main_arg3)
      ∧ r.2.mem ((c.tc : Thread Cert.OprojtIdeal.nD Cert.OprojtIdeal.τ).loc Cert.OprojtIdeal.main_arg4) = m ((c.tc : Thread Cert.OprojtIdeal.nD Cert.OprojtIdeal.τ).loc Cert.OprojtIdeal.main_arg4)
      ∧ r.2.mem ((c.tc : Thread Cert.OprojtIdeal.nD Cert.OprojtIdeal.τ).loc Cert.OprojtIdeal.main_arg5) = m ((c.tc : Thread Cert.OprojtIdeal.nD Cert.OprojtIdeal.τ).loc Cert.OprojtIdeal.main_arg5)
      ∧ r.2.mem ((c.tc : Thread Cert.OprojtIdeal.nD Cert.OprojtIdeal.τ).loc Cert.OprojtIdeal.main_arg6) = m ((c.tc : Thread Cert.OprojtIdeal.nD Cert.OprojtIdeal.τ).loc Cert.OprojtIdeal.main_arg6))
      ∧ r.2.sem = fun _ => 0)

def quiescent_OprojtRefIdeal [hOprojtRefIdeal : Cert.OprojtRefIdeal.Facts] : Prop :=
  ∀ (m : (ℓ : Loc Cert.OprojtRefIdeal.nD Cert.OprojtRefIdeal.τ Cert.OprojtRefIdeal.sig) → Buf (Elt Ideal) ℓ) (g : Dev Cert.OprojtRefIdeal.nD → PrngReg), Pre_OprojtRefIdeal m →
    θ_run (Cert.OprojtRefIdeal.defs (F := Ideal)) (onTc (τ := Cert.OprojtRefIdeal.τ) (Cert.OprojtRefIdeal.main (F := Ideal))) ⟨m, fun _ => 0, g⟩ (fun r => (∀ c : Dev Cert.OprojtRefIdeal.nD,
      r.2.mem ((c.tc : Thread Cert.OprojtRefIdeal.nD Cert.OprojtRefIdeal.τ).loc Cert.OprojtRefIdeal.main_arg0) = m ((c.tc : Thread Cert.OprojtRefIdeal.nD Cert.OprojtRefIdeal.τ).loc Cert.OprojtRefIdeal.main_arg0)
      ∧ r.2.mem ((c.tc : Thread Cert.OprojtRefIdeal.nD Cert.OprojtRefIdeal.τ).loc Cert.OprojtRefIdeal.main_arg1) = m ((c.tc : Thread Cert.OprojtRefIdeal.nD Cert.OprojtRefIdeal.τ).loc Cert.OprojtRefIdeal.main_arg1)
      ∧ r.2.mem ((c.tc : Thread Cert.OprojtRefIdeal.nD Cert.OprojtRefIdeal.τ).loc Cert.OprojtRefIdeal.main_arg2) = m ((c.tc : Thread Cert.OprojtRefIdeal.nD Cert.OprojtRefIdeal.τ).loc Cert.OprojtRefIdeal.main_arg2)
      ∧ r.2.mem ((c.tc : Thread Cert.OprojtRefIdeal.nD Cert.OprojtRefIdeal.τ).loc Cert.OprojtRefIdeal.main_arg3) = m ((c.tc : Thread Cert.OprojtRefIdeal.nD Cert.OprojtRefIdeal.τ).loc Cert.OprojtRefIdeal.main_arg3)
      ∧ r.2.mem ((c.tc : Thread Cert.OprojtRefIdeal.nD Cert.OprojtRefIdeal.τ).loc Cert.OprojtRefIdeal.main_arg4) = m ((c.tc : Thread Cert.OprojtRefIdeal.nD Cert.OprojtRefIdeal.τ).loc Cert.OprojtRefIdeal.main_arg4)
      ∧ r.2.mem ((c.tc : Thread Cert.OprojtRefIdeal.nD Cert.OprojtRefIdeal.τ).loc Cert.OprojtRefIdeal.main_arg5) = m ((c.tc : Thread Cert.OprojtRefIdeal.nD Cert.OprojtRefIdeal.τ).loc Cert.OprojtRefIdeal.main_arg5)
      ∧ r.2.mem ((c.tc : Thread Cert.OprojtRefIdeal.nD Cert.OprojtRefIdeal.τ).loc Cert.OprojtRefIdeal.main_arg6) = m ((c.tc : Thread Cert.OprojtRefIdeal.nD Cert.OprojtRefIdeal.τ).loc Cert.OprojtRefIdeal.main_arg6))
      ∧ r.2.sem = fun _ => 0)

def quiescent_Exp [hExp : Cert.Exp.Facts] [hPre_experts_in_range : Cert.Pre_experts_in_range.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_experts_in_range : Cert.Pre_experts_in_range.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_experts_in_range [hExpRefIdeal : Cert.ExpRefIdeal.Facts] [hPre_experts_in_range : Cert.Pre_experts_in_range.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_experts_in_range m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_Fnp [hFnp : Cert.Fnp.Facts] : Prop :=
  ∀ (m : (ℓ : Loc Cert.Fnp.nD Cert.Fnp.τ Cert.Fnp.sig) → Buf (Elt Bits) ℓ) (g : Dev Cert.Fnp.nD → PrngReg), Pre_Fnp m →
    θ_run (Cert.Fnp.defs (F := Bits)) (onTc (τ := Cert.Fnp.τ) (Cert.Fnp.main (F := Bits))) ⟨m, fun _ => 0, g⟩ (fun r => (∀ c : Dev Cert.Fnp.nD,
      r.2.mem ((c.tc : Thread Cert.Fnp.nD Cert.Fnp.τ).loc Cert.Fnp.main_arg0) = m ((c.tc : Thread Cert.Fnp.nD Cert.Fnp.τ).loc Cert.Fnp.main_arg0)
      ∧ r.2.mem ((c.tc : Thread Cert.Fnp.nD Cert.Fnp.τ).loc Cert.Fnp.main_arg1) = m ((c.tc : Thread Cert.Fnp.nD Cert.Fnp.τ).loc Cert.Fnp.main_arg1))
      ∧ r.2.sem = fun _ => 0)

def quiescent_FnpIdeal [hFnpIdeal : Cert.FnpIdeal.Facts] : Prop :=
  ∀ (m : (ℓ : Loc Cert.FnpIdeal.nD Cert.FnpIdeal.τ Cert.FnpIdeal.sig) → Buf (Elt Ideal) ℓ) (g : Dev Cert.FnpIdeal.nD → PrngReg), Pre_FnpIdeal m →
    θ_run (Cert.FnpIdeal.defs (F := Ideal)) (onTc (τ := Cert.FnpIdeal.τ) (Cert.FnpIdeal.main (F := Ideal))) ⟨m, fun _ => 0, g⟩ (fun r => (∀ c : Dev Cert.FnpIdeal.nD,
      r.2.mem ((c.tc : Thread Cert.FnpIdeal.nD Cert.FnpIdeal.τ).loc Cert.FnpIdeal.main_arg0) = m ((c.tc : Thread Cert.FnpIdeal.nD Cert.FnpIdeal.τ).loc Cert.FnpIdeal.main_arg0)
      ∧ r.2.mem ((c.tc : Thread Cert.FnpIdeal.nD Cert.FnpIdeal.τ).loc Cert.FnpIdeal.main_arg1) = m ((c.tc : Thread Cert.FnpIdeal.nD Cert.FnpIdeal.τ).loc Cert.FnpIdeal.main_arg1))
      ∧ r.2.sem = fun _ => 0)

def quiescent_FnpRefIdeal [hFnpRefIdeal : Cert.FnpRefIdeal.Facts] : Prop :=
  ∀ (m : (ℓ : Loc Cert.FnpRefIdeal.nD Cert.FnpRefIdeal.τ Cert.FnpRefIdeal.sig) → Buf (Elt Ideal) ℓ) (g : Dev Cert.FnpRefIdeal.nD → PrngReg), Pre_FnpRefIdeal m →
    θ_run (Cert.FnpRefIdeal.defs (F := Ideal)) (onTc (τ := Cert.FnpRefIdeal.τ) (Cert.FnpRefIdeal.main (F := Ideal))) ⟨m, fun _ => 0, g⟩ (fun r => (∀ c : Dev Cert.FnpRefIdeal.nD,
      r.2.mem ((c.tc : Thread Cert.FnpRefIdeal.nD Cert.FnpRefIdeal.τ).loc Cert.FnpRefIdeal.main_arg0) = m ((c.tc : Thread Cert.FnpRefIdeal.nD Cert.FnpRefIdeal.τ).loc Cert.FnpRefIdeal.main_arg0)
      ∧ r.2.mem ((c.tc : Thread Cert.FnpRefIdeal.nD Cert.FnpRefIdeal.τ).loc Cert.FnpRefIdeal.main_arg1) = m ((c.tc : Thread Cert.FnpRefIdeal.nD Cert.FnpRefIdeal.τ).loc Cert.FnpRefIdeal.main_arg1))
      ∧ r.2.sem = fun _ => 0)

def quiescent_Fns [hFns : Cert.Fns.Facts] : Prop :=
  ∀ (m : (ℓ : Loc Cert.Fns.nD Cert.Fns.τ Cert.Fns.sig) → Buf (Elt Bits) ℓ) (g : Dev Cert.Fns.nD → PrngReg), Pre_Fns m →
    θ_run (Cert.Fns.defs (F := Bits)) (onTc (τ := Cert.Fns.τ) (Cert.Fns.main (F := Bits))) ⟨m, fun _ => 0, g⟩ (fun r => (∀ c : Dev Cert.Fns.nD,
      r.2.mem ((c.tc : Thread Cert.Fns.nD Cert.Fns.τ).loc Cert.Fns.main_arg0) = m ((c.tc : Thread Cert.Fns.nD Cert.Fns.τ).loc Cert.Fns.main_arg0)
      ∧ r.2.mem ((c.tc : Thread Cert.Fns.nD Cert.Fns.τ).loc Cert.Fns.main_arg1) = m ((c.tc : Thread Cert.Fns.nD Cert.Fns.τ).loc Cert.Fns.main_arg1))
      ∧ r.2.sem = fun _ => 0)

def quiescent_FnsIdeal [hFnsIdeal : Cert.FnsIdeal.Facts] : Prop :=
  ∀ (m : (ℓ : Loc Cert.FnsIdeal.nD Cert.FnsIdeal.τ Cert.FnsIdeal.sig) → Buf (Elt Ideal) ℓ) (g : Dev Cert.FnsIdeal.nD → PrngReg), Pre_FnsIdeal m →
    θ_run (Cert.FnsIdeal.defs (F := Ideal)) (onTc (τ := Cert.FnsIdeal.τ) (Cert.FnsIdeal.main (F := Ideal))) ⟨m, fun _ => 0, g⟩ (fun r => (∀ c : Dev Cert.FnsIdeal.nD,
      r.2.mem ((c.tc : Thread Cert.FnsIdeal.nD Cert.FnsIdeal.τ).loc Cert.FnsIdeal.main_arg0) = m ((c.tc : Thread Cert.FnsIdeal.nD Cert.FnsIdeal.τ).loc Cert.FnsIdeal.main_arg0)
      ∧ r.2.mem ((c.tc : Thread Cert.FnsIdeal.nD Cert.FnsIdeal.τ).loc Cert.FnsIdeal.main_arg1) = m ((c.tc : Thread Cert.FnsIdeal.nD Cert.FnsIdeal.τ).loc Cert.FnsIdeal.main_arg1))
      ∧ r.2.sem = fun _ => 0)

def quiescent_FnsRefIdeal [hFnsRefIdeal : Cert.FnsRefIdeal.Facts] : Prop :=
  ∀ (m : (ℓ : Loc Cert.FnsRefIdeal.nD Cert.FnsRefIdeal.τ Cert.FnsRefIdeal.sig) → Buf (Elt Ideal) ℓ) (g : Dev Cert.FnsRefIdeal.nD → PrngReg), Pre_FnsRefIdeal m →
    θ_run (Cert.FnsRefIdeal.defs (F := Ideal)) (onTc (τ := Cert.FnsRefIdeal.τ) (Cert.FnsRefIdeal.main (F := Ideal))) ⟨m, fun _ => 0, g⟩ (fun r => (∀ c : Dev Cert.FnsRefIdeal.nD,
      r.2.mem ((c.tc : Thread Cert.FnsRefIdeal.nD Cert.FnsRefIdeal.τ).loc Cert.FnsRefIdeal.main_arg0) = m ((c.tc : Thread Cert.FnsRefIdeal.nD Cert.FnsRefIdeal.τ).loc Cert.FnsRefIdeal.main_arg0)
      ∧ r.2.mem ((c.tc : Thread Cert.FnsRefIdeal.nD Cert.FnsRefIdeal.τ).loc Cert.FnsRefIdeal.main_arg1) = m ((c.tc : Thread Cert.FnsRefIdeal.nD Cert.FnsRefIdeal.τ).loc Cert.FnsRefIdeal.main_arg1))
      ∧ r.2.sem = fun _ => 0)

def preserves_Ctx_CtxIdeal : Prop :=
  True

def algebraic_CtxIdeal_CtxRefIdeal_pre_finite [hCtxIdeal : Cert.CtxIdeal.Facts] [hCtxRefIdeal : Cert.CtxRefIdeal.Facts] [hPre_finite : Cert.Pre_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v25) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v66) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Proje_ProjeIdeal : Prop :=
  True

def algebraic_ProjeIdeal_ProjeRefIdeal_pre_finite_gates [hProjeIdeal : Cert.ProjeIdeal.Facts] [hProjeRefIdeal : Cert.ProjeRefIdeal.Facts] [hPre_finite_gates : Cert.Pre_finite_gates.Facts] : Prop :=
  ∀ (m : (ℓ : Loc Cert.ProjeIdeal.nD Cert.ProjeIdeal.τ Cert.ProjeIdeal.sig) → Buf (Elt Ideal) ℓ) (g : Dev Cert.ProjeIdeal.nD → PrngReg)
    (m' : (ℓ : Loc Cert.ProjeRefIdeal.nD Cert.ProjeRefIdeal.τ Cert.ProjeRefIdeal.sig) → Buf (Elt Ideal) ℓ) (g' : Dev Cert.ProjeRefIdeal.nD → PrngReg), Pre_ProjeIdeal_finite_gates m →
    (∀ c : Dev Cert.ProjeIdeal.nD,
      m' ((c.tc : Thread Cert.ProjeRefIdeal.nD Cert.ProjeRefIdeal.τ).loc Cert.ProjeRefIdeal.main_arg0) = m ((c.tc : Thread Cert.ProjeIdeal.nD Cert.ProjeIdeal.τ).loc Cert.ProjeIdeal.main_arg0)
      ∧ m' ((c.tc : Thread Cert.ProjeRefIdeal.nD Cert.ProjeRefIdeal.τ).loc Cert.ProjeRefIdeal.main_arg1) = m ((c.tc : Thread Cert.ProjeIdeal.nD Cert.ProjeIdeal.τ).loc Cert.ProjeIdeal.main_arg1)
      ∧ m' ((c.tc : Thread Cert.ProjeRefIdeal.nD Cert.ProjeRefIdeal.τ).loc Cert.ProjeRefIdeal.main_arg2) = m ((c.tc : Thread Cert.ProjeIdeal.nD Cert.ProjeIdeal.τ).loc Cert.ProjeIdeal.main_arg2)
      ∧ m' ((c.tc : Thread Cert.ProjeRefIdeal.nD Cert.ProjeRefIdeal.τ).loc Cert.ProjeRefIdeal.main_arg3) = m ((c.tc : Thread Cert.ProjeIdeal.nD Cert.ProjeIdeal.τ).loc Cert.ProjeIdeal.main_arg3)
      ∧ m' ((c.tc : Thread Cert.ProjeRefIdeal.nD Cert.ProjeRefIdeal.τ).loc Cert.ProjeRefIdeal.main_arg4) = m ((c.tc : Thread Cert.ProjeIdeal.nD Cert.ProjeIdeal.τ).loc Cert.ProjeIdeal.main_arg4)
      ∧ m' ((c.tc : Thread Cert.ProjeRefIdeal.nD Cert.ProjeRefIdeal.τ).loc Cert.ProjeRefIdeal.main_arg5) = m ((c.tc : Thread Cert.ProjeIdeal.nD Cert.ProjeIdeal.τ).loc Cert.ProjeIdeal.main_arg5)) →
    ∃ (v0 : (c : Dev Cert.ProjeIdeal.nD) → Buf (Elt Ideal) ((c.tc : Thread Cert.ProjeIdeal.nD Cert.ProjeIdeal.τ).loc Cert.ProjeIdeal.main_v13_0)) (v1 : (c : Dev Cert.ProjeIdeal.nD) → Buf (Elt Ideal) ((c.tc : Thread Cert.ProjeIdeal.nD Cert.ProjeIdeal.τ).loc Cert.ProjeIdeal.main_v13_1)),
      θ_run (Cert.ProjeIdeal.defs (F := Ideal)) (onTc (τ := Cert.ProjeIdeal.τ) (Cert.ProjeIdeal.main (F := Ideal))) ⟨m, fun _ => 0, g⟩ (fun r => ∀ c : Dev Cert.ProjeIdeal.nD,
          r.2.mem ((c.tc : Thread Cert.ProjeIdeal.nD Cert.ProjeIdeal.τ).loc Cert.ProjeIdeal.main_v13_0) = v0 c
          ∧ r.2.mem ((c.tc : Thread Cert.ProjeIdeal.nD Cert.ProjeIdeal.τ).loc Cert.ProjeIdeal.main_v13_1) = v1 c
          ∧ r.2.mem ((c.tc : Thread Cert.ProjeIdeal.nD Cert.ProjeIdeal.τ).loc Cert.ProjeIdeal.main_arg0) = m ((c.tc : Thread Cert.ProjeIdeal.nD Cert.ProjeIdeal.τ).loc Cert.ProjeIdeal.main_arg0)
          ∧ r.2.mem ((c.tc : Thread Cert.ProjeIdeal.nD Cert.ProjeIdeal.τ).loc Cert.ProjeIdeal.main_arg1) = m ((c.tc : Thread Cert.ProjeIdeal.nD Cert.ProjeIdeal.τ).loc Cert.ProjeIdeal.main_arg1)
          ∧ r.2.mem ((c.tc : Thread Cert.ProjeIdeal.nD Cert.ProjeIdeal.τ).loc Cert.ProjeIdeal.main_arg2) = m ((c.tc : Thread Cert.ProjeIdeal.nD Cert.ProjeIdeal.τ).loc Cert.ProjeIdeal.main_arg2)
          ∧ r.2.mem ((c.tc : Thread Cert.ProjeIdeal.nD Cert.ProjeIdeal.τ).loc Cert.ProjeIdeal.main_arg3) = m ((c.tc : Thread Cert.ProjeIdeal.nD Cert.ProjeIdeal.τ).loc Cert.ProjeIdeal.main_arg3)
          ∧ r.2.mem ((c.tc : Thread Cert.ProjeIdeal.nD Cert.ProjeIdeal.τ).loc Cert.ProjeIdeal.main_arg4) = m ((c.tc : Thread Cert.ProjeIdeal.nD Cert.ProjeIdeal.τ).loc Cert.ProjeIdeal.main_arg4)
          ∧ r.2.mem ((c.tc : Thread Cert.ProjeIdeal.nD Cert.ProjeIdeal.τ).loc Cert.ProjeIdeal.main_arg5) = m ((c.tc : Thread Cert.ProjeIdeal.nD Cert.ProjeIdeal.τ).loc Cert.ProjeIdeal.main_arg5))
      ∧ θ_run (Cert.ProjeRefIdeal.defs (F := Ideal)) (onTc (τ := Cert.ProjeRefIdeal.τ) (Cert.ProjeRefIdeal.main (F := Ideal))) ⟨m', fun _ => 0, g'⟩ (fun r => ∀ c : Dev Cert.ProjeRefIdeal.nD,
          r.2.mem ((c.tc : Thread Cert.ProjeRefIdeal.nD Cert.ProjeRefIdeal.τ).loc Cert.ProjeRefIdeal.main_v68) = v0 c
          ∧ r.2.mem ((c.tc : Thread Cert.ProjeRefIdeal.nD Cert.ProjeRefIdeal.τ).loc Cert.ProjeRefIdeal.main_v143) = v1 c
          ∧ r.2.mem ((c.tc : Thread Cert.ProjeRefIdeal.nD Cert.ProjeRefIdeal.τ).loc Cert.ProjeRefIdeal.main_arg0) = m' ((c.tc : Thread Cert.ProjeRefIdeal.nD Cert.ProjeRefIdeal.τ).loc Cert.ProjeRefIdeal.main_arg0)
          ∧ r.2.mem ((c.tc : Thread Cert.ProjeRefIdeal.nD Cert.ProjeRefIdeal.τ).loc Cert.ProjeRefIdeal.main_arg1) = m' ((c.tc : Thread Cert.ProjeRefIdeal.nD Cert.ProjeRefIdeal.τ).loc Cert.ProjeRefIdeal.main_arg1)
          ∧ r.2.mem ((c.tc : Thread Cert.ProjeRefIdeal.nD Cert.ProjeRefIdeal.τ).loc Cert.ProjeRefIdeal.main_arg2) = m' ((c.tc : Thread Cert.ProjeRefIdeal.nD Cert.ProjeRefIdeal.τ).loc Cert.ProjeRefIdeal.main_arg2)
          ∧ r.2.mem ((c.tc : Thread Cert.ProjeRefIdeal.nD Cert.ProjeRefIdeal.τ).loc Cert.ProjeRefIdeal.main_arg3) = m' ((c.tc : Thread Cert.ProjeRefIdeal.nD Cert.ProjeRefIdeal.τ).loc Cert.ProjeRefIdeal.main_arg3)
          ∧ r.2.mem ((c.tc : Thread Cert.ProjeRefIdeal.nD Cert.ProjeRefIdeal.τ).loc Cert.ProjeRefIdeal.main_arg4) = m' ((c.tc : Thread Cert.ProjeRefIdeal.nD Cert.ProjeRefIdeal.τ).loc Cert.ProjeRefIdeal.main_arg4)
          ∧ r.2.mem ((c.tc : Thread Cert.ProjeRefIdeal.nD Cert.ProjeRefIdeal.τ).loc Cert.ProjeRefIdeal.main_arg5) = m' ((c.tc : Thread Cert.ProjeRefIdeal.nD Cert.ProjeRefIdeal.τ).loc Cert.ProjeRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v32) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_Oprojt_OprojtIdeal : Prop :=
  True

def algebraic_OprojtIdeal_OprojtRefIdeal [hOprojtIdeal : Cert.OprojtIdeal.Facts] [hOprojtRefIdeal : Cert.OprojtRefIdeal.Facts] : Prop :=
  ∀ (m : (ℓ : Loc Cert.OprojtIdeal.nD Cert.OprojtIdeal.τ Cert.OprojtIdeal.sig) → Buf (Elt Ideal) ℓ) (g : Dev Cert.OprojtIdeal.nD → PrngReg)
    (m' : (ℓ : Loc Cert.OprojtRefIdeal.nD Cert.OprojtRefIdeal.τ Cert.OprojtRefIdeal.sig) → Buf (Elt Ideal) ℓ) (g' : Dev Cert.OprojtRefIdeal.nD → PrngReg), Pre_OprojtIdeal m →
    (∀ c : Dev Cert.OprojtIdeal.nD,
      m' ((c.tc : Thread Cert.OprojtRefIdeal.nD Cert.OprojtRefIdeal.τ).loc Cert.OprojtRefIdeal.main_arg0) = m ((c.tc : Thread Cert.OprojtIdeal.nD Cert.OprojtIdeal.τ).loc Cert.OprojtIdeal.main_arg0)
      ∧ m' ((c.tc : Thread Cert.OprojtRefIdeal.nD Cert.OprojtRefIdeal.τ).loc Cert.OprojtRefIdeal.main_arg1) = m ((c.tc : Thread Cert.OprojtIdeal.nD Cert.OprojtIdeal.τ).loc Cert.OprojtIdeal.main_arg1)
      ∧ m' ((c.tc : Thread Cert.OprojtRefIdeal.nD Cert.OprojtRefIdeal.τ).loc Cert.OprojtRefIdeal.main_arg2) = m ((c.tc : Thread Cert.OprojtIdeal.nD Cert.OprojtIdeal.τ).loc Cert.OprojtIdeal.main_arg2)
      ∧ m' ((c.tc : Thread Cert.OprojtRefIdeal.nD Cert.OprojtRefIdeal.τ).loc Cert.OprojtRefIdeal.main_arg3) = m ((c.tc : Thread Cert.OprojtIdeal.nD Cert.OprojtIdeal.τ).loc Cert.OprojtIdeal.main_arg3)
      ∧ m' ((c.tc : Thread Cert.OprojtRefIdeal.nD Cert.OprojtRefIdeal.τ).loc Cert.OprojtRefIdeal.main_arg4) = m ((c.tc : Thread Cert.OprojtIdeal.nD Cert.OprojtIdeal.τ).loc Cert.OprojtIdeal.main_arg4)
      ∧ m' ((c.tc : Thread Cert.OprojtRefIdeal.nD Cert.OprojtRefIdeal.τ).loc Cert.OprojtRefIdeal.main_arg5) = m ((c.tc : Thread Cert.OprojtIdeal.nD Cert.OprojtIdeal.τ).loc Cert.OprojtIdeal.main_arg5)
      ∧ m' ((c.tc : Thread Cert.OprojtRefIdeal.nD Cert.OprojtRefIdeal.τ).loc Cert.OprojtRefIdeal.main_arg6) = m ((c.tc : Thread Cert.OprojtIdeal.nD Cert.OprojtIdeal.τ).loc Cert.OprojtIdeal.main_arg6)) →
    ∃ (v0 : (c : Dev Cert.OprojtIdeal.nD) → Buf (Elt Ideal) ((c.tc : Thread Cert.OprojtIdeal.nD Cert.OprojtIdeal.τ).loc Cert.OprojtIdeal.main_v1)),
      θ_run (Cert.OprojtIdeal.defs (F := Ideal)) (onTc (τ := Cert.OprojtIdeal.τ) (Cert.OprojtIdeal.main (F := Ideal))) ⟨m, fun _ => 0, g⟩ (fun r => ∀ c : Dev Cert.OprojtIdeal.nD,
          r.2.mem ((c.tc : Thread Cert.OprojtIdeal.nD Cert.OprojtIdeal.τ).loc Cert.OprojtIdeal.main_v1) = v0 c
          ∧ r.2.mem ((c.tc : Thread Cert.OprojtIdeal.nD Cert.OprojtIdeal.τ).loc Cert.OprojtIdeal.main_arg0) = m ((c.tc : Thread Cert.OprojtIdeal.nD Cert.OprojtIdeal.τ).loc Cert.OprojtIdeal.main_arg0)
          ∧ r.2.mem ((c.tc : Thread Cert.OprojtIdeal.nD Cert.OprojtIdeal.τ).loc Cert.OprojtIdeal.main_arg1) = m ((c.tc : Thread Cert.OprojtIdeal.nD Cert.OprojtIdeal.τ).loc Cert.OprojtIdeal.main_arg1)
          ∧ r.2.mem ((c.tc : Thread Cert.OprojtIdeal.nD Cert.OprojtIdeal.τ).loc Cert.OprojtIdeal.main_arg2) = m ((c.tc : Thread Cert.OprojtIdeal.nD Cert.OprojtIdeal.τ).loc Cert.OprojtIdeal.main_arg2)
          ∧ r.2.mem ((c.tc : Thread Cert.OprojtIdeal.nD Cert.OprojtIdeal.τ).loc Cert.OprojtIdeal.main_arg3) = m ((c.tc : Thread Cert.OprojtIdeal.nD Cert.OprojtIdeal.τ).loc Cert.OprojtIdeal.main_arg3)
          ∧ r.2.mem ((c.tc : Thread Cert.OprojtIdeal.nD Cert.OprojtIdeal.τ).loc Cert.OprojtIdeal.main_arg4) = m ((c.tc : Thread Cert.OprojtIdeal.nD Cert.OprojtIdeal.τ).loc Cert.OprojtIdeal.main_arg4)
          ∧ r.2.mem ((c.tc : Thread Cert.OprojtIdeal.nD Cert.OprojtIdeal.τ).loc Cert.OprojtIdeal.main_arg5) = m ((c.tc : Thread Cert.OprojtIdeal.nD Cert.OprojtIdeal.τ).loc Cert.OprojtIdeal.main_arg5)
          ∧ r.2.mem ((c.tc : Thread Cert.OprojtIdeal.nD Cert.OprojtIdeal.τ).loc Cert.OprojtIdeal.main_arg6) = m ((c.tc : Thread Cert.OprojtIdeal.nD Cert.OprojtIdeal.τ).loc Cert.OprojtIdeal.main_arg6))
      ∧ θ_run (Cert.OprojtRefIdeal.defs (F := Ideal)) (onTc (τ := Cert.OprojtRefIdeal.τ) (Cert.OprojtRefIdeal.main (F := Ideal))) ⟨m', fun _ => 0, g'⟩ (fun r => ∀ c : Dev Cert.OprojtRefIdeal.nD,
          r.2.mem ((c.tc : Thread Cert.OprojtRefIdeal.nD Cert.OprojtRefIdeal.τ).loc Cert.OprojtRefIdeal.main_v36) = v0 c
          ∧ r.2.mem ((c.tc : Thread Cert.OprojtRefIdeal.nD Cert.OprojtRefIdeal.τ).loc Cert.OprojtRefIdeal.main_arg0) = m' ((c.tc : Thread Cert.OprojtRefIdeal.nD Cert.OprojtRefIdeal.τ).loc Cert.OprojtRefIdeal.main_arg0)
          ∧ r.2.mem ((c.tc : Thread Cert.OprojtRefIdeal.nD Cert.OprojtRefIdeal.τ).loc Cert.OprojtRefIdeal.main_arg1) = m' ((c.tc : Thread Cert.OprojtRefIdeal.nD Cert.OprojtRefIdeal.τ).loc Cert.OprojtRefIdeal.main_arg1)
          ∧ r.2.mem ((c.tc : Thread Cert.OprojtRefIdeal.nD Cert.OprojtRefIdeal.τ).loc Cert.OprojtRefIdeal.main_arg2) = m' ((c.tc : Thread Cert.OprojtRefIdeal.nD Cert.OprojtRefIdeal.τ).loc Cert.OprojtRefIdeal.main_arg2)
          ∧ r.2.mem ((c.tc : Thread Cert.OprojtRefIdeal.nD Cert.OprojtRefIdeal.τ).loc Cert.OprojtRefIdeal.main_arg3) = m' ((c.tc : Thread Cert.OprojtRefIdeal.nD Cert.OprojtRefIdeal.τ).loc Cert.OprojtRefIdeal.main_arg3)
          ∧ r.2.mem ((c.tc : Thread Cert.OprojtRefIdeal.nD Cert.OprojtRefIdeal.τ).loc Cert.OprojtRefIdeal.main_arg4) = m' ((c.tc : Thread Cert.OprojtRefIdeal.nD Cert.OprojtRefIdeal.τ).loc Cert.OprojtRefIdeal.main_arg4)
          ∧ r.2.mem ((c.tc : Thread Cert.OprojtRefIdeal.nD Cert.OprojtRefIdeal.τ).loc Cert.OprojtRefIdeal.main_arg5) = m' ((c.tc : Thread Cert.OprojtRefIdeal.nD Cert.OprojtRefIdeal.τ).loc Cert.OprojtRefIdeal.main_arg5)
          ∧ r.2.mem ((c.tc : Thread Cert.OprojtRefIdeal.nD Cert.OprojtRefIdeal.τ).loc Cert.OprojtRefIdeal.main_arg6) = m' ((c.tc : Thread Cert.OprojtRefIdeal.nD Cert.OprojtRefIdeal.τ).loc Cert.OprojtRefIdeal.main_arg6))

def preserves_Exp_ExpIdeal : Prop :=
  True

def algebraic_ExpIdeal_ExpRefIdeal [hExpIdeal : Cert.ExpIdeal.Facts] [hExpRefIdeal : Cert.ExpRefIdeal.Facts] [hPre_experts_in_range : Cert.Pre_experts_in_range.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v0)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v0) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v39) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def preserves_Fnp_FnpIdeal : Prop :=
  True

def algebraic_FnpIdeal_FnpRefIdeal [hFnpIdeal : Cert.FnpIdeal.Facts] [hFnpRefIdeal : Cert.FnpRefIdeal.Facts] : Prop :=
  ∀ (m : (ℓ : Loc Cert.FnpIdeal.nD Cert.FnpIdeal.τ Cert.FnpIdeal.sig) → Buf (Elt Ideal) ℓ) (g : Dev Cert.FnpIdeal.nD → PrngReg)
    (m' : (ℓ : Loc Cert.FnpRefIdeal.nD Cert.FnpRefIdeal.τ Cert.FnpRefIdeal.sig) → Buf (Elt Ideal) ℓ) (g' : Dev Cert.FnpRefIdeal.nD → PrngReg), Pre_FnpIdeal m →
    (∀ c : Dev Cert.FnpIdeal.nD,
      m' ((c.tc : Thread Cert.FnpRefIdeal.nD Cert.FnpRefIdeal.τ).loc Cert.FnpRefIdeal.main_arg0) = m ((c.tc : Thread Cert.FnpIdeal.nD Cert.FnpIdeal.τ).loc Cert.FnpIdeal.main_arg0)
      ∧ m' ((c.tc : Thread Cert.FnpRefIdeal.nD Cert.FnpRefIdeal.τ).loc Cert.FnpRefIdeal.main_arg1) = m ((c.tc : Thread Cert.FnpIdeal.nD Cert.FnpIdeal.τ).loc Cert.FnpIdeal.main_arg1)) →
    ∃ (v0 : (c : Dev Cert.FnpIdeal.nD) → Buf (Elt Ideal) ((c.tc : Thread Cert.FnpIdeal.nD Cert.FnpIdeal.τ).loc Cert.FnpIdeal.main_v1)),
      θ_run (Cert.FnpIdeal.defs (F := Ideal)) (onTc (τ := Cert.FnpIdeal.τ) (Cert.FnpIdeal.main (F := Ideal))) ⟨m, fun _ => 0, g⟩ (fun r => ∀ c : Dev Cert.FnpIdeal.nD,
          r.2.mem ((c.tc : Thread Cert.FnpIdeal.nD Cert.FnpIdeal.τ).loc Cert.FnpIdeal.main_v1) = v0 c
          ∧ r.2.mem ((c.tc : Thread Cert.FnpIdeal.nD Cert.FnpIdeal.τ).loc Cert.FnpIdeal.main_arg0) = m ((c.tc : Thread Cert.FnpIdeal.nD Cert.FnpIdeal.τ).loc Cert.FnpIdeal.main_arg0)
          ∧ r.2.mem ((c.tc : Thread Cert.FnpIdeal.nD Cert.FnpIdeal.τ).loc Cert.FnpIdeal.main_arg1) = m ((c.tc : Thread Cert.FnpIdeal.nD Cert.FnpIdeal.τ).loc Cert.FnpIdeal.main_arg1))
      ∧ θ_run (Cert.FnpRefIdeal.defs (F := Ideal)) (onTc (τ := Cert.FnpRefIdeal.τ) (Cert.FnpRefIdeal.main (F := Ideal))) ⟨m', fun _ => 0, g'⟩ (fun r => ∀ c : Dev Cert.FnpRefIdeal.nD,
          r.2.mem ((c.tc : Thread Cert.FnpRefIdeal.nD Cert.FnpRefIdeal.τ).loc Cert.FnpRefIdeal.main_v15) = v0 c
          ∧ r.2.mem ((c.tc : Thread Cert.FnpRefIdeal.nD Cert.FnpRefIdeal.τ).loc Cert.FnpRefIdeal.main_arg0) = m' ((c.tc : Thread Cert.FnpRefIdeal.nD Cert.FnpRefIdeal.τ).loc Cert.FnpRefIdeal.main_arg0)
          ∧ r.2.mem ((c.tc : Thread Cert.FnpRefIdeal.nD Cert.FnpRefIdeal.τ).loc Cert.FnpRefIdeal.main_arg1) = m' ((c.tc : Thread Cert.FnpRefIdeal.nD Cert.FnpRefIdeal.τ).loc Cert.FnpRefIdeal.main_arg1))

def preserves_Fns_FnsIdeal : Prop :=
  True

def algebraic_FnsIdeal_FnsRefIdeal [hFnsIdeal : Cert.FnsIdeal.Facts] [hFnsRefIdeal : Cert.FnsRefIdeal.Facts] : Prop :=
  ∀ (m : (ℓ : Loc Cert.FnsIdeal.nD Cert.FnsIdeal.τ Cert.FnsIdeal.sig) → Buf (Elt Ideal) ℓ) (g : Dev Cert.FnsIdeal.nD → PrngReg)
    (m' : (ℓ : Loc Cert.FnsRefIdeal.nD Cert.FnsRefIdeal.τ Cert.FnsRefIdeal.sig) → Buf (Elt Ideal) ℓ) (g' : Dev Cert.FnsRefIdeal.nD → PrngReg), Pre_FnsIdeal m →
    (∀ c : Dev Cert.FnsIdeal.nD,
      m' ((c.tc : Thread Cert.FnsRefIdeal.nD Cert.FnsRefIdeal.τ).loc Cert.FnsRefIdeal.main_arg0) = m ((c.tc : Thread Cert.FnsIdeal.nD Cert.FnsIdeal.τ).loc Cert.FnsIdeal.main_arg0)
      ∧ m' ((c.tc : Thread Cert.FnsRefIdeal.nD Cert.FnsRefIdeal.τ).loc Cert.FnsRefIdeal.main_arg1) = m ((c.tc : Thread Cert.FnsIdeal.nD Cert.FnsIdeal.τ).loc Cert.FnsIdeal.main_arg1)) →
    ∃ (v0 : (c : Dev Cert.FnsIdeal.nD) → Buf (Elt Ideal) ((c.tc : Thread Cert.FnsIdeal.nD Cert.FnsIdeal.τ).loc Cert.FnsIdeal.main_v1)),
      θ_run (Cert.FnsIdeal.defs (F := Ideal)) (onTc (τ := Cert.FnsIdeal.τ) (Cert.FnsIdeal.main (F := Ideal))) ⟨m, fun _ => 0, g⟩ (fun r => ∀ c : Dev Cert.FnsIdeal.nD,
          r.2.mem ((c.tc : Thread Cert.FnsIdeal.nD Cert.FnsIdeal.τ).loc Cert.FnsIdeal.main_v1) = v0 c
          ∧ r.2.mem ((c.tc : Thread Cert.FnsIdeal.nD Cert.FnsIdeal.τ).loc Cert.FnsIdeal.main_arg0) = m ((c.tc : Thread Cert.FnsIdeal.nD Cert.FnsIdeal.τ).loc Cert.FnsIdeal.main_arg0)
          ∧ r.2.mem ((c.tc : Thread Cert.FnsIdeal.nD Cert.FnsIdeal.τ).loc Cert.FnsIdeal.main_arg1) = m ((c.tc : Thread Cert.FnsIdeal.nD Cert.FnsIdeal.τ).loc Cert.FnsIdeal.main_arg1))
      ∧ θ_run (Cert.FnsRefIdeal.defs (F := Ideal)) (onTc (τ := Cert.FnsRefIdeal.τ) (Cert.FnsRefIdeal.main (F := Ideal))) ⟨m', fun _ => 0, g'⟩ (fun r => ∀ c : Dev Cert.FnsRefIdeal.nD,
          r.2.mem ((c.tc : Thread Cert.FnsRefIdeal.nD Cert.FnsRefIdeal.τ).loc Cert.FnsRefIdeal.main_v15) = v0 c
          ∧ r.2.mem ((c.tc : Thread Cert.FnsRefIdeal.nD Cert.FnsRefIdeal.τ).loc Cert.FnsRefIdeal.main_arg0) = m' ((c.tc : Thread Cert.FnsRefIdeal.nD Cert.FnsRefIdeal.τ).loc Cert.FnsRefIdeal.main_arg0)
          ∧ r.2.mem ((c.tc : Thread Cert.FnsRefIdeal.nD Cert.FnsRefIdeal.τ).loc Cert.FnsRefIdeal.main_arg1) = m' ((c.tc : Thread Cert.FnsRefIdeal.nD Cert.FnsRefIdeal.τ).loc Cert.FnsRefIdeal.main_arg1))

def Claim : Prop :=
  ∃ (hCtx : Cert.Ctx.Facts) (hCtxIdeal : Cert.CtxIdeal.Facts) (hCtxRefIdeal : Cert.CtxRefIdeal.Facts) (hProj : Cert.Proj.Facts) (hProjIdeal : Cert.ProjIdeal.Facts) (hProjRefIdeal : Cert.ProjRefIdeal.Facts) (hProje : Cert.Proje.Facts) (hProjeIdeal : Cert.ProjeIdeal.Facts) (hProjeRefIdeal : Cert.ProjeRefIdeal.Facts) (hOproj : Cert.Oproj.Facts) (hOprojIdeal : Cert.OprojIdeal.Facts) (hOprojRefIdeal : Cert.OprojRefIdeal.Facts) (hOprojt : Cert.Oprojt.Facts) (hOprojtIdeal : Cert.OprojtIdeal.Facts) (hOprojtRefIdeal : Cert.OprojtRefIdeal.Facts) (hExp : Cert.Exp.Facts) (hExpIdeal : Cert.ExpIdeal.Facts) (hExpRefIdeal : Cert.ExpRefIdeal.Facts) (hFnp : Cert.Fnp.Facts) (hFnpIdeal : Cert.FnpIdeal.Facts) (hFnpRefIdeal : Cert.FnpRefIdeal.Facts) (hFns : Cert.Fns.Facts) (hFnsIdeal : Cert.FnsIdeal.Facts) (hFnsRefIdeal : Cert.FnsRefIdeal.Facts) (hPre_finite : Cert.Pre_finite.Facts) (hPre_finite_gates : Cert.Pre_finite_gates.Facts) (hPre_experts_in_range : Cert.Pre_experts_in_range.Facts),
    quiescent_Ctx (hCtx := hCtx)
    ∧ quiescent_CtxIdeal (hCtxIdeal := hCtxIdeal)
    ∧ quiescent_CtxIdeal_pre_finite (hCtxIdeal := hCtxIdeal) (hPre_finite := hPre_finite)
    ∧ quiescent_CtxRefIdeal (hCtxRefIdeal := hCtxRefIdeal)
    ∧ quiescent_CtxRefIdeal_pre_finite (hCtxRefIdeal := hCtxRefIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Proje (hProje := hProje)
    ∧ quiescent_ProjeIdeal (hProjeIdeal := hProjeIdeal)
    ∧ quiescent_ProjeIdeal_pre_finite_gates (hProjeIdeal := hProjeIdeal) (hPre_finite_gates := hPre_finite_gates)
    ∧ quiescent_ProjeRefIdeal (hProjeRefIdeal := hProjeRefIdeal)
    ∧ quiescent_ProjeRefIdeal_pre_finite_gates (hProjeRefIdeal := hProjeRefIdeal) (hPre_finite_gates := hPre_finite_gates)
    ∧ quiescent_Oproj (hOproj := hOproj)
    ∧ quiescent_OprojIdeal (hOprojIdeal := hOprojIdeal)
    ∧ quiescent_OprojRefIdeal (hOprojRefIdeal := hOprojRefIdeal)
    ∧ quiescent_Oprojt (hOprojt := hOprojt)
    ∧ quiescent_OprojtIdeal (hOprojtIdeal := hOprojtIdeal)
    ∧ quiescent_OprojtRefIdeal (hOprojtRefIdeal := hOprojtRefIdeal)
    ∧ quiescent_Exp (hExp := hExp) (hPre_experts_in_range := hPre_experts_in_range)
    ∧ quiescent_ExpIdeal (hExpIdeal := hExpIdeal) (hPre_experts_in_range := hPre_experts_in_range)
    ∧ quiescent_ExpRefIdeal (hExpRefIdeal := hExpRefIdeal)
    ∧ quiescent_ExpRefIdeal_pre_experts_in_range (hExpRefIdeal := hExpRefIdeal) (hPre_experts_in_range := hPre_experts_in_range)
    ∧ quiescent_Fnp (hFnp := hFnp)
    ∧ quiescent_FnpIdeal (hFnpIdeal := hFnpIdeal)
    ∧ quiescent_FnpRefIdeal (hFnpRefIdeal := hFnpRefIdeal)
    ∧ quiescent_Fns (hFns := hFns)
    ∧ quiescent_FnsIdeal (hFnsIdeal := hFnsIdeal)
    ∧ quiescent_FnsRefIdeal (hFnsRefIdeal := hFnsRefIdeal)
    ∧ preserves_Ctx_CtxIdeal
    ∧ algebraic_CtxIdeal_CtxRefIdeal_pre_finite (hCtxIdeal := hCtxIdeal) (hCtxRefIdeal := hCtxRefIdeal) (hPre_finite := hPre_finite)
    ∧ preserves_Proj_ProjIdeal
    ∧ algebraic_ProjIdeal_ProjRefIdeal (hProjIdeal := hProjIdeal) (hProjRefIdeal := hProjRefIdeal)
    ∧ preserves_Proje_ProjeIdeal
    ∧ algebraic_ProjeIdeal_ProjeRefIdeal_pre_finite_gates (hProjeIdeal := hProjeIdeal) (hProjeRefIdeal := hProjeRefIdeal) (hPre_finite_gates := hPre_finite_gates)
    ∧ preserves_Oproj_OprojIdeal
    ∧ algebraic_OprojIdeal_OprojRefIdeal (hOprojIdeal := hOprojIdeal) (hOprojRefIdeal := hOprojRefIdeal)
    ∧ preserves_Oprojt_OprojtIdeal
    ∧ algebraic_OprojtIdeal_OprojtRefIdeal (hOprojtIdeal := hOprojtIdeal) (hOprojtRefIdeal := hOprojtRefIdeal)
    ∧ preserves_Exp_ExpIdeal
    ∧ algebraic_ExpIdeal_ExpRefIdeal (hExpIdeal := hExpIdeal) (hExpRefIdeal := hExpRefIdeal) (hPre_experts_in_range := hPre_experts_in_range)
    ∧ preserves_Fnp_FnpIdeal
    ∧ algebraic_FnpIdeal_FnpRefIdeal (hFnpIdeal := hFnpIdeal) (hFnpRefIdeal := hFnpRefIdeal)
    ∧ preserves_Fns_FnsIdeal
    ∧ algebraic_FnsIdeal_FnsRefIdeal (hFnsIdeal := hFnsIdeal) (hFnsRefIdeal := hFnsRefIdeal)
-- ==== Pre_experts_in_range.lean ====
abbrev S160 : Shape := ⟨1, ![160]⟩
abbrev S1 : Shape := ⟨1, ![1]⟩
abbrev S655360x128 : Shape := ⟨2, ![655360, 128]⟩
abbrev S4x32x2048x512 : Shape := ⟨4, ![4, 32, 2048, 512]⟩
abbrev S4x32x512x2048 : Shape := ⟨4, ![4, 32, 512, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S160 32) (main_arg1 : IVec S1 32) (main_arg2 : FVec F S655360x128 .f32) (main_arg3 : FVec F S4x32x2048x512 .f32) (main_arg4 : FVec F S4x32x2048x512 .f32) (main_arg5 : FVec F S4x32x512x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Pre_finite.lean ====
abbrev S16384x6144 : Shape := ⟨2, ![16384, 6144]⟩
abbrev S_ : Shape := ⟨0, ![]⟩

class Facts : Prop where
  bcast_S_S16384x6144 : S_.BroadcastsInDim S16384x6144 (![] : Fin 0 → Fin S16384x6144.rank)
  reducesTo_S16384x6144_S_d0_1 : S16384x6144.ReducesTo [0, 1] S_
  h_S_ : 0 < S_.numel

variable [Facts]

def fn {F : FTy → Type} [FloatOps F] (main_arg0 : FVec F S16384x6144 .f32) : IVec S_ 1 :=
  let main_v0 : FVec F S16384x6144 .f32 := Host.absf main_arg0
  let main_cst : FVec F S_ .f32 := constant S_ .f32 0x7F800000#32
  let main_v1 : FVec F S16384x6144 .f32 := broadcastInDim S16384x6144 ![] bcast_S_S16384x6144 main_cst
  let main_v2 : IVec S16384x6144 1 := cmpf .olt main_v0 main_v1
  let main_c : IVec S_ 1 := constantI S_ 1 1#1
  let main_v3 : IVec S_ 1 := (fun x v => Host.reduce IntOp.andi x v reducesTo_S16384x6144_S_d0_1 h_S_) main_v2 main_c
  main_v3
-- ==== Pre_finite_gates.lean ====
abbrev S16384x2048 : Shape := ⟨2, ![16384, 2048]⟩
abbrev S4x2x2048 : Shape := ⟨3, ![4, 2, 2048]⟩
abbrev S4x8x6x2048 : Shape := ⟨4, ![4, 8, 6, 2048]⟩
abbrev S2x2048x8224 : Shape := ⟨3, ![2, 2048, 8224]⟩
abbrev S2x2x8 : Shape := ⟨3, ![2, 2, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x2x2048 : S_.BroadcastsInDim S4x2x2048 (![] : Fin 0 → Fin S4x2x2048.rank)
  reducesTo_S4x2x2048_S_d0_1_2 : S4x2x2048.ReducesTo [0, 1, 2] S_
  bcast_S_S4x8x6x2048 : S_.BroadcastsInDim S4x8x6x2048 (![] : Fin 0 → Fin S4x8x6x2048.rank)
  reducesTo_S4x8x6x2048_S_d0_1_2_3 : S4x8x6x2048.ReducesTo [0, 1, 2, 3] S_
  bcast_S_S2x2048x8224 : S_.BroadcastsInDim S2x2048x8224 (![] : Fin 0 → Fin S2x2048x8224.rank)
  reducesTo_S2x2048x8224_S_d0_1_2 : S2x2048x8224.ReducesTo [0, 1, 2] S_
  bcast_S_S2x2x8 : S_.BroadcastsInDim S2x2x8 (![] : Fin 0 → Fin S2x2x8.rank)
  reducesTo_S2x2x8_S_d0_1_2 : S2x2x8.ReducesTo [0, 1, 2] S_

variable [Facts]

def fn_part1 {F : FTy → Type} [FloatOps F] (main_arg4 : FVec F S2x2x8 .f32) (main_arg5 : FVec F S2x2x8 .f32) (main_v13 : IVec S_ 1) (main_v16 : IVec S2x2048x8224 1) : IVec S_ 1 :=
  let main_c_5 : IVec S_ 1 := constantI S_ 1 1#1
  let main_v17 : IVec S_ 1 := (fun x v => Host.reduce IntOp.andi x v reducesTo_S2x2048x8224_S_d0_1_2 h_S_) main_v16 main_c_5
  let main_v18 : IVec S_ 1 := andi main_v13 main_v17
  let main_v19 : FVec F S2x2x8 .f32 := Host.absf main_arg4
  let main_cst_6 : FVec F S_ .f32 := constant S_ .f32 0x7F800000#32
  let main_v20 : FVec F S2x2x8 .f32 := broadcastInDim S2x2x8 ![] bcast_S_S2x2x8 main_cst_6
  let main_v21 : IVec S2x2x8 1 := cmpf .olt main_v19 main_v20
  let main_c_7 : IVec S_ 1 := constantI S_ 1 1#1
  let main_v22 : IVec S_ 1 := (fun x v => Host.reduce IntOp.andi x v reducesTo_S2x2x8_S_d0_1_2 h_S_) main_v21 main_c_7
  let main_v23 : IVec S_ 1 := andi main_v18 main_v22
  let main_v24 : FVec F S2x2x8 .f32 := Host.absf main_arg5
  let main_cst_8 : FVec F S_ .f32 := constant S_ .f32 0x7F800000#32
  let main_v25 : FVec F S2x2x8 .f32 := broadcastInDim S2x2x8 ![] bcast_S_S2x2x8 main_cst_8
  let main_v26 : IVec S2x2x8 1 := cmpf .olt main_v24 main_v25
  let main_c_9 : IVec S_ 1 := constantI S_ 1 1#1
  let main_v27 : IVec S_ 1 := (fun x v => Host.reduce IntOp.andi x v reducesTo_S2x2x8_S_d0_1_2 h_S_) main_v26 main_c_9
  let main_v28 : IVec S_ 1 := andi main_v23 main_v27
  main_v28

def fn {F : FTy → Type} [FloatOps F] (main_arg0 : FVec F S16384x2048 .f32) (main_arg1 : FVec F S4x2x2048 .f32) (main_arg2 : FVec F S4x8x6x2048 .f32) (main_arg3 : FVec F S2x2048x8224 .f32) (main_arg4 : FVec F S2x2x8 .f32) (main_arg5 : FVec F S2x2x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4x2x2048 .f32 := Host.absf main_arg1
  let main_cst_0 : FVec F S_ .f32 := constant S_ .f32 0x7F800000#32
  let main_v5 : FVec F S4x2x2048 .f32 := broadcastInDim S4x2x2048 ![] bcast_S_S4x2x2048 main_cst_0
  let main_v6 : IVec S4x2x2048 1 := cmpf .olt main_v4 main_v5
  let main_c_1 : IVec S_ 1 := constantI S_ 1 1#1
  let main_v7 : IVec S_ 1 := (fun x v => Host.reduce IntOp.andi x v reducesTo_S4x2x2048_S_d0_1_2 h_S_) main_v6 main_c_1
  let main_v8 : IVec S_ 1 := andi main_v3 main_v7
  let main_v9 : FVec F S4x8x6x2048 .f32 := Host.absf main_arg2
  let main_cst_2 : FVec F S_ .f32 := constant S_ .f32 0x7F800000#32
  let main_v10 : FVec F S4x8x6x2048 .f32 := broadcastInDim S4x8x6x2048 ![] bcast_S_S4x8x6x2048 main_cst_2
  let main_v11 : IVec S4x8x6x2048 1 := cmpf .olt main_v9 main_v10
  let main_c_3 : IVec S_ 1 := constantI S_ 1 1#1
  let main_v12 : IVec S_ 1 := (fun x v => Host.reduce IntOp.andi x v reducesTo_S4x8x6x2048_S_d0_1_2_3 h_S_) main_v11 main_c_3
  let main_v13 : IVec S_ 1 := andi main_v8 main_v12
  let main_v14 : FVec F S2x2048x8224 .f32 := Host.absf main_arg3
  let main_cst_4 : FVec F S_ .f32 := constant S_ .f32 0x7F800000#32
  let main_v15 : FVec F S2x2048x8224 .f32 := broadcastInDim S2x2048x8224 ![] bcast_S_S2x2048x8224 main_cst_4
  let main_v16 : IVec S2x2048x8224 1 := cmpf .olt main_v14 main_v15
  fn_part1 (F := F) main_arg4 main_arg5 main_v13 main_v16
-- ==== Ctx.lean ====
abbrev S16384x6144 : Shape := ⟨2, ![16384, 6144]⟩
abbrev S8192x2048 : Shape := ⟨2, ![8192, 2048]⟩
abbrev S256x2048 : Shape := ⟨2, ![256, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x6144, .f32⟩
  | .hbm, ⟨1, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxRefIdeal.lean ====
abbrev S16384x6144 : Shape := ⟨2, ![16384, 6144]⟩
abbrev S8192x6144 : Shape := ⟨2, ![8192, 6144]⟩
abbrev S32x256x6144 : Shape := ⟨3, ![32, 256, 6144]⟩
abbrev S32x256x2048 : Shape := ⟨3, ![32, 256, 2048]⟩
abbrev S32x256x16x128 : Shape := ⟨4, ![32, 256, 16, 128]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x128x256 : Shape := ⟨4, ![32, 16, 128, 256]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S8192x6144, .f32⟩
  | .hbm, ⟨2, _⟩ => ⟨S32x256x6144, .f32⟩
  | .hbm, ⟨3, _⟩ => ⟨S32x256x2048, .f32⟩
  | .hbm, ⟨4, _⟩ => ⟨S32x256x16x128, .f32⟩
  | .hbm, ⟨5, _⟩ => ⟨S32x256x2048, .f32⟩
  | .hbm, ⟨6, _⟩ => ⟨S32x256x16x128, .f32⟩
  | .hbm, ⟨7, _⟩ => ⟨S32x256x2048, .f32⟩
  | .hbm, ⟨8, _⟩ => ⟨S32x256x16x128, .f32⟩
  | .hbm, ⟨9, _⟩ => ⟨S32x16x256x256, .f32⟩
  | .hbm, ⟨10, _⟩ => ⟨S_, .f32⟩
  | .hbm, ⟨11, _⟩ => ⟨S32x16x256x256, .f32⟩
  | .hbm, ⟨12, _⟩ => ⟨S32x16x256x256, .f32⟩
  | .hbm, ⟨13, _⟩ => ⟨S_, .f32⟩
  | .hbm, ⟨14, _⟩ => ⟨S32x16x256, .f32⟩
  | .hbm, ⟨15, _⟩ => ⟨S_, .f32⟩
  | .hbm, ⟨16, _⟩ => ⟨S32x16x256, .f32⟩
  | .hbm, ⟨17, _⟩ => ⟨S32x16x256, .f32⟩
  | .hbm, ⟨18, _⟩ => ⟨S32x16x256x1, .f32⟩
  | .hbm, ⟨19, _⟩ => ⟨S32x16x256x256, .f32⟩
  | .hbm, ⟨20, _⟩ => ⟨S32x16x256x256, .f32⟩
  | .hbm, ⟨21, _⟩ => ⟨S32x16x256x256, .f32⟩
  | .hbm, ⟨22, _⟩ => ⟨S_, .f32⟩
  | .hbm, ⟨23, _⟩ => ⟨S32x16x256, .f32⟩
  | .hbm, ⟨24, _⟩ => ⟨S32x16x256x1, .f32⟩
  | .hbm, ⟨25, _⟩ => ⟨S32x16x256x256, .f32⟩
  | .hbm, ⟨26, _⟩ => ⟨S32x16x256x256, .f32⟩
  | .hbm, ⟨27, _⟩ => ⟨S32x16x128x256, .f32⟩
  | .hbm, ⟨28, _⟩ => ⟨S32x256x16x128, .f32⟩
  | .hbm, ⟨29, _⟩ => ⟨S8192x2048, .f32⟩
  | .hbm, ⟨30, _⟩ => ⟨S8192x2048, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proj.lean ====
abbrev S16384x2048 : Shape := ⟨2, ![16384, 2048]⟩
abbrev S4x2x2048 : Shape := ⟨3, ![4, 2, 2048]⟩
abbrev S4x8x6x2048 : Shape := ⟨4, ![4, 8, 6, 2048]⟩
abbrev S2x2048x6144 : Shape := ⟨3, ![2, 2048, 6144]⟩
abbrev S8x1x2048 : Shape := ⟨3, ![8, 1, 2048]⟩
abbrev S16384x6144 : Shape := ⟨2, ![16384, 6144]⟩
abbrev S1024x2048 : Shape := ⟨2, ![1024, 2048]⟩
abbrev S1x1x2048 : Shape := ⟨3, ![1, 1, 2048]⟩
abbrev S1x1x6x2048 : Shape := ⟨4, ![1, 1, 6, 2048]⟩
abbrev S1x2048x1024 : Shape := ⟨3, ![1, 2048, 1024]⟩
abbrev S1024x1024 : Shape := ⟨2, ![1024, 1024]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1x1x1x2048 : Shape := ⟨4, ![1, 1, 1, 2048]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4x2x2048, .f32⟩
  | .hbm, ⟨2, _⟩ => ⟨S4x8x6x2048, .f32⟩
  | .hbm, ⟨3, _⟩ => ⟨S2x2048x6144, .f32⟩
  | .hbm, ⟨4, _⟩ => ⟨S8x1x2048, .f32⟩
  | .hbm, ⟨5, _⟩ => ⟨S2x2048x6144, .bf16⟩
  | .hbm, ⟨6, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x6x2048, .f32⟩
  | .local _ .vmem, ⟨4, _⟩ => ⟨S1x1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![c1_i32_7.toNat, v20.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S16384x2048 : Shape := ⟨2, ![16384, 2048]⟩
abbrev S4x2x2048 : Shape := ⟨3, ![4, 2, 2048]⟩
abbrev S4x8x6x2048 : Shape := ⟨4, ![4, 8, 6, 2048]⟩
abbrev S2x2048x6144 : Shape := ⟨3, ![2, 2048, 6144]⟩
abbrev S1x1x2048 : Shape := ⟨3, ![1, 1, 2048]⟩
abbrev S2048 : Shape := ⟨1, ![2048]⟩
abbrev S1x8x6x2048 : Shape := ⟨4, ![1, 8, 6, 2048]⟩
abbrev S8x6x2048 : Shape := ⟨3, ![8, 6, 2048]⟩
abbrev S8192x2048 : Shape := ⟨2, ![8192, 2048]⟩
abbrev S32x256x2048 : Shape := ⟨3, ![32, 256, 2048]⟩
abbrev S4x2048x2048 : Shape := ⟨3, ![4, 2048, 2048]⟩
abbrev S1x6x2048 : Shape := ⟨3, ![1, 6, 2048]⟩
abbrev S1x6x1x2048 : Shape := ⟨4, ![1, 6, 1, 2048]⟩
abbrev S4x6x2048 : Shape := ⟨3, ![4, 6, 2048]⟩
abbrev S4x6x1x2048 : Shape := ⟨4, ![4, 6, 1, 2048]⟩
abbrev S_ : Shape := ⟨0, ![]⟩
abbrev S32x256 : Shape := ⟨2, ![32, 256]⟩
abbrev S32x256x1 : Shape := ⟨3, ![32, 256, 1]⟩
abbrev S1x1x1x2048 : Shape := ⟨4, ![1, 1, 1, 2048]⟩
abbrev S4x2048 : Shape := ⟨2, ![4, 2048]⟩
abbrev S4x2048x1 : Shape := ⟨3, ![4, 2048, 1]⟩
abbrev S4x1x1x2048 : Shape := ⟨4, ![4, 1, 1, 2048]⟩
abbrev S4x1x2048 : Shape := ⟨3, ![4, 1, 2048]⟩
abbrev S1x2048x6144 : Shape := ⟨3, ![1, 2048, 6144]⟩
abbrev S2048x6144 : Shape := ⟨2, ![2048, 6144]⟩
abbrev S32x256x6144 : Shape := ⟨3, ![32, 256, 6144]⟩
abbrev S8192x6144 : Shape := ⟨2, ![8192, 6144]⟩
abbrev S4x2048x6144 : Shape := ⟨3, ![4, 2048, 6144]⟩
abbrev S16384x6144 : Shape := ⟨2, ![16384, 6144]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2x2048, .f32⟩
  | .hbm, ⟨2, _⟩ => ⟨S4x8x6x2048, .f32⟩
  | .hbm, ⟨3, _⟩ => ⟨S2x2048x6144, .f32⟩
  | .hbm, ⟨4, _⟩ => ⟨S1x1x2048, .f32⟩
  | .hbm, ⟨5, _⟩ => ⟨S2048, .f32⟩
  | .hbm, ⟨6, _⟩ => ⟨S1x8x6x2048, .f32⟩
  | .hbm, ⟨7, _⟩ => ⟨S8x6x2048, .f32⟩
  | .hbm, ⟨8, _⟩ => ⟨S8192x2048, .f32⟩
  | .hbm, ⟨9, _⟩ => ⟨S32x256x2048, .f32⟩
  | .hbm, ⟨10, _⟩ => ⟨S8192x2048, .f32⟩
  | .hbm, ⟨11, _⟩ => ⟨S4x2048x2048, .f32⟩
  | .hbm, ⟨12, _⟩ => ⟨S1x6x2048, .f32⟩
  | .hbm, ⟨13, _⟩ => ⟨S1x6x1x2048, .f32⟩
  | .hbm, ⟨14, _⟩ => ⟨S4x6x2048, .f32⟩
  | .hbm, ⟨15, _⟩ => ⟨S4x6x1x2048, .f32⟩
  | .hbm, ⟨16, _⟩ => ⟨S32x256x2048, .f32⟩
  | .hbm, ⟨17, _⟩ => ⟨S_, .f32⟩
  | .hbm, ⟨18, _⟩ => ⟨S32x256, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1, .f32⟩
  | .hbm, ⟨27, _⟩ => ⟨S32x256x2048, .f32⟩
  | .hbm, ⟨28, _⟩ => ⟨S32x256x2048, .f32⟩
  | .hbm, ⟨29, _⟩ => ⟨S1x1x2048, .f32⟩
  | .hbm, ⟨30, _⟩ => ⟨S32x256x2048, .f32⟩
  | .hbm, ⟨31, _⟩ => ⟨S32x256x2048, .f32⟩
  | .hbm, ⟨32, _⟩ => ⟨S1x1x1x2048, .f32⟩
  | .hbm, ⟨33, _⟩ => ⟨S1x1x2048, .f32⟩
  | .hbm, ⟨34, _⟩ => ⟨S_, .f32⟩
  | .hbm, ⟨35, _⟩ => ⟨S1x1x2048, .f32⟩
  | .hbm, ⟨36, _⟩ => ⟨S1x1x2048, .f32⟩
  | .hbm, ⟨37, _⟩ => ⟨S32x256x2048, .f32⟩
  | .hbm, ⟨38, _⟩ => ⟨S32x256x2048, .f32⟩
  | .hbm, ⟨39, _⟩ => ⟨S1x1x1x2048, .f32⟩
  | .hbm, ⟨40, _⟩ => ⟨S1x1x2048, .f32⟩
  | .hbm, ⟨41, _⟩ => ⟨S32x256x2048, .f32⟩
  | .hbm, ⟨42, _⟩ => ⟨S32x256x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x1, .f32⟩
  | .hbm, ⟨54, _⟩ => ⟨S4x2048x2048, .f32⟩
  | .hbm, ⟨55, _⟩ => ⟨S4x2048x2048, .f32⟩
  | .hbm, ⟨56, _⟩ => ⟨S1x1x2048, .f32⟩
  | .hbm, ⟨57, _⟩ => ⟨S4x2048x2048, .f32⟩
  | .hbm, ⟨58, _⟩ => ⟨S4x2048x2048, .f32⟩
  | .hbm, ⟨59, _⟩ => ⟨S4x1x1x2048, .f32⟩
  | .hbm, ⟨60, _⟩ => ⟨S4x1x2048, .f32⟩
  | .hbm, ⟨61, _⟩ => ⟨S_, .f32⟩
  | .hbm, ⟨62, _⟩ => ⟨S4x1x2048, .f32⟩
  | .hbm, ⟨63, _⟩ => ⟨S4x1x2048, .f32⟩
  | .hbm, ⟨64, _⟩ => ⟨S4x2048x2048, .f32⟩
  | .hbm, ⟨65, _⟩ => ⟨S4x2048x2048, .f32⟩
  | .hbm, ⟨66, _⟩ => ⟨S4x1x1x2048, .f32⟩
  | .hbm, ⟨67, _⟩ => ⟨S4x1x2048, .f32⟩
  | .hbm, ⟨68, _⟩ => ⟨S4x2048x2048, .f32⟩
  | .hbm, ⟨69, _⟩ => ⟨S4x2048x2048, .f32⟩
  | .hbm, ⟨70, _⟩ => ⟨S1x2048x6144, .f32⟩
  | .hbm, ⟨71, _⟩ => ⟨S2048x6144, .f32⟩
  | .hbm, ⟨72, _⟩ => ⟨S32x256x6144, .f32⟩
  | .hbm, ⟨73, _⟩ => ⟨S8192x6144, .f32⟩
  | .hbm, ⟨74, _⟩ => ⟨S1x2048x6144, .f32⟩
  | .hbm, ⟨75, _⟩ => ⟨S2048x6144, .f32⟩
  | .hbm, ⟨76, _⟩ => ⟨S4x2048x6144, .f32⟩
  | .hbm, ⟨77, _⟩ => ⟨S8192x6144, .f32⟩
  | .hbm, ⟨78, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== Proje.lean ====
abbrev S16384x2048 : Shape := ⟨2, ![16384, 2048]⟩
abbrev S4x2x2048 : Shape := ⟨3, ![4, 2, 2048]⟩
abbrev S4x8x6x2048 : Shape := ⟨4, ![4, 8, 6, 2048]⟩
abbrev S2x2048x8224 : Shape := ⟨3, ![2, 2048, 8224]⟩
abbrev S2x2x8 : Shape := ⟨3, ![2, 2, 8]⟩
abbrev S2x2048x8192 : Shape := ⟨3, ![2, 2048, 8192]⟩
abbrev S2x2048x32 : Shape := ⟨3, ![2, 2048, 32]⟩
abbrev S_ : Shape := ⟨0, ![]⟩
abbrev S2x2048x128 : Shape := ⟨3, ![2, 2048, 128]⟩
abbrev S2x16 : Shape := ⟨2, ![2, 16]⟩
abbrev S2x128 : Shape := ⟨2, ![2, 128]⟩
abbrev S2x1x128 : Shape := ⟨3, ![2, 1, 128]⟩
abbrev S2x2x128 : Shape := ⟨3, ![2, 2, 128]⟩
abbrev S8x1x2048 : Shape := ⟨3, ![8, 1, 2048]⟩
abbrev S16384x8192 : Shape := ⟨2, ![16384, 8192]⟩
abbrev S16384x128 : Shape := ⟨2, ![16384, 128]⟩
abbrev S1024x2048 : Shape := ⟨2, ![1024, 2048]⟩
abbrev S1x1x2048 : Shape := ⟨3, ![1, 1, 2048]⟩
abbrev S1x1x6x2048 : Shape := ⟨4, ![1, 1, 6, 2048]⟩
abbrev S1x2048x1024 : Shape := ⟨3, ![1, 2048, 1024]⟩
abbrev S1x2048x128 : Shape := ⟨3, ![1, 2048, 128]⟩
abbrev S1x2x128 : Shape := ⟨3, ![1, 2, 128]⟩
abbrev S1024x1024 : Shape := ⟨2, ![1024, 1024]⟩
abbrev S1024x128 : Shape := ⟨2, ![1024, 128]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S1x1x1x2048 : Shape := ⟨4, ![1, 1, 1, 2048]⟩
abbrev S2048x128 : Shape := ⟨2, ![2048, 128]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S2048x1024 : Shape := ⟨2, ![2048, 1024]⟩

abbrev nBuf : Space → Nat
  | .hbm => 27
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x2x2048, .f32⟩
  | .hbm, ⟨2, _⟩ => ⟨S4x8x6x2048, .f32⟩
  | .hbm, ⟨3, _⟩ => ⟨S2x2048x8224, .f32⟩
  | .hbm, ⟨4, _⟩ => ⟨S2x2x8, .f32⟩
  | .hbm, ⟨5, _⟩ => ⟨S2x2x8, .f32⟩
  | .hbm, ⟨6, _⟩ => ⟨S2x2048x8192, .f32⟩
  | .hbm, ⟨7, _⟩ => ⟨S2x2048x8192, .bf16⟩
  | .hbm, ⟨8, _⟩ => ⟨S2x2048x32, .f32⟩
  | .hbm, ⟨9, _⟩ => ⟨S_, .i32⟩
  | .hbm, ⟨10, _⟩ => ⟨S_, .f32⟩
  | .hbm, ⟨11, _⟩ => ⟨S2x2048x128, .f32⟩
  | .hbm, ⟨12, _⟩ => ⟨S2x2048x128, .bf16⟩
  | .hbm, ⟨13, _⟩ => ⟨S2x16, .f32⟩
  | .hbm, ⟨14, _⟩ => ⟨S_, .i32⟩
  | .hbm, ⟨15, _⟩ => ⟨S_, .f32⟩
  | .hbm, ⟨16, _⟩ => ⟨S2x128, .f32⟩
  | .hbm, ⟨17, _⟩ => ⟨S2x16, .f32⟩
  | .hbm, ⟨18, _⟩ => ⟨S_, .i32⟩
  | .hbm, ⟨19, _⟩ => ⟨S_, .f32⟩
  | .hbm, ⟨20, _⟩ => ⟨S2x128, .f32⟩
  | .hbm, ⟨21, _⟩ => ⟨S2x1x128, .f32⟩
  | .hbm, ⟨22, _⟩ => ⟨S2x1x128, .f32⟩
  | .hbm, ⟨23, _⟩ => ⟨S2x2x128, .f32⟩
  | .hbm, ⟨24, _⟩ => ⟨S8x1x2048, .f32⟩
  | .hbm, ⟨25, _⟩ => ⟨S16384x8192, .f32⟩
  | .hbm, ⟨26, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x6x2048, .f32⟩
  | .local _ .vmem, ⟨4, _⟩ => ⟨S1x1x6x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x128, .bf16⟩
  | .local _ .vmem, ⟨8, _⟩ => ⟨S1x2x128, .f32⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![c0_i32_7.toNat, v20.toNat, c0_i32_8.toNat, c0_i32_9.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ProjeRefIdeal.lean ====
abbrev S16384x2048 : Shape := ⟨2, ![16384, 2048]⟩
abbrev S4x2x2048 : Shape := ⟨3, ![4, 2, 2048]⟩
abbrev S4x8x6x2048 : Shape := ⟨4, ![4, 8, 6, 2048]⟩
abbrev S2x2048x8224 : Shape := ⟨3, ![2, 2048, 8224]⟩
abbrev S2x2x8 : Shape := ⟨3, ![2, 2, 8]⟩
abbrev S1x1x2048 : Shape := ⟨3, ![1, 1, 2048]⟩
abbrev S2048 : Shape := ⟨1, ![2048]⟩
abbrev S1x8x6x2048 : Shape := ⟨4, ![1, 8, 6, 2048]⟩
abbrev S8x6x2048 : Shape := ⟨3, ![8, 6, 2048]⟩
abbrev S8192x2048 : Shape := ⟨2, ![8192, 2048]⟩
abbrev S32x256x2048 : Shape := ⟨3, ![32, 256, 2048]⟩
abbrev S4x2048x2048 : Shape := ⟨3, ![4, 2048, 2048]⟩
abbrev S1x6x2048 : Shape := ⟨3, ![1, 6, 2048]⟩
abbrev S1x6x1x2048 : Shape := ⟨4, ![1, 6, 1, 2048]⟩
abbrev S4x6x2048 : Shape := ⟨3, ![4, 6, 2048]⟩
abbrev S4x6x1x2048 : Shape := ⟨4, ![4, 6, 1, 2048]⟩
abbrev S_ : Shape := ⟨0, ![]⟩
abbrev S32x256 : Shape := ⟨2, ![32, 256]⟩
abbrev S32x256x1 : Shape := ⟨3, ![32, 256, 1]⟩
abbrev S1x1x1x2048 : Shape := ⟨4, ![1, 1, 1, 2048]⟩
abbrev S4x2048 : Shape := ⟨2, ![4, 2048]⟩
abbrev S4x2048x1 : Shape := ⟨3, ![4, 2048, 1]⟩
abbrev S4x1x1x2048 : Shape := ⟨4, ![4, 1, 1, 2048]⟩
abbrev S4x1x2048 : Shape := ⟨3, ![4, 1, 2048]⟩
abbrev S1x2048x8224 : Shape := ⟨3, ![1, 2048, 8224]⟩
abbrev S2048x8224 : Shape := ⟨2, ![2048, 8224]⟩
abbrev S32x256x8224 : Shape := ⟨3, ![32, 256, 8224]⟩
abbrev S4x2048x8224 : Shape := ⟨3, ![4, 2048, 8224]⟩
abbrev S32x256x8192 : Shape := ⟨3, ![32, 256, 8192]⟩
abbrev S8192x8192 : Shape := ⟨2, ![8192, 8192]⟩
abbrev S4x2048x8192 : Shape := ⟨3, ![4, 2048, 8192]⟩
abbrev S16384x8192 : Shape := ⟨2, ![16384, 8192]⟩
abbrev S1x2x8 : Shape := ⟨3, ![1, 2, 8]⟩
abbrev S2x8 : Shape := ⟨2, ![2, 8]⟩
abbrev S32x256x16 : Shape := ⟨3, ![32, 256, 16]⟩
abbrev S32x256x2x8 : Shape := ⟨4, ![32, 256, 2, 8]⟩
abbrev S1x1x2x8 : Shape := ⟨4, ![1, 1, 2, 8]⟩
abbrev S32x256x1x8 : Shape := ⟨4, ![32, 256, 1, 8]⟩
abbrev S32x256x8 : Shape := ⟨3, ![32, 256, 8]⟩
abbrev S32x2x128x8 : Shape := ⟨4, ![32, 2, 128, 8]⟩
abbrev S32x256x96 : Shape := ⟨3, ![32, 256, 96]⟩
abbrev S32x256x128 : Shape := ⟨3, ![32, 256, 128]⟩
abbrev S8192x128 : Shape := ⟨2, ![8192, 128]⟩
abbrev S4x2048x16 : Shape := ⟨3, ![4, 2048, 16]⟩
abbrev S4x2048x2x8 : Shape := ⟨4, ![4, 2048, 2, 8]⟩
abbrev S4x2048x1x8 : Shape := ⟨4, ![4, 2048, 1, 8]⟩
abbrev S4x2048x8 : Shape := ⟨3, ![4, 2048, 8]⟩
abbrev S4x16x128x8 : Shape := ⟨4, ![4, 16, 128, 8]⟩
abbrev S4x2048x96 : Shape := ⟨3, ![4, 2048, 96]⟩
abbrev S4x2048x128 : Shape := ⟨3, ![4, 2048, 128]⟩
abbrev S16384x128 : Shape := ⟨2, ![16384, 128]⟩

abbrev nBuf : Space → Nat
  | .hbm => 198
  | .vmem => 0
  | .smem => 0
  | _ => 0

abbrev hbmTy0_0 (i : Nat) : BufTy := match i % 128 with
  | 0 => ⟨S16384x2048, .f32⟩
  | 1 => ⟨S4x2x2048, .f32⟩
  | 2 => ⟨S4x8x6x2048, .f32⟩
  | 3 => ⟨S2x2048x8224, .f32⟩
  | 4 => ⟨S2x2x8, .f32⟩
  | 5 => ⟨S2x2x8, .f32⟩
  | 6 => ⟨S1x1x2048, .f32⟩
  | 7 => ⟨S2048, .f32⟩
  | 8 => ⟨S1x8x6x2048, .f32⟩
  | 9 => ⟨S8x6x2048, .f32⟩
  | 10 => ⟨S8192x2048, .f32⟩
  | 11 => ⟨S32x256x2048, .f32⟩
  | 12 => ⟨S8192x2048, .f32⟩
  | 13 => ⟨S4x2048x2048, .f32⟩
  | 14 => ⟨S1x6x2048, .f32⟩
  | 15 => ⟨S1x6x1x2048, .f32⟩
  | 16 => ⟨S4x6x2048, .f32⟩
  | 17 => ⟨S4x6x1x2048, .f32⟩
  | 18 => ⟨S32x256x2048, .f32⟩
  | 19 => ⟨S_, .f32⟩
  | 20 => ⟨S32x256, .f32⟩
  | 21 => ⟨S32x256x1, .f32⟩
  | 22 => ⟨S_, .f32⟩
  | 23 => ⟨S32x256x1, .f32⟩
  | 24 => ⟨S32x256x1, .f32⟩
  | 25 => ⟨S_, .f32⟩
  | 26 => ⟨S32x256x1, .f32⟩
  | 27 => ⟨S32x256x1, .f32⟩
  | 28 => ⟨S32x256x1, .f32⟩
  | 29 => ⟨S32x256x2048, .f32⟩
  | 30 => ⟨S32x256x2048, .f32⟩
  | 31 => ⟨S1x1x2048, .f32⟩
  | 32 => ⟨S32x256x2048, .f32⟩
  | 33 => ⟨S32x256x2048, .f32⟩
  | 34 => ⟨S1x1x1x2048, .f32⟩
  | 35 => ⟨S1x1x2048, .f32⟩
  | 36 => ⟨S_, .f32⟩
  | 37 => ⟨S1x1x2048, .f32⟩
  | 38 => ⟨S1x1x2048, .f32⟩
  | 39 => ⟨S32x256x2048, .f32⟩
  | 40 => ⟨S32x256x2048, .f32⟩
  | 41 => ⟨S1x1x1x2048, .f32⟩
  | 42 => ⟨S1x1x2048, .f32⟩
  | 43 => ⟨S32x256x2048, .f32⟩
  | 44 => ⟨S32x256x2048, .f32⟩
  | 45 => ⟨S4x2048x2048, .f32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S_, .f32⟩
  | 53 => ⟨S4x2048x1, .f32⟩
  | 54 => ⟨S4x2048x1, .f32⟩
  | 55 => ⟨S4x2048x1, .f32⟩
  | 56 => ⟨S4x2048x2048, .f32⟩
  | 57 => ⟨S4x2048x2048, .f32⟩
  | 58 => ⟨S1x1x2048, .f32⟩
  | 59 => ⟨S4x2048x2048, .f32⟩
  | 60 => ⟨S4x2048x2048, .f32⟩
  | 61 => ⟨S4x1x1x2048, .f32⟩
  | 62 => ⟨S4x1x2048, .f32⟩
  | 63 => ⟨S_, .f32⟩
  | 64 => ⟨S4x1x2048, .f32⟩
  | 65 => ⟨S4x1x2048, .f32⟩
  | 66 => ⟨S4x2048x2048, .f32⟩
  | 67 => ⟨S4x2048x2048, .f32⟩
  | 68 => ⟨S4x1x1x2048, .f32⟩
  | 69 => ⟨S4x1x2048, .f32⟩
  | 70 => ⟨S4x2048x2048, .f32⟩
  | 71 => ⟨S4x2048x2048, .f32⟩
  | 72 => ⟨S1x2048x8224, .f32⟩
  | 73 => ⟨S2048x8224, .f32⟩
  | 74 => ⟨S32x256x8224, .f32⟩
  | 75 => ⟨S1x2048x8224, .f32⟩
  | 76 => ⟨S2048x8224, .f32⟩
  | 77 => ⟨S4x2048x8224, .f32⟩
  | 78 => ⟨S32x256x8192, .f32⟩
  | 79 => ⟨S8192x8192, .f32⟩
  | 80 => ⟨S4x2048x8192, .f32⟩
  | 81 => ⟨S8192x8192, .f32⟩
  | 82 => ⟨S16384x8192, .f32⟩
  | 83 => ⟨S1x2x8, .f32⟩
  | 84 => ⟨S2x8, .f32⟩
  | 85 => ⟨S1x2x8, .f32⟩
  | 86 => ⟨S2x8, .f32⟩
  | 87 => ⟨S2x8, .f32⟩
  | 88 => ⟨S2x8, .f32⟩
  | 89 => ⟨S32x256x16, .f32⟩
  | 90 => ⟨S32x256x2x8, .f32⟩
  | 91 => ⟨S1x1x2x8, .f32⟩
  | 92 => ⟨S32x256x2x8, .f32⟩
  | 93 => ⟨S32x256x2x8, .f32⟩
  | 94 => ⟨S_, .f32⟩
  | 95 => ⟨S32x256x2x8, .f32⟩
  | 96 => ⟨S32x256x2x8, .f32⟩
  | 97 => ⟨S32x256x2x8, .f32⟩
  | 98 => ⟨S32x256x2x8, .f32⟩
  | 99 => ⟨S32x256x2x8, .i1⟩
  | 100 => ⟨S32x256x2x8, .f32⟩
  | 101 => ⟨S32x256x2x8, .f32⟩
  | 102 => ⟨S32x256x2x8, .f32⟩
  | 103 => ⟨S32x256x2x8, .f32⟩
  | 104 => ⟨S32x256x2x8, .f32⟩
  | 105 => ⟨S32x256x2x8, .f32⟩
  | 106 => ⟨S32x256x2x8, .f32⟩
  | 107 => ⟨S32x256x2x8, .f32⟩
  | 108 => ⟨S1x1x2x8, .f32⟩
  | 109 => ⟨S32x256x2x8, .f32⟩
  | 110 => ⟨S32x256x2x8, .f32⟩
  | 111 => ⟨S32x256x16, .f32⟩
  | 112 => ⟨S32x256x16, .f32⟩
  | 113 => ⟨S32x256x16, .f32⟩
  | 114 => ⟨S_, .f32⟩
  | 115 => ⟨S32x256x16, .f32⟩
  | 116 => ⟨S32x256x16, .f32⟩
  | 117 => ⟨S_, .f32⟩
  | 118 => ⟨S32x256x16, .f32⟩
  | 119 => ⟨S32x256x16, .f32⟩
  | 120 => ⟨S32x256x1x8, .f32⟩
  | 121 => ⟨S32x256x8, .f32⟩
  | 122 => ⟨S32x2x128x8, .f32⟩
  | 123 => ⟨S_, .f32⟩
  | 124 => ⟨S_, .f32⟩
  | 125 => ⟨S32x2x128x8, .f32⟩
  | 126 => ⟨S32x256x8, .f32⟩
  | 127 => ⟨S32x256x1x8, .f32⟩
  | _ => ⟨S16384x2048, .f32⟩

abbrev hbmTy0_1 (i : Nat) : BufTy := match i % 128 with
  | 0 => ⟨S32x256x1x8, .f32⟩
  | 1 => ⟨S32x256x8, .f32⟩
  | 2 => ⟨S32x2x128x8, .f32⟩
  | 3 => ⟨S_, .f32⟩
  | 4 => ⟨S_, .f32⟩
  | 5 => ⟨S32x2x128x8, .f32⟩
  | 6 => ⟨S32x256x8, .f32⟩
  | 7 => ⟨S32x256x8, .f32⟩
  | 8 => ⟨S_, .f32⟩
  | 9 => ⟨S32x256x96, .f32⟩
  | 10 => ⟨S32x256x128, .f32⟩
  | 11 => ⟨S8192x128, .f32⟩
  | 12 => ⟨S1x2x8, .f32⟩
  | 13 => ⟨S2x8, .f32⟩
  | 14 => ⟨S1x2x8, .f32⟩
  | 15 => ⟨S2x8, .f32⟩
  | 16 => ⟨S2x8, .f32⟩
  | 17 => ⟨S2x8, .f32⟩
  | 18 => ⟨S4x2048x16, .f32⟩
  | 19 => ⟨S4x2048x2x8, .f32⟩
  | 20 => ⟨S1x1x2x8, .f32⟩
  | 21 => ⟨S4x2048x2x8, .f32⟩
  | 22 => ⟨S4x2048x2x8, .f32⟩
  | 23 => ⟨S_, .f32⟩
  | 24 => ⟨S4x2048x2x8, .f32⟩
  | 25 => ⟨S4x2048x2x8, .f32⟩
  | 26 => ⟨S4x2048x2x8, .f32⟩
  | 27 => ⟨S4x2048x2x8, .f32⟩
  | 28 => ⟨S4x2048x2x8, .i1⟩
  | 29 => ⟨S4x2048x2x8, .f32⟩
  | 30 => ⟨S4x2048x2x8, .f32⟩
  | 31 => ⟨S4x2048x2x8, .f32⟩
  | 32 => ⟨S4x2048x2x8, .f32⟩
  | 33 => ⟨S4x2048x2x8, .f32⟩
  | 34 => ⟨S4x2048x2x8, .f32⟩
  | 35 => ⟨S4x2048x2x8, .f32⟩
  | 36 => ⟨S4x2048x2x8, .f32⟩
  | 37 => ⟨S1x1x2x8, .f32⟩
  | 38 => ⟨S4x2048x2x8, .f32⟩
  | 39 => ⟨S4x2048x2x8, .f32⟩
  | 40 => ⟨S4x2048x16, .f32⟩
  | 41 => ⟨S4x2048x16, .f32⟩
  | 42 => ⟨S4x2048x16, .f32⟩
  | 43 => ⟨S_, .f32⟩
  | 44 => ⟨S4x2048x16, .f32⟩
  | 45 => ⟨S4x2048x16, .f32⟩
  | 46 => ⟨S_, .f32⟩
  | 47 => ⟨S4x2048x16, .f32⟩
  | 48 => ⟨S4x2048x16, .f32⟩
  | 49 => ⟨S4x2048x1x8, .f32⟩
  | 50 => ⟨S4x2048x8, .f32⟩
  | 51 => ⟨S4x16x128x8, .f32⟩
  | 52 => ⟨S_, .f32⟩
  | 53 => ⟨S_, .f32⟩
  | 54 => ⟨S4x16x128x8, .f32⟩
  | 55 => ⟨S4x2048x8, .f32⟩
  | 56 => ⟨S4x2048x1x8, .f32⟩
  | 57 => ⟨S4x2048x1x8, .f32⟩
  | 58 => ⟨S4x2048x8, .f32⟩
  | 59 => ⟨S4x16x128x8, .f32⟩
  | 60 => ⟨S_, .f32⟩
  | 61 => ⟨S_, .f32⟩
  | 62 => ⟨S4x16x128x8, .f32⟩
  | 63 => ⟨S4x2048x8, .f32⟩
  | 64 => ⟨S4x2048x8, .f32⟩
  | 65 => ⟨S_, .f32⟩
  | 66 => ⟨S4x2048x96, .f32⟩
  | 67 => ⟨S4x2048x128, .f32⟩
  | 68 => ⟨S8192x128, .f32⟩
  | 69 => ⟨S16384x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_call0_cst : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_7 : Ref sig .tc := ⟨.hbm, 114, rfl⟩
abbrev main_v87 : Ref sig .tc := ⟨.hbm, 115, rfl⟩
abbrev main_v88 : Ref sig .tc := ⟨.hbm, 116, rfl⟩
abbrev main_cst_8 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_call1_call0_cst : Ref sig .tc := ⟨.hbm, 123, rfl⟩
abbrev main_call1_call0_v0 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call2_call0_cst : Ref sig .tc := ⟨.hbm, 131, rfl⟩
abbrev main_call2_call0_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_9 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_10 : Ref sig .tc := ⟨.hbm, 171, rfl⟩
abbrev main_v124 : Ref sig .tc := ⟨.hbm, 172, rfl⟩
abbrev main_v125 : Ref sig .tc := ⟨.hbm, 173, rfl⟩
abbrev main_cst_11 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_call4_call0_cst : Ref sig .tc := ⟨.hbm, 180, rfl⟩
abbrev main_call4_call0_v0 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_call5_call0_cst : Ref sig .tc := ⟨.hbm, 188, rfl⟩
abbrev main_call5_call0_v0 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_12 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]
-- ==== Oproj.lean ====
abbrev S8192x2048 : Shape := ⟨2, ![8192, 2048]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S512x2048 : Shape := ⟨2, ![512, 2048]⟩
abbrev S1x2048x2048 : Shape := ⟨3, ![1, 2048, 2048]⟩
abbrev S1x1x6x2048 : Shape := ⟨4, ![1, 1, 6, 2048]⟩
abbrev S2048x2048 : Shape := ⟨2, ![2048, 2048]⟩
abbrev S1x1x1x2048 : Shape := ⟨4, ![1, 1, 1, 2048]⟩
abbrev S1x2048 : Shape := ⟨2, ![1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .f32⟩
  | .hbm, ⟨3, _⟩ => ⟨S16384x2048, .f32⟩
  | .hbm, ⟨4, _⟩ => ⟨S4x8x6x2048, .f32⟩
  | .hbm, ⟨5, _⟩ => ⟨S2x2048x2048, .bf16⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x1x6x2048, .f32⟩
  | .local _ .vmem, ⟨8, _⟩ => ⟨S1x1x6x2048, .f32⟩
  | .local _ .vmem, ⟨9, _⟩ => ⟨S512x2048, .f32⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  ![c1_i32_7.toNat, v20.toNat, c0_i32_8.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OprojRefIdeal.lean ====
abbrev S8192x2048 : Shape := ⟨2, ![8192, 2048]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S32x256x2048 : Shape := ⟨3, ![32, 256, 2048]⟩
abbrev S1x2048x2048 : Shape := ⟨3, ![1, 2048, 2048]⟩
abbrev S2048x2048 : Shape := ⟨2, ![2048, 2048]⟩
abbrev S4x2048x2048 : Shape := ⟨3, ![4, 2048, 2048]⟩
abbrev S1x8x6x2048 : Shape := ⟨4, ![1, 8, 6, 2048]⟩
abbrev S8x6x2048 : Shape := ⟨3, ![8, 6, 2048]⟩
abbrev S1x6x2048 : Shape := ⟨3, ![1, 6, 2048]⟩
abbrev S1x6x1x2048 : Shape := ⟨4, ![1, 6, 1, 2048]⟩
abbrev S4x6x2048 : Shape := ⟨3, ![4, 6, 2048]⟩
abbrev S4x6x1x2048 : Shape := ⟨4, ![4, 6, 1, 2048]⟩
abbrev S1x1x1x2048 : Shape := ⟨4, ![1, 1, 1, 2048]⟩
abbrev S1x1x2048 : Shape := ⟨3, ![1, 1, 2048]⟩
abbrev S4x1x1x2048 : Shape := ⟨4, ![4, 1, 1, 2048]⟩
abbrev S4x1x2048 : Shape := ⟨3, ![4, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x2048x2048, .f32⟩
  | .hbm, ⟨3, _⟩ => ⟨S16384x2048, .f32⟩
  | .hbm, ⟨4, _⟩ => ⟨S4x8x6x2048, .f32⟩
  | .hbm, ⟨5, _⟩ => ⟨S8192x2048, .f32⟩
  | .hbm, ⟨6, _⟩ => ⟨S32x256x2048, .f32⟩
  | .hbm, ⟨7, _⟩ => ⟨S1x2048x2048, .f32⟩
  | .hbm, ⟨8, _⟩ => ⟨S2048x2048, .f32⟩
  | .hbm, ⟨9, _⟩ => ⟨S32x256x2048, .f32⟩
  | .hbm, ⟨10, _⟩ => ⟨S8192x2048, .f32⟩
  | .hbm, ⟨11, _⟩ => ⟨S4x2048x2048, .f32⟩
  | .hbm, ⟨12, _⟩ => ⟨S1x2048x2048, .f32⟩
  | .hbm, ⟨13, _⟩ => ⟨S2048x2048, .f32⟩
  | .hbm, ⟨14, _⟩ => ⟨S4x2048x2048, .f32⟩
  | .hbm, ⟨15, _⟩ => ⟨S1x8x6x2048, .f32⟩
  | .hbm, ⟨16, _⟩ => ⟨S8x6x2048, .f32⟩
  | .hbm, ⟨17, _⟩ => ⟨S8192x2048, .f32⟩
  | .hbm, ⟨18, _⟩ => ⟨S32x256x2048, .f32⟩
  | .hbm, ⟨19, _⟩ => ⟨S8192x2048, .f32⟩
  | .hbm, ⟨20, _⟩ => ⟨S4x2048x2048, .f32⟩
  | .hbm, ⟨21, _⟩ => ⟨S1x6x2048, .f32⟩
  | .hbm, ⟨22, _⟩ => ⟨S1x6x1x2048, .f32⟩
  | .hbm, ⟨23, _⟩ => ⟨S4x6x2048, .f32⟩
  | .hbm, ⟨24, _⟩ => ⟨S4x6x1x2048, .f32⟩
  | .hbm, ⟨25, _⟩ => ⟨S1x1x1x2048, .f32⟩
  | .hbm, ⟨26, _⟩ => ⟨S1x1x2048, .f32⟩
  | .hbm, ⟨27, _⟩ => ⟨S32x256x2048, .f32⟩
  | .hbm, ⟨28, _⟩ => ⟨S32x256x2048, .f32⟩
  | .hbm, ⟨29, _⟩ => ⟨S32x256x2048, .f32⟩
  | .hbm, ⟨30, _⟩ => ⟨S4x1x1x2048, .f32⟩
  | .hbm, ⟨31, _⟩ => ⟨S4x1x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | .hbm, ⟨36, _⟩ => ⟨S8192x2048, .f32⟩
  | .hbm, ⟨37, _⟩ => ⟨S16384x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]
-- ==== Oprojt.lean ====
abbrev S8192x1024 : Shape := ⟨2, ![8192, 1024]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S512x1024 : Shape := ⟨2, ![512, 1024]⟩
abbrev S1x1024x2048 : Shape := ⟨3, ![1, 1024, 2048]⟩
abbrev S512x2048 : Shape := ⟨2, ![512, 2048]⟩
abbrev S1x1x6x2048 : Shape := ⟨4, ![1, 1, 6, 2048]⟩
abbrev S1024x2048 : Shape := ⟨2, ![1024, 2048]⟩
abbrev S1x1x1x2048 : Shape := ⟨4, ![1, 1, 1, 2048]⟩
abbrev S1x2048 : Shape := ⟨2, ![1, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x2048x2048, .f32⟩
  | .hbm, ⟨5, _⟩ => ⟨S16384x2048, .f32⟩
  | .hbm, ⟨6, _⟩ => ⟨S4x8x6x2048, .f32⟩
  | .hbm, ⟨7, _⟩ => ⟨S2x2048x2048, .bf16⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S512x2048, .f32⟩
  | .local _ .vmem, ⟨11, _⟩ => ⟨S512x2048, .f32⟩
  | .local _ .vmem, ⟨12, _⟩ => ⟨S1x1x6x2048, .f32⟩
  | .local _ .vmem, ⟨13, _⟩ => ⟨S1x1x6x2048, .f32⟩
  | .local _ .vmem, ⟨14, _⟩ => ⟨S512x2048, .f32⟩
  | .local _ .vmem, ⟨15, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![c0_i32_7.toNat, v20.toNat, c0_i32_8.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OprojtRefIdeal.lean ====
abbrev S8192x1024 : Shape := ⟨2, ![8192, 1024]⟩
abbrev S2x2048x2048 : Shape := ⟨3, ![2, 2048, 2048]⟩
abbrev S16384x2048 : Shape := ⟨2, ![16384, 2048]⟩
abbrev S4x8x6x2048 : Shape := ⟨4, ![4, 8, 6, 2048]⟩
abbrev S8192x2048 : Shape := ⟨2, ![8192, 2048]⟩
abbrev S32x256x2048 : Shape := ⟨3, ![32, 256, 2048]⟩
abbrev S1x2048x2048 : Shape := ⟨3, ![1, 2048, 2048]⟩
abbrev S2048x2048 : Shape := ⟨2, ![2048, 2048]⟩
abbrev S4x2048x2048 : Shape := ⟨3, ![4, 2048, 2048]⟩
abbrev S1x8x6x2048 : Shape := ⟨4, ![1, 8, 6, 2048]⟩
abbrev S8x6x2048 : Shape := ⟨3, ![8, 6, 2048]⟩
abbrev S1x6x2048 : Shape := ⟨3, ![1, 6, 2048]⟩
abbrev S1x6x1x2048 : Shape := ⟨4, ![1, 6, 1, 2048]⟩
abbrev S4x6x2048 : Shape := ⟨3, ![4, 6, 2048]⟩
abbrev S4x6x1x2048 : Shape := ⟨4, ![4, 6, 1, 2048]⟩
abbrev S1x1x1x2048 : Shape := ⟨4, ![1, 1, 1, 2048]⟩
abbrev S1x1x2048 : Shape := ⟨3, ![1, 1, 2048]⟩
abbrev S4x1x1x2048 : Shape := ⟨4, ![4, 1, 1, 2048]⟩
abbrev S4x1x2048 : Shape := ⟨3, ![4, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x2048x2048, .f32⟩
  | .hbm, ⟨5, _⟩ => ⟨S16384x2048, .f32⟩
  | .hbm, ⟨6, _⟩ => ⟨S4x8x6x2048, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S32x256x2048, .f32⟩
  | .hbm, ⟨11, _⟩ => ⟨S1x2048x2048, .f32⟩
  | .hbm, ⟨12, _⟩ => ⟨S2048x2048, .f32⟩
  | .hbm, ⟨13, _⟩ => ⟨S32x256x2048, .f32⟩
  | .hbm, ⟨14, _⟩ => ⟨S8192x1024, .f32⟩
  | .hbm, ⟨15, _⟩ => ⟨S8192x1024, .f32⟩
  | .hbm, ⟨16, _⟩ => ⟨S8192x2048, .f32⟩
  | .hbm, ⟨17, _⟩ => ⟨S4x2048x2048, .f32⟩
  | .hbm, ⟨18, _⟩ => ⟨S1x2048x2048, .f32⟩
  | .hbm, ⟨19, _⟩ => ⟨S2048x2048, .f32⟩
  | .hbm, ⟨20, _⟩ => ⟨S4x2048x2048, .f32⟩
  | .hbm, ⟨21, _⟩ => ⟨S1x8x6x2048, .f32⟩
  | .hbm, ⟨22, _⟩ => ⟨S8x6x2048, .f32⟩
  | .hbm, ⟨23, _⟩ => ⟨S8192x2048, .f32⟩
  | .hbm, ⟨24, _⟩ => ⟨S32x256x2048, .f32⟩
  | .hbm, ⟨25, _⟩ => ⟨S8192x2048, .f32⟩
  | .hbm, ⟨26, _⟩ => ⟨S4x2048x2048, .f32⟩
  | .hbm, ⟨27, _⟩ => ⟨S1x6x2048, .f32⟩
  | .hbm, ⟨28, _⟩ => ⟨S1x6x1x2048, .f32⟩
  | .hbm, ⟨29, _⟩ => ⟨S4x6x2048, .f32⟩
  | .hbm, ⟨30, _⟩ => ⟨S4x6x1x2048, .f32⟩
  | .hbm, ⟨31, _⟩ => ⟨S1x1x1x2048, .f32⟩
  | .hbm, ⟨32, _⟩ => ⟨S1x1x2048, .f32⟩
  | .hbm, ⟨33, _⟩ => ⟨S32x256x2048, .f32⟩
  | .hbm, ⟨34, _⟩ => ⟨S32x256x2048, .f32⟩
  | .hbm, ⟨35, _⟩ => ⟨S32x256x2048, .f32⟩
  | .hbm, ⟨36, _⟩ => ⟨S4x1x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | .hbm, ⟨42, _⟩ => ⟨S8192x2048, .f32⟩
  | .hbm, ⟨43, _⟩ => ⟨S16384x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Exp.lean ====
abbrev S160 : Shape := ⟨1, ![160]⟩
abbrev S1 : Shape := ⟨1, ![1]⟩
abbrev S655360x128 : Shape := ⟨2, ![655360, 128]⟩
abbrev S4x32x2048x512 : Shape := ⟨4, ![4, 32, 2048, 512]⟩
abbrev S4x32x512x2048 : Shape := ⟨4, ![4, 32, 512, 2048]⟩
abbrev S4096x128 : Shape := ⟨2, ![4096, 128]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S256x128 : Shape := ⟨2, ![256, 128]⟩
abbrev S256x2048 : Shape := ⟨2, ![256, 2048]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S655360x128, .f32⟩
  | .hbm, ⟨1, _⟩ => ⟨S4x32x2048x512, .f32⟩
  | .hbm, ⟨2, _⟩ => ⟨S4x32x2048x512, .f32⟩
  | .hbm, ⟨3, _⟩ => ⟨S4x32x512x2048, .f32⟩
  | .hbm, ⟨4, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S4096x128, .f32⟩
  | .local _ .vmem, ⟨9, _⟩ => ⟨S4096x128, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S160 : Shape := ⟨1, ![160]⟩
abbrev S1 : Shape := ⟨1, ![1]⟩
abbrev S655360x128 : Shape := ⟨2, ![655360, 128]⟩
abbrev S4x32x2048x512 : Shape := ⟨4, ![4, 32, 2048, 512]⟩
abbrev S4x32x512x2048 : Shape := ⟨4, ![4, 32, 512, 2048]⟩
abbrev S160x256x2048 : Shape := ⟨3, ![160, 256, 2048]⟩
abbrev S1x32x2048x512 : Shape := ⟨4, ![1, 32, 2048, 512]⟩
abbrev S32x2048x512 : Shape := ⟨3, ![32, 2048, 512]⟩
abbrev S_ : Shape := ⟨0, ![]⟩
abbrev S160x1 : Shape := ⟨2, ![160, 1]⟩
abbrev S160x2048x512 : Shape := ⟨3, ![160, 2048, 512]⟩
abbrev S160x256x512 : Shape := ⟨3, ![160, 256, 512]⟩
abbrev S1x32x512x2048 : Shape := ⟨4, ![1, 32, 512, 2048]⟩
abbrev S32x512x2048 : Shape := ⟨3, ![32, 512, 2048]⟩
abbrev S160x512x2048 : Shape := ⟨3, ![160, 512, 2048]⟩
abbrev S160x1x1 : Shape := ⟨3, ![160, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S655360x128, .f32⟩
  | .hbm, ⟨3, _⟩ => ⟨S4x32x2048x512, .f32⟩
  | .hbm, ⟨4, _⟩ => ⟨S4x32x2048x512, .f32⟩
  | .hbm, ⟨5, _⟩ => ⟨S4x32x512x2048, .f32⟩
  | .hbm, ⟨6, _⟩ => ⟨S160x256x2048, .f32⟩
  | .hbm, ⟨7, _⟩ => ⟨S1x32x2048x512, .f32⟩
  | .hbm, ⟨8, _⟩ => ⟨S32x2048x512, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x2048x512, .f32⟩
  | .hbm, ⟨18, _⟩ => ⟨S160x256x512, .f32⟩
  | .hbm, ⟨19, _⟩ => ⟨S160x256x512, .f32⟩
  | .hbm, ⟨20, _⟩ => ⟨S160x256x512, .f32⟩
  | .hbm, ⟨21, _⟩ => ⟨S_, .f32⟩
  | .hbm, ⟨22, _⟩ => ⟨S160x256x512, .f32⟩
  | .hbm, ⟨23, _⟩ => ⟨S160x256x512, .f32⟩
  | .hbm, ⟨24, _⟩ => ⟨S_, .f32⟩
  | .hbm, ⟨25, _⟩ => ⟨S160x256x512, .f32⟩
  | .hbm, ⟨26, _⟩ => ⟨S160x256x512, .f32⟩
  | .hbm, ⟨27, _⟩ => ⟨S160x256x512, .f32⟩
  | .hbm, ⟨28, _⟩ => ⟨S1x32x2048x512, .f32⟩
  | .hbm, ⟨29, _⟩ => ⟨S32x2048x512, .f32⟩
  | .hbm, ⟨30, _⟩ => ⟨S_, .i32⟩
  | .hbm, ⟨31, _⟩ => ⟨S160, .i32⟩
  | .hbm, ⟨32, _⟩ => ⟨S160, .i1⟩
  | .hbm, ⟨33, _⟩ => ⟨S_, .i32⟩
  | .hbm, ⟨34, _⟩ => ⟨S160, .i32⟩
  | .hbm, ⟨35, _⟩ => ⟨S160, .i32⟩
  | .hbm, ⟨36, _⟩ => ⟨S160, .i32⟩
  | .hbm, ⟨37, _⟩ => ⟨S160x1, .i32⟩
  | .hbm, ⟨38, _⟩ => ⟨S160x2048x512, .f32⟩
  | .hbm, ⟨39, _⟩ => ⟨S160x256x512, .f32⟩
  | .hbm, ⟨40, _⟩ => ⟨S160x256x512, .f32⟩
  | .hbm, ⟨41, _⟩ => ⟨S1x32x512x2048, .f32⟩
  | .hbm, ⟨42, _⟩ => ⟨S32x512x2048, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x512x2048, .f32⟩
  | .hbm, ⟨52, _⟩ => ⟨S160x256x2048, .f32⟩
  | .hbm, ⟨53, _⟩ => ⟨S160, .i32⟩
  | .hbm, ⟨54, _⟩ => ⟨S_, .i32⟩
  | .hbm, ⟨55, _⟩ => ⟨S160, .i32⟩
  | .hbm, ⟨56, _⟩ => ⟨S160, .i1⟩
  | .hbm, ⟨57, _⟩ => ⟨S160x1x1, .i1⟩
  | .hbm, ⟨58, _⟩ => ⟨S_, .f32⟩
  | .hbm, ⟨59, _⟩ => ⟨S_, .f32⟩
  | .hbm, ⟨60, _⟩ => ⟨S160x256x2048, .i1⟩
  | .hbm, ⟨61, _⟩ => ⟨S160x256x2048, .f32⟩
  | .hbm, ⟨62, _⟩ => ⟨S160x256x2048, .f32⟩
  | .hbm, ⟨63, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Fnp.lean ====
abbrev S16384x2048 : Shape := ⟨2, ![16384, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FnpRefIdeal.lean ====
abbrev S16384x2048 : Shape := ⟨2, ![16384, 2048]⟩
abbrev S2048 : Shape := ⟨1, ![2048]⟩
abbrev S8192x2048 : Shape := ⟨2, ![8192, 2048]⟩
abbrev S32x256x2048 : Shape := ⟨3, ![32, 256, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8192x2048, .f32⟩
  | .hbm, ⟨3, _⟩ => ⟨S32x256x2048, .f32⟩
  | .hbm, ⟨4, _⟩ => ⟨S32x256x2048, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x2048, .f32⟩
  | .hbm, ⟨16, _⟩ => ⟨S32x256x2048, .f32⟩
  | .hbm, ⟨17, _⟩ => ⟨S1x1x2048, .f32⟩
  | .hbm, ⟨18, _⟩ => ⟨S32x256x2048, .f32⟩
  | .hbm, ⟨19, _⟩ => ⟨S32x256x2048, .f32⟩
  | .hbm, ⟨20, _⟩ => ⟨S8192x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Fns.lean ====
abbrev S16384x2048 : Shape := ⟨2, ![16384, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FnsRefIdeal.lean ====
abbrev S16384x2048 : Shape := ⟨2, ![16384, 2048]⟩
abbrev S2048 : Shape := ⟨1, ![2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8192x2048, .f32⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Ctx.Kernel.lean ====
module

public import proofs.«01_k».proof.Defs
public import proofs.«01_k».proof.Proof.Gen.CtxIdeal.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Ctx

open Cert.CtxIdeal Cert.CtxIdeal.Gen

/-- The score of query row `r` of a sequence against its key row `k`, on head `h`, as the kernel scales it: the query
    first. The three families are the queries, keys and values of one sequence, `2048` wide. -/
def score (q k : Fin 256 → Fin 2048 → EReal) (h : Fin 16) (r j : Fin 256) : EReal :=
  ∑ d : Fin 128, q r ⟨h.val * 128 + d.val, by omega⟩ * Ideal.ofBits .f32 0x3DB504F3#32 * k j ⟨h.val * 128 + d.val, by omega⟩

/-- The exponentials of one row of scores, its largest subtracted. -/
def expo (s : Fin 256 → EReal) (j : Fin 256) : EReal :=
  Ideal.exp (s j - Finset.univ.fold max (Ideal.ofBits .f32 0xFF800000#32) s)

/-- One head's output at row `r`, lane `d`: the weighted sum of the values, divided by the sum of the weights. -/
def attn (q k v : Fin 256 → Fin 2048 → EReal) (h : Fin 16) (r : Fin 256) (d : Fin 128) : EReal :=
  Ideal.div (∑ j : Fin 256, expo (score q k h r) j * v j ⟨h.val * 128 + d.val, by omega⟩)
    (∑ j : Fin 256, expo (score q k h r) j)

variable (m : (ℓ : Loc nD τ sig) → Buf (Elt Ideal) ℓ)

theorem idx : ∀ t : Fin grid0.N, win0_0.index t = ![t.val, 0] ∧ win0_1.index t = ![t.val, 1] ∧ win0_2.index t = ![t.val, 2]
    ∧ win0_3.index t = ![t.val, 0] := by
  decide +kernel

/-- One head's stored payload at an element, whatever array its loaded lanes were cut from. -/
theorem pay_apply (a b v : Vec Ideal S256x128 .f32) (Q K V : Fin 256 → Fin 2048 → EReal) (h : Fin 16)
    (ha : ∀ (r : Fin 256) (d : Fin 128), a (ix2 r d) = Q r ⟨h.val * 128 + d.val, by omega⟩)
    (hb : ∀ (r : Fin 256) (d : Fin 128), b (ix2 r d) = K r ⟨h.val * 128 + d.val, by omega⟩)
    (hv : ∀ (r : Fin 256) (d : Fin 128), v (ix2 r d) = V r ⟨h.val * 128 + d.val, by omega⟩)
    (r : Fin 256) (d : Fin 128) : k0_pay2 a b v (ix2 r d) = attn Q K V h r d := by
  pointwise [k0_pay2]
  simp only [ha, hb, hv]
  rfl

/-- The same at an index named by its coordinates, with the head read off the lane. -/
theorem pay_at (a b v : Vec Ideal S256x128 .f32) (X0 X1 X2 : Vec Ideal S256x2048 .f32) (h : Fin 16)
    (ha : ∀ (r : Fin 256) (d : Fin 128), a (ix2 r d) = X0 (ix2 r ⟨h.val * 128 + d.val, by omega⟩))
    (hb : ∀ (r : Fin 256) (d : Fin 128), b (ix2 r d) = X1 (ix2 r ⟨h.val * 128 + d.val, by omega⟩))
    (hv : ∀ (r : Fin 256) (d : Fin 128), v (ix2 r d) = X2 (ix2 r ⟨h.val * 128 + d.val, by omega⟩))
    (x : S256x128.Idx) (y : S256x2048.Idx) (h0 : (y 0).val = (x 0).val) (h1 : (y 1).val = h.val * 128 + (x 1).val) :
    k0_pay2 a b v x = attn (fun r l => X0 (ix2 r l)) (fun r l => X1 (ix2 r l)) (fun r l => X2 (ix2 r l))
        ⟨(y 1).val / 128, by have := (y 1).isLt; show _ < 16; change _ < 2048 at this; omega⟩ (y 0) ⟨(y 1).val % 128, Nat.mod_lt _ (by decide)⟩ := by
  idx_vars x
  idx_vars y
  rw [pay_apply a b v (fun r l => X0 (ix2 r l)) (fun r l => X1 (ix2 r l)) (fun r l => X2 (ix2 r l)) h ha hb hv]
  have e0 : y0 = x0 := Fin.ext h0
  have h1 : y1.val = h.val * 128 + x1.val := h1
  subst e0
  congr 1
  · exact Fin.ext (show h.val = y1.val / 128 by omega)
  · exact Fin.ext (show x1.val = y1.val % 128 by omega)

set_option maxHeartbeats 2000000 in
/-- What a grid point leaves in its block: one head's attention per 128 lanes. -/
theorem block (X0 X1 X2 : Vec Ideal S256x2048 .f32) (y : S256x2048.Idx) : out0_3 X0 X1 X2 y
    = attn (fun r l => X0 (ix2 r l)) (fun r l => X1 (ix2 r l)) (fun r l => X2 (ix2 r l))
        ⟨(y 1).val / 128, by have := (y 1).isLt; show _ < 16; change _ < 2048 at this; omega⟩ (y 0) ⟨(y 1).val % 128, Nat.mod_lt _ (by decide)⟩ := by
  frame_out
  canon_tiles x h
  · exact pay_at _ _ _ X0 X1 X2 15 (fun r d => by pointwise []) (fun r d => by pointwise []) (fun r d => by pointwise []) x y h0 h1
  · exact pay_at _ _ _ X0 X1 X2 14 (fun r d => by pointwise []) (fun r d => by pointwise []) (fun r d => by pointwise []) x y h0 h1
  · exact pay_at _ _ _ X0 X1 X2 13 (fun r d => by pointwise []) (fun r d => by pointwise []) (fun r d => by pointwise []) x y h0 h1
  · exact pay_at _ _ _ X0 X1 X2 12 (fun r d => by pointwise []) (fun r d => by pointwise []) (fun r d => by pointwise []) x y h0 h1
  · exact pay_at _ _ _ X0 X1 X2 11 (fun r d => by pointwise []) (fun r d => by pointwise []) (fun r d => by pointwise []) x y h0 h1
  · exact pay_at _ _ _ X0 X1 X2 10 (fun r d => by pointwise []) (fun r d => by pointwise []) (fun r d => by pointwise []) x y h0 h1
  · exact pay_at _ _ _ X0 X1 X2 9 (fun r d => by pointwise []) (fun r d => by pointwise []) (fun r d => by pointwise []) x y h0 h1
  · exact pay_at _ _ _ X0 X1 X2 8 (fun r d => by pointwise []) (fun r d => by pointwise []) (fun r d => by pointwise []) x y h0 h1
  · exact pay_at _ _ _ X0 X1 X2 7 (fun r d => by pointwise []) (fun r d => by pointwise []) (fun r d => by pointwise []) x y h0 h1
  · exact pay_at _ _ _ X0 X1 X2 6 (fun r d => by pointwise []) (fun r d => by pointwise []) (fun r d => by pointwise []) x y h0 h1
  · exact pay_at _ _ _ X0 X1 X2 5 (fun r d => by pointwise []) (fun r d => by pointwise []) (fun r d => by pointwise []) x y h0 h1
  · exact pay_at _ _ _ X0 X1 X2 4 (fun r d => by pointwise []) (fun r d => by pointwise []) (fun r d => by pointwise []) x y h0 h1
  · exact pay_at _ _ _ X0 X1 X2 3 (fun r d => by pointwise []) (fun r d => by pointwise []) (fun r d => by pointwise []) x y h0 h1
  · exact pay_at _ _ _ X0 X1 X2 2 (fun r d => by pointwise []) (fun r d => by pointwise []) (fun r d => by pointwise []) x y h0 h1
  · exact pay_at _ _ _ X0 X1 X2 1 (fun r d => by pointwise []) (fun r d => by pointwise []) (fun r d => by pointwise []) x y h0 h1
  · exact pay_at _ _ _ X0 X1 X2 0 (fun r d => by pointwise []) (fun r d => by pointwise []) (fun r d => by pointwise []) x y h0
      (by simpa using h1)

/-- The rows of one of the three parts (queries, keys, values) of the projected array that belong to sequence `b`. -/
def part (p : S16384x6144.Idx → EReal) (o : Fin 3) (b : Fin 32) (r : Fin 256) (l : Fin 2048) : EReal :=
  p (ix2 ⟨b.val * 256 + r.val, by omega⟩ ⟨o.val * 2048 + l.val, by omega⟩)

/-- The attention of the whole array at row `i`, lane `l`. -/
def ctx (p : S16384x6144.Idx → EReal) (i : Fin 8192) (l : Fin 2048) : EReal :=
  attn (part p 0 ⟨i.val / 256, by omega⟩) (part p 1 ⟨i.val / 256, by omega⟩) (part p 2 ⟨i.val / 256, by omega⟩)
    ⟨l.val / 128, by omega⟩ ⟨i.val % 256, Nat.mod_lt _ (by decide)⟩ ⟨l.val % 128, Nat.mod_lt _ (by decide)⟩

/-- The result array after the run. -/
theorem out_eq (c : Dev nD) : (dats m 0 c).arrAt 3 cfg0.N
    = fun i : S8192x2048.Idx => ctx (m ((c : Thread nD τ).loc main_arg0)) (i 0) (i 1) := by
  refine (dats m 0 c).arrAt_eq_of_covers 3 _ (by decide +kernel) fun t hf y => ?_
  blk_simp
  rw [after0_3]
  rw [block]
  idx_vars y
  have e0 : (((((View.whole main_v0).slice (win0_3.rect t)).emb (ix2 y0 y1) 0 : Fin 8192)) : ℕ) = t.val * 256 + y0.val := by
    blk_point [idx t]
  have e1 : (((((View.whole main_v0).slice (win0_3.rect t)).emb (ix2 y0 y1) 1 : Fin 2048)) : ℕ) = y1.val := by
    blk_point [idx t]
  unfold ctx
  have hb : (t.val * 256 + y0.val) / 256 = t.val := by omega
  have hr : (t.val * 256 + y0.val) % 256 = y0.val := by omega
  have q0 : (fun r l => iblk m c 0 t (ix2 r l)) = part (m ((c : Thread nD τ).loc main_arg0)) 0 ⟨t.val, t.isLt⟩ := by
    funext r l
    blk_point [iblk, V, part, idx t]
  have q1 : (fun r l => iblk m c 1 t (ix2 r l)) = part (m ((c : Thread nD τ).loc main_arg0)) 1 ⟨t.val, t.isLt⟩ := by
    funext r l
    blk_point [iblk, V, part, idx t]
  have q2 : (fun r l => iblk m c 2 t (ix2 r l)) = part (m ((c : Thread nD τ).loc main_arg0)) 2 ⟨t.val, t.isLt⟩ := by
    funext r l
    blk_point [iblk, V, part, idx t]
  rw [q0, q1, q2]
  simp only [e0, e1, hb, hr]

end Cert.Proof.Ctx
-- ==== Proof.Ctx.Ref.lean ====
module

public import proofs.«01_k».proof.Proof.Ctx.Kernel
public import proofs.«01_k».proof.Proof.Gen.CtxRefIdeal.Read

@[expose] public section

set_option maxRecDepth 16384

noncomputable section

open Idealize.ShloMosaic Idealize.ShloMosaic.TcCoe Idealize.SL.Sem

namespace Cert.Proof.Ctx

open Cert.CtxRefIdeal Cert.CtxRefIdeal.Gen Cert.CtxRefIdeal.Read

/-- The reference's scores: the product first, scaled after. -/
theorem ref_score (x : S16384x6144.Idx → EReal) (b : Fin 32) (h : Fin 16) (r j : Fin 256) :
    val_main_v10 (F := Ideal) x (ix4 b h r j)
      = (∑ d : Fin 128, part x 0 b r ⟨h.val * 128 + d.val, by omega⟩ * part x 1 b j ⟨h.val * 128 + d.val, by omega⟩)
        * Ideal.ofBits .f32 0x3DB504F3#32 := by
  pointwise [val_main_v10, val_main_v9, val_main_cst, val_main_v8, val_main_v3, val_main_v5, val_main_v2, val_main_v4, val_main_v1, val_main_v0, part]

/-- The largest of a row of four axes' last. -/
theorem max_row (y : FVec Ideal S32x16x256x256 .f32) (b : Fin 32) (h : Fin 16) (r : Fin 256) :
    Host.reduce FloatOps.maximumf y (constant (F := Ideal) S_ .f32 0xFF800000#32) reducesTo_S32x16x256x256_S32x16x256_d3 h_S_ (ix3 b h r)
      = Finset.univ.fold max (Ideal.ofBits .f32 0xFF800000#32) fun j : Fin 256 => y (ix4 b h r j) := by
  pointwise []

theorem ref_max (x : S16384x6144.Idx → EReal) (b : Fin 32) (h : Fin 16) (r : Fin 256) :
    val_main_v11 (F := Ideal) x (ix3 b h r)
      = Finset.univ.fold max (Ideal.ofBits .f32 0xFF800000#32) fun j : Fin 256 => val_main_v10 (F := Ideal) x (ix4 b h r j) := by
  unfold val_main_v11
  generalize val_main_v10 (F := Ideal) x = y
  exact max_row y b h r

/-- What is subtracted: the row's largest, taken once more against the fold's first entry. -/
theorem ref_sub (x : S16384x6144.Idx → EReal) (b : Fin 32) (h : Fin 16) (r j : Fin 256) : val_main_v15 (F := Ideal) x (ix4 b h r j)
      = max (Ideal.ofBits .f32 0xFF800000#32) (val_main_v11 (F := Ideal) x (ix3 b h r)) := by
    rw [val_main_v15_apply, val_main_v14_apply, val_main_v13_apply, val_main_v12_apply, val_main_cst_1_apply]
    have e : idx_main_v14 (idx_main_v15 (ix4 b h r j)) = ix3 b h r := by
      funext a
      fin_cases a <;> rfl
    rw [e]
    generalize val_main_v11 (F := Ideal) x = y
    rfl

/-- The reference's exponentials are the kernel's, of the reference's scores. -/
theorem ref_expo (x : S16384x6144.Idx → EReal) (b : Fin 32) (h : Fin 16) (r j : Fin 256) :
    val_main_v17 (F := Ideal) x (ix4 b h r j)
      = expo (fun j => val_main_v10 (F := Ideal) x (ix4 b h r j)) j := by
  have hs : val_main_v17 (F := Ideal) x (ix4 b h r j)
      = Ideal.exp (val_main_v10 (F := Ideal) x (ix4 b h r j) - val_main_v15 (F := Ideal) x (ix4 b h r j)) := by
    unfold val_main_v17 val_main_v16
    generalize val_main_v15 (F := Ideal) x = y
    generalize val_main_v10 (F := Ideal) x = z
    rfl
  rw [hs, ref_sub, ref_max]
  unfold expo
  rw [max_eq_right]
  exact (Finset.le_fold_max _).2 (Or.inl le_rfl)

/-- The reference's output: each weight divided by the row's sum, then the weighted sum of the values. -/
theorem ref_out (x : S16384x6144.Idx → EReal) (i : Fin 8192) (l : Fin 2048) :
    val_main_v25 (F := Ideal) x (ix2 i l)
      = ∑ j : Fin 256, part x 2 ⟨i.val / 256, by omega⟩ j l
          * Ideal.div (val_main_v17 (F := Ideal) x (ix4 ⟨i.val / 256, by omega⟩ ⟨l.val / 128, by omega⟩ ⟨i.val % 256, Nat.mod_lt _ (by decide)⟩ j))
            (∑ j' : Fin 256, val_main_v17 (F := Ideal) x (ix4 ⟨i.val / 256, by omega⟩ ⟨l.val / 128, by omega⟩ ⟨i.val % 256, Nat.mod_lt _ (by decide)⟩ j')) := by
  unfold val_main_v25 val_main_v24 val_main_v23 val_main_v22 val_main_v21 val_main_v20 val_main_v19 val_main_v18
  generalize val_main_v17 (F := Ideal) x = y
  pointwise [val_main_v7, val_main_v6, val_main_v1, val_main_v0, val_main_cst_2, part]

end Cert.Proof.Ctx
-- ==== Proof.Reals.lean ====
module

public import Idealize.ShloMosaic.Lib.Pointwise
public import Idealize.ShloMosaic.Lib.IdealHost
public import Idealize.ShloMosaic.Lib.Tactic

@[expose] public section

noncomputable section

open Idealize.ShloMosaic

namespace Cert.Proof.Reals

/-- The extended real of a finite sum of reals is the sum of the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Division by a real that is not zero. -/
theorem div_real (a d : ℝ) (h : d ≠ 0) : Ideal.div (a : EReal) (d : EReal) = ((a * d⁻¹ : ℝ) : EReal) := by
  unfold Ideal.div
  rw [if_neg (by exact_mod_cast h), EReal.coe_mul, EReal.coe_inv]

/-- An extended real whose absolute value is below the top one is a real. -/
theorem real_of_abs_lt (a : EReal) (h : max a (-a) < ⊤) : ∃ r : ℝ, (r : EReal) = a := by
  induction a with
  | bot => simp at h
  | top => simp at h
  | coe r => exact ⟨r, rfl⟩

/-- The largest of finitely many reals, the fold begun at the bottom, is a real. -/
theorem max_real {n : ℕ} (h : 0 < n) (s : Fin n → ℝ) :
    ∃ r : ℝ, (r : EReal) = Finset.univ.fold max (⊥ : EReal) fun i => ((s i : ℝ) : EReal) := by
  have hb : (⊥ : EReal) < Finset.univ.fold max (⊥ : EReal) fun i => ((s i : ℝ) : EReal) :=
    lt_of_lt_of_le (EReal.bot_lt_coe (s ⟨0, h⟩)) ((Finset.le_fold_max _).2 (Or.inr ⟨⟨0, h⟩, Finset.mem_univ _, le_rfl⟩))
  have ht : (Finset.univ.fold max (⊥ : EReal) fun i => ((s i : ℝ) : EReal)) < ⊤ :=
    (Finset.fold_max_lt _).2 ⟨bot_lt_top, fun i _ => EReal.coe_lt_top _⟩
  exact ⟨_, EReal.coe_toReal ht.ne hb.ne'⟩

/-- The single-precision pattern of minus infinity. -/
theorem neg_inf : Ideal.ofBits .f32 0xFF800000#32 = (⊥ : EReal) := by
  simp [Ideal.ofBits, Ideal.ieee]

/-- The single-precision pattern of plus infinity. -/
theorem pos_inf : Ideal.ofBits .f32 0x7F800000#32 = (⊤ : EReal) := by
  simp [Ideal.ofBits, Ideal.ieee]

/-- A single-precision pattern whose exponent field is not full is a real. -/
theorem pattern_real (b : BitVec 32) (h : (b.extractLsb' 23 8).toNat ≠ 255) : ∃ c : ℝ, (c : EReal) = Ideal.ofBits .f32 b := by
  simp only [Ideal.ofBits, Ideal.ieee]
  rw [if_neg (by simpa using h)]
  split_ifs
  · exact ⟨_, rfl⟩
  · exact ⟨_, rfl⟩
  · exact ⟨_, rfl⟩
  · exact ⟨_, rfl⟩

end Cert.Proof.Reals
-- ==== Proof.Ctx.Equal.lean ====
module

public import proofs.«01_k».proof.Proof.Ctx.Ref
public import proofs.«01_k».proof.Proof.Reals

@[expose] public section

set_option maxRecDepth 16384

noncomputable section

open Idealize.ShloMosaic Idealize.ShloMosaic.TcCoe Idealize.SL.Sem

namespace Cert.Proof.Ctx

open Cert.Proof.Reals

/-- The scale of the scores is a real. -/
theorem scale_real : ∃ c : ℝ, (c : EReal) = Ideal.ofBits .f32 0x3DB504F3#32 :=
  pattern_real _ (by decide)

/-- Of a row of real scores and real values: dividing each weight by the row's sum before the weighted sum, or the weighted
    sum after it, is the same. -/
theorem softmax_eq (s v : Fin 256 → ℝ) :
    ∑ j : Fin 256, ((v j : ℝ) : EReal) * Ideal.div (expo (fun j => ((s j : ℝ) : EReal)) j) (∑ j', expo (fun j => ((s j : ℝ) : EReal)) j')
      = Ideal.div (∑ j, expo (fun j => ((s j : ℝ) : EReal)) j * ((v j : ℝ) : EReal)) (∑ j, expo (fun j => ((s j : ℝ) : EReal)) j) := by
  obtain ⟨M, hM⟩ := max_real (by decide) s
  have he : ∀ j, expo (fun j => ((s j : ℝ) : EReal)) j = ((Real.exp (s j - M) : ℝ) : EReal) := by
    intro j
    unfold expo
    rw [neg_inf, ← hM, ← EReal.coe_sub, Ideal.exp_coe]
  have hp : (∑ j : Fin 256, Real.exp (s j - M)) ≠ 0 :=
    (Finset.sum_pos (fun j _ => Real.exp_pos _) ⟨0, Finset.mem_univ _⟩).ne'
  simp only [he]
  simp only [← EReal.coe_mul, ← coe_sum, div_real _ _ hp]
  rw [Finset.sum_mul]
  exact congrArg _ (Finset.sum_congr rfl fun j _ => by ring)

/-- Of real operands the kernel's scores and the reference's are one real: the scale commutes. -/
theorem score_eq (c : ℝ) (hc : (c : EReal) = Ideal.ofBits .f32 0x3DB504F3#32) (q k : Fin 256 → Fin 2048 → ℝ) (h : Fin 16) (r j : Fin 256) :
    score (fun r l => ((q r l : ℝ) : EReal)) (fun r l => ((k r l : ℝ) : EReal)) h r j
      = (((∑ d : Fin 128, q r ⟨h.val * 128 + d.val, by omega⟩ * k j ⟨h.val * 128 + d.val, by omega⟩) * c : ℝ) : EReal) := by
  unfold score
  rw [← hc]
  simp only [← EReal.coe_mul, ← coe_sum]
  rw [Finset.sum_mul]
  exact congrArg _ (Finset.sum_congr rfl fun d _ => by ring)

/-- Of a real array the reference's result is the kernel's. -/
theorem ref_eq (P : Cert.CtxRefIdeal.S16384x6144.Idx → ℝ) (i : Fin 8192) (l : Fin 2048) :
    Cert.CtxRefIdeal.Read.val_main_v25 (F := Ideal) (fun i => ((P i : ℝ) : EReal)) (ix2 i l) = ctx (fun i => ((P i : ℝ) : EReal)) i l := by
  obtain ⟨c, hc⟩ := scale_real
  rw [ref_out]
  simp only [ref_expo, ref_score]
  unfold ctx attn
  have hs : ∀ r j, score (part (fun i => ((P i : ℝ) : EReal)) 0 ⟨i.val / 256, by omega⟩) (part (fun i => ((P i : ℝ) : EReal)) 1 ⟨i.val / 256, by omega⟩) ⟨l.val / 128, by omega⟩ r j = _ :=
    fun r j => score_eq c hc (fun r l' => P (ix2 ⟨i.val / 256 * 256 + r.val, by omega⟩ ⟨0 * 2048 + l'.val, by omega⟩)) (fun r l' => P (ix2 ⟨i.val / 256 * 256 + r.val, by omega⟩ ⟨1 * 2048 + l'.val, by omega⟩)) _ r j
  have hl : l.val / 128 * 128 + l.val % 128 = l.val := by omega
  simp only [funext (hs _), hl]
  rw [← hc]
  simp only [part, ← EReal.coe_mul, ← coe_sum]
  exact softmax_eq _ _

end Cert.Proof.Ctx
-- ==== Proof.Ctx.Claim.lean ====
module

public import proofs.«01_k».proof.Proof.Ctx.Equal
public import proofs.«01_k».proof.Proof.Gen.Ctx.Frame
public import proofs.«01_k».proof.Proof.Gen.CtxIdeal.Frame
public import proofs.«01_k».proof.Proof.Gen.CtxRefIdeal.Run
public import Idealize.ShloMosaic.Lib.ReduceAll

@[expose] public section

set_option maxRecDepth 16384

noncomputable section

open Idealize.ShloMosaic Idealize.ShloMosaic.TcCoe Idealize.SL.Sem

namespace Cert.Proof.Ctx

/-- The shape relations of the printed precondition. -/
instance preFacts : Cert.Pre_finite.Facts := ⟨by decide, by decide, by decide⟩

/-- An array on which the precondition holds is an array of reals. -/
theorem reals_of_pre (x : Cert.Pre_finite.S16384x6144.Idx → EReal) (h : Cert.Pre_finite.fn (F := Ideal) x = fun _ => 1#1) :
    ∃ P : Cert.Pre_finite.S16384x6144.Idx → ℝ, x = fun i => ((P i : ℝ) : EReal) := by
  have hi : ∀ i, ∃ r : ℝ, (r : EReal) = x i := by
    intro i
    have h0 := congrFun h (Shape.Idx.first Cert.Pre_finite.Facts.h_S_)
    unfold Cert.Pre_finite.fn at h0
    haveI : Subsingleton Cert.Pre_finite.S_.Idx := ⟨fun a b => funext fun k => k.elim0⟩
    have h1 := Host.reduce_andi_all _ _ _ _ _ h0 i
    refine Reals.real_of_abs_lt _ ?_
    rw [← Reals.pos_inf]
    by_contra hn
    have h2 : BitVec.ofBool (decide (max (x i) (-(x i)) < Ideal.ofBits .f32 0x7F800000#32)) = 1#1 := h1
    rw [decide_eq_false hn] at h2
    exact absurd h2 (by decide)
  exact ⟨fun i => (hi i).choose, funext fun i => ((hi i).choose_spec).symm⟩

/-- On an array the precondition admits the two whole results agree. -/
theorem arr_eq (x y : Cert.CtxRefIdeal.S16384x6144.Idx → EReal) (e : x = y)
    (h : Cert.Pre_finite.fn (F := Ideal) y = fun _ => 1#1) :
    Cert.CtxRefIdeal.Read.val_main_v25 (F := Ideal) x = fun i : Cert.CtxIdeal.S8192x2048.Idx => ctx y (i 0) (i 1) := by
  subst e
  obtain ⟨P, rfl⟩ := reals_of_pre _ h
  funext i
  idx_vars i
  exact ref_eq P i0 i1

/-- The attention call at the ideal instance computes the reference's attention. -/
theorem value : Cert.algebraic_CtxIdeal_CtxRefIdeal_pre_finite := by
  intro m ρ m' ρ' hpre hagree
  refine ⟨fun c => fun i : Cert.CtxIdeal.S8192x2048.Idx => ctx (m ((c.tc : Thread Cert.CtxIdeal.nD Cert.CtxIdeal.τ).loc Cert.CtxIdeal.main_arg0)) (i 0) (i 1), ?_, ?_⟩
  · exact (θ_run Cert.CtxIdeal.defs _ _).mono (fun r h c => ⟨(h c).1.trans (out_eq m c), (h c).2⟩) (Cert.CtxIdeal.Value.run_blocks (F := Ideal) m ρ)
  · refine (θ_run Cert.CtxRefIdeal.defs _ _).mono (fun _ h c => ⟨(h c).1.trans ?_, (h c).2⟩) (Cert.CtxRefIdeal.Value.run (F := Ideal) m' ρ')
    refine (Cert.CtxRefIdeal.Read.val_main_v25_eq m' c).trans ?_
    exact arr_eq _ _ (hagree c) (hpre c)

/-- The reference runs and leaves its argument. -/
theorem ref_quiescent : Cert.quiescent_CtxRefIdeal := fun m ρ _ =>
  (θ_run Cert.CtxRefIdeal.defs _ _).mono (fun r h => ⟨fun c => (h c).2, Idealize.ShloMosaic.sem_eq_zero_of_no_sems (by decide) r.2⟩)
    (Cert.CtxRefIdeal.Value.run (F := Ideal) m ρ)

end Cert.Proof.Ctx
-- ==== Proof.Norm.Rms.lean ====
module

public import Idealize.ShloMosaic.Lib.Pointwise

@[expose] public section

noncomputable section

open Idealize.ShloMosaic

namespace Cert.Proof.Norm

/-- The normalised row at an element: the row divided by its root mean square, times the gain. -/
def rms (x : Shape.Idx ⟨2, ![16384, 2048]⟩ → EReal) (g : Shape.Idx ⟨1, ![2048]⟩ → EReal) (r : Fin 16384) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g (ix1 l)

end Cert.Proof.Norm
-- ==== Proof.Norm.Modulated.lean ====
module

public import proofs.«01_k».proof.Proof.Norm.Rms

@[expose] public section

noncomputable section

open Idealize.ShloMosaic

namespace Cert.Proof.Norm

/-- The conditioning vector of a row: the context rows share the first, each latent sequence of `2048` rows has its own. -/
def condRow (r : Fin 16384) : Fin 8 :=
  ⟨if r.val < 8192 then 0 else 1 + (r.val - 8192) / 2048, by split <;> omega⟩

/-- The normalised row, scaled and shifted by two rows of the row's conditioning. The gain, the shift and the scale are
    those of one layer. -/
def modulated (x : Shape.Idx ⟨2, ![16384, 2048]⟩ → EReal) (g : Fin 2048 → EReal) (shift scale : Fin 8 → Fin 2048 → EReal)
    (r : Fin 16384) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g l * (1 + scale (condRow r) l) + shift (condRow r) l

end Cert.Proof.Norm
-- ==== Proof.Loads.lean ====
module

public import Idealize.ShloMosaic.Lib.Pipeline.ValueKit

@[expose] public section

noncomputable section

open Idealize.ShloMosaic

namespace Cert.Proof.Loads

/-- A load of a whole scratch after several stores reads what the stores leave. -/
theorem load_whole {sig : RefSig} {κ : Kind} {sp : Space} {S : Shape} {e : EltTy} {Val : EltTy → Type} [∀ e, Nonempty (Val e)]
    (v : View sig κ sp S e) (L : List (View.Piece Val S e)) {off : Fin S.rank → ℕ} (inb : ∀ a, off a + S.size a ≤ S.size a)
    (h : ∀ a, off a = 0) : v.readCov L (Rect.unit off S.size inb).toLoadRect = View.canon L :=
  (View.readCov_eq_canon' v L _).trans (View.ld_unit_lit inb (View.canon L) h)

/-- A family of two coordinates read at an index whose coordinates are known. -/
theorem at_coords {A B : ℕ} {α : Type} (f : Fin A → Fin B → α) (i a : Fin A) (j b : Fin B) (h : i.val = a.val) (h' : j.val = b.val) :
    f i j = f a b := by
  rw [Fin.ext h, Fin.ext h']

end Cert.Proof.Loads
-- ==== Proof.Proj.Kernel.lean ====
module

public import proofs.«01_k».proof.Defs
public import proofs.«01_k».proof.Proof.Gen.ProjIdeal.Value
public import proofs.«01_k».proof.Proof.Norm.Modulated
public import proofs.«01_k».proof.Proof.Loads
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Proj

open Cert.ProjIdeal Cert.ProjIdeal.Gen Cert.Proof.Norm

/-- The projection's left operand at a row and lane: the normalised and modulated row of layer `1`. -/
def left (x : S16384x2048.Idx → EReal) (g : S4x2x2048.Idx → EReal) (e : S4x8x6x2048.Idx → EReal) (r : Fin 16384) (l : Fin 2048) : EReal :=
  modulated x (fun l => g (ix3 1 0 l)) (fun n l => e (ix4 1 n 0 l)) (fun n l => e (ix4 1 n 1 l)) r l

/-- The projection at a row and lane. -/
def proj (x : S16384x2048.Idx → EReal) (g : S4x2x2048.Idx → EReal) (e : S4x8x6x2048.Idx → EReal) (w : S2x2048x6144.Idx → EReal)
    (r : Fin 16384) (l : Fin 6144) : EReal :=
  ∑ k : Fin 2048, left x g e r k * w (ix3 0 k l)

variable (m : (ℓ : Loc nD τ sig) → Buf (Elt Ideal) ℓ)

/-- The blocks the windows take at an instance: `6` column blocks to a row block. -/
theorem idx : ∀ t : Fin grid0.N, win0_0.index t = ![t.val / 6, 0] ∧ win0_1.index t = ![2, 0, 0]
    ∧ win0_2.index t = ![1, if t.val / 6 < 8 then 0 else 1 + (t.val / 6 - 8) / 2, 0, 0]
    ∧ win0_3.index t = ![0, 0, t.val % 6] ∧ win0_4.index t = ![t.val / 6, t.val % 6] := by
  decide +kernel

/-- The modulated block of a row block, of the blocks loaded. -/
def blockLeft (x : S1024x2048.Idx → EReal) (g : S1x1x2048.Idx → EReal) (e : S1x1x6x2048.Idx → EReal) (r : Fin 1024) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g (ix3 0 0 l) * (1 + e (ix4 0 0 1 l)) + e (ix4 0 0 0 l)

/-- The first column block of a row block fills the scratch with the modulated rows. -/
theorem filled (c : Dev nD) (t : Fin cfg0.N) (h : t.val % 6 = 0) (y : S1024x2048.Idx) :
    (outsAt0 m c t.val t.isLt).2 y = blockLeft (iblk m c 0 t) (iblk m c 1 t) (iblk m c 2 t) (y 0) (y 1) := by
  rw [outsAt0_A m c t h]
  frame_out
  canon_tiles x h
  · idx_vars x
    rw [Loads.at_coords (blockLeft (iblk m c 0 t) (iblk m c 1 t) (iblk m c 2 t)) (y 0) ⟨768 + x0.val, by omega⟩ (y 1) x1 h0 h1]
    pointwise [k0_pay1, k0_pay10, k0_pay11, k0_pay9, k0_pay7, k0_pay8, k0_pay6, k0_pay4, k0_pay5, k0_pay3, blockLeft]
  · idx_vars x
    rw [Loads.at_coords (blockLeft (iblk m c 0 t) (iblk m c 1 t) (iblk m c 2 t)) (y 0) ⟨512 + x0.val, by omega⟩ (y 1) x1 h0 h1]
    pointwise [k0_pay1, k0_pay10, k0_pay11, k0_pay9, k0_pay7, k0_pay8, k0_pay6, k0_pay4, k0_pay5, k0_pay3, blockLeft]
  · idx_vars x
    rw [Loads.at_coords (blockLeft (iblk m c 0 t) (iblk m c 1 t) (iblk m c 2 t)) (y 0) ⟨256 + x0.val, by omega⟩ (y 1) x1 h0 h1]
    pointwise [k0_pay1, k0_pay10, k0_pay11, k0_pay9, k0_pay7, k0_pay8, k0_pay6, k0_pay4, k0_pay5, k0_pay3, blockLeft]
  · idx_vars x
    rw [Loads.at_coords (blockLeft (iblk m c 0 t) (iblk m c 1 t) (iblk m c 2 t)) (y 0) ⟨0 + x0.val, by omega⟩ (y 1) x1 (h0.trans (Nat.zero_add _).symm) h1]
    pointwise [k0_pay1, k0_pay10, k0_pay11, k0_pay9, k0_pay7, k0_pay8, k0_pay6, k0_pay4, k0_pay5, k0_pay3, blockLeft]

/-- The other column blocks leave the scratch as it is. -/
theorem kept (c : Dev nD) (t : Fin cfg0.N) (h : ¬t.val % 6 = 0) (y : S1024x2048.Idx) :
    (outsAt0 m c t.val t.isLt).2 y = (outsAt0 m c (t.val - 1) (Nat.lt_of_le_of_lt (Nat.sub_le _ _) t.isLt)).2 y := by
  rw [outsAt0_B m c t h]
  rfl

/-- What an instance stores: the product of the scratch and its weight block. -/
theorem stored (c : Dev nD) (t : Fin cfg0.N) :
    (outsAt0 m c t.val t.isLt).1 = k0_pay2 (outsAt0 m c t.val t.isLt).2 (iblk m c 3 t) := by
  by_cases h : t.val % 6 = 0
  · rw [outsAt0_A m c t h]
    frame_out
    refine congrArg (fun z => k0_pay2 z (iblk m c 3 t)) ?_
    exact Loads.load_whole _ _ _ (by decide)
  · rw [outsAt0_B m c t h]
    frame_out
    simp only [read_unread_whole]
    rfl

/-- The row block an instance loads. -/
theorem block0 (c : Dev nD) (t : Fin cfg0.N) (r : Fin 1024) (l : Fin 2048) :
    iblk m c 0 t (ix2 r l) = m ((c : Thread nD τ).loc main_arg0) (ix2 ⟨t.val / 6 * 1024 + r.val, by have : t.val < 96 := t.isLt; omega⟩ l) := by
  blk_point [iblk, V, idx t]

/-- The gain is layer `1`'s first. -/
theorem block1 (c : Dev nD) (t : Fin cfg0.N) (l : Fin 2048) :
    iblk m c 1 t (ix3 0 0 l) = m ((c : Thread nD τ).loc main_arg1) (ix3 1 0 l) := by
  have e : (((cfg0.win 1).blk t).view.emb (ix3 0 0 l)) = (ix3 2 0 l : S8x1x2048.Idx) := by
    funext a
    fin_cases a
    · exact Fin.ext (by blk_simp [idx t] <;> rfl)
    · exact Fin.ext (by blk_simp [idx t] <;> rfl)
    · exact Fin.ext (by blk_simp [idx t] <;> rfl)
  have h : iblk m c 1 t (ix3 0 0 l) = V m c main_v0 (((cfg0.win 1).blk t).view.emb (ix3 0 0 l)) := rfl
  rw [h, e]
  entry_read
  pointwise []

/-- The conditioning of an instance's rows. -/
theorem block2 (c : Dev nD) (t : Fin cfg0.N) (r : Fin 1024) (s : Fin 6) (l : Fin 2048) :
    iblk m c 2 t (ix4 0 0 s l) = m ((c : Thread nD τ).loc main_arg2)
      (ix4 1 (condRow ⟨t.val / 6 * 1024 + r.val, by have : t.val < 96 := t.isLt; omega⟩) s l) := by
  have ht : t.val < 96 := t.isLt
  have e : (((cfg0.win 2).blk t).view.emb (ix4 0 0 s l))
      = (ix4 1 (condRow ⟨t.val / 6 * 1024 + r.val, by omega⟩) s l : S4x8x6x2048.Idx) := by
    funext a
    fin_cases a
    · exact Fin.ext (by blk_simp [idx t] <;> rfl)
    · refine Fin.ext ?_
      blk_simp [idx t]
      show (if t.val / 6 < 8 then 0 else 1 + (t.val / 6 - 8) / 2)
        = if t.val / 6 * 1024 + r.val < 8192 then 0 else 1 + (t.val / 6 * 1024 + r.val - 8192) / 2048
      split_ifs <;> omega
    · exact Fin.ext (by blk_simp [idx t] <;> rfl)
    · exact Fin.ext (by blk_simp [idx t] <;> rfl)
  have h : iblk m c 2 t (ix4 0 0 s l) = V m c main_arg2 (((cfg0.win 2).blk t).view.emb (ix4 0 0 s l)) := rfl
  rw [h, e]
  rfl

/-- The weight block an instance loads. -/
theorem block3 (c : Dev nD) (t : Fin cfg0.N) (k : Fin 2048) (l : Fin 1024) :
    iblk m c 3 t (ix3 0 k l) = m ((c : Thread nD τ).loc main_arg3) (ix3 0 k ⟨t.val % 6 * 1024 + l.val, by omega⟩) := by
  blk_point [iblk, idx t]

/-- The scratch at an instance: the modulated rows of its row block. -/
theorem scratch (c : Dev nD) (t : Fin cfg0.N) (r : Fin 1024) (l : Fin 2048) :
    (outsAt0 m c t.val t.isLt).2 (ix2 r l) = left (m ((c : Thread nD τ).loc main_arg0)) (m ((c : Thread nD τ).loc main_arg1))
      (m ((c : Thread nD τ).loc main_arg2)) ⟨t.val / 6 * 1024 + r.val, by have : t.val < 96 := t.isLt; omega⟩ l := by
  rw [Pipeline.eq_of_write_hold_apply (fun n h => (outsAt0 m c n h).2) 6 (fun t y => blockLeft (iblk m c 0 t) (iblk m c 1 t) (iblk m c 2 t) (y 0) (y 1))
    (fun t h y => filled m c t h y) (fun t h y => kept m c t h y) t (ix2 r l)]
  show blockLeft _ _ _ r l = _
  unfold blockLeft left modulated
  simp only [block0, block1, block2 m c _ r]
  have e : 6 * (t.val / 6) / 6 = t.val / 6 := by omega
  simp only [e]

/-- The result array after the run. -/
theorem out_eq (c : Dev nD) : (dats m 0 c).arrAt 4 cfg0.N
    = fun i : S16384x6144.Idx => proj (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp
  rw [after0_4, stored]
  idx_vars y
  have ht : t.val < 96 := t.isLt
  have e0 : ((((View.whole main_v2).slice (win0_4.rect t)).emb (ix2 y0 y1) 0 : Fin 16384) : ℕ) = t.val / 6 * 1024 + y0.val := by
    blk_point [idx t]
  have e1 : ((((View.whole main_v2).slice (win0_4.rect t)).emb (ix2 y0 y1) 1 : Fin 6144) : ℕ) = t.val % 6 * 1024 + y1.val := by
    blk_point [idx t]
  pointwise [k0_pay2]
  simp only [scratch, block3]
  refine Eq.trans ?_ (Loads.at_coords (proj (m ((c : Thread nD τ).loc main_arg0)) (m ((c : Thread nD τ).loc main_arg1))
      (m ((c : Thread nD τ).loc main_arg2)) (m ((c : Thread nD τ).loc main_arg3))) _ ⟨t.val / 6 * 1024 + y0.val, by omega⟩
    _ ⟨t.val % 6 * 1024 + y1.val, by omega⟩ e0 e1).symm
  rfl

end Cert.Proof.Proj
-- ==== Proof.Proj.Ref.lean ====
module

public import proofs.«01_k».proof.Proof.Proj.Kernel
public import proofs.«01_k».proof.Proof.Gen.ProjRefIdeal.Read

@[expose] public section

set_option maxRecDepth 16384

noncomputable section

open Idealize.ShloMosaic Idealize.ShloMosaic.TcCoe Idealize.SL.Sem

namespace Cert.Proof.Proj

open Cert.ProjRefIdeal Cert.ProjRefIdeal.Gen Cert.ProjRefIdeal.Read Cert.Proof.Norm

/-- The reference's modulated context rows. -/
theorem ref_context (x : FVec Ideal S16384x2048 .f32) (g : FVec Ideal S4x2x2048 .f32) (e : FVec Ideal S4x8x6x2048 .f32)
    (b : Fin 32) (r : Fin 256) (l : Fin 2048) :
    val_main_v34 (F := Ideal) x g e (ix3 b r l) = left x g e ⟨b.val * 256 + r.val, by omega⟩ l := by
  have hc : condRow ⟨b.val * 256 + r.val, by omega⟩ = 0 := Fin.ext (if_pos (show b.val * 256 + r.val < 8192 by omega))
  unfold left modulated
  rw [hc]
  pointwise [val_main_v34, val_main_v33, val_main_v32, val_main_v31, val_main_v30, val_main_v29, val_main_v28, val_main_v27, val_main_cst_2, val_main_v26, val_main_v25, val_main_v24, val_main_v23, val_main_v22, val_main_v21, val_main_v20, val_main_v19, val_main_v18, val_main_v17, val_main_v16, val_main_v15, val_main_v14, val_main_v13, val_main_v12, val_main_v9, val_main_v8, val_main_v5, val_main_v4, val_main_v3, val_main_v2, val_main_v1, val_main_v0, val_main_cst, val_main_cst_0, val_main_cst_1]

/-- The reference's modulated latent rows. -/
theorem ref_latent (x : FVec Ideal S16384x2048 .f32) (g : FVec Ideal S4x2x2048 .f32) (e : FVec Ideal S4x8x6x2048 .f32)
    (b : Fin 4) (r : Fin 2048) (l : Fin 2048) :
    val_main_v57 (F := Ideal) x g e (ix3 b r l) = left x g e ⟨8192 + (b.val * 2048 + r.val), by omega⟩ l := by
  have hc : condRow ⟨8192 + (b.val * 2048 + r.val), by omega⟩ = ⟨1 + b.val, by omega⟩ := Fin.ext
    ((if_neg (show ¬8192 + (b.val * 2048 + r.val) < 8192 by omega)).trans (show 1 + (8192 + (b.val * 2048 + r.val) - 8192) / 2048 = 1 + b.val by omega))
  unfold left modulated
  rw [hc]
  pointwise [val_main_v57, val_main_v56, val_main_v55, val_main_v54, val_main_v53, val_main_v52, val_main_v51, val_main_v50, val_main_cst_6, val_main_v49, val_main_v48, val_main_v47, val_main_v46, val_main_v45, val_main_v44, val_main_v43, val_main_v42, val_main_v41, val_main_v40, val_main_v39, val_main_v38, val_main_v37, val_main_v36, val_main_v35, val_main_v11, val_main_v10, val_main_v7, val_main_v6, val_main_v3, val_main_v2, val_main_v1, val_main_v0, val_main_cst_3, val_main_cst_4, val_main_cst_5]

end Cert.Proof.Proj
-- ==== Proof.Proj.Claim.lean ====
module

public import proofs.«01_k».proof.Proof.Proj.Ref
public import proofs.«01_k».proof.Proof.Gen.ProjRefIdeal.Run

@[expose] public section

set_option maxRecDepth 16384

noncomputable section

open Idealize.ShloMosaic Idealize.ShloMosaic.TcCoe Idealize.SL.Sem

namespace Cert.Proof.Proj

open Cert.ProjRefIdeal.Read Cert.ProjRefIdeal.Gen

/-- The reference's context rows of the projection. -/
theorem ref_dot_context (x : Cert.ProjRefIdeal.S16384x2048.Idx → EReal) (g : Cert.ProjRefIdeal.S4x2x2048.Idx → EReal)
    (e : Cert.ProjRefIdeal.S4x8x6x2048.Idx → EReal) (w : Cert.ProjRefIdeal.S2x2048x6144.Idx → EReal)
    (b : Fin 32) (r : Fin 256) (l : Fin 6144) :
    val_main_v60 (F := Ideal) x g e w (ix3 b r l) = proj x g e w ⟨b.val * 256 + r.val, by omega⟩ l := by
  unfold proj
  simp only [← ref_context]
  unfold val_main_v60
  generalize val_main_v34 (F := Ideal) x g e = y
  pointwise [val_main_v59, val_main_v58]

/-- The reference's latent rows of the projection. -/
theorem ref_dot_latent (x : Cert.ProjRefIdeal.S16384x2048.Idx → EReal) (g : Cert.ProjRefIdeal.S4x2x2048.Idx → EReal)
    (e : Cert.ProjRefIdeal.S4x8x6x2048.Idx → EReal) (w : Cert.ProjRefIdeal.S2x2048x6144.Idx → EReal)
    (b : Fin 4) (r : Fin 2048) (l : Fin 6144) :
    val_main_v64 (F := Ideal) x g e w (ix3 b r l) = proj x g e w ⟨8192 + (b.val * 2048 + r.val), by omega⟩ l := by
  unfold proj
  simp only [← ref_latent]
  unfold val_main_v64
  generalize val_main_v57 (F := Ideal) x g e = y
  pointwise [val_main_v63, val_main_v62]

/-- The reference's result at an element. -/
theorem ref_eq (x : Cert.ProjRefIdeal.S16384x2048.Idx → EReal) (g : Cert.ProjRefIdeal.S4x2x2048.Idx → EReal)
    (e : Cert.ProjRefIdeal.S4x8x6x2048.Idx → EReal) (w : Cert.ProjRefIdeal.S2x2048x6144.Idx → EReal) :
    val_main_v66 (F := Ideal) x g e w = fun i : Cert.ProjRefIdeal.S16384x6144.Idx => proj x g e w (i 0) (i 1) := by
  funext i
  idx_vars i
  show _ = proj x g e w i0 i1
  unfold val_main_v66 val_main_v61 val_main_v65
  have hc := fun b r => ref_dot_context x g e w b r i1
  have hl := fun b r => ref_dot_latent x g e w b r i1
  generalize val_main_v60 (F := Ideal) x g e w = y at hc ⊢
  generalize val_main_v64 (F := Ideal) x g e w = z at hl ⊢
  by_cases h : i0.val < 8192
  · have hd := Nat.div_add_mod i0.val 256
    refine Eq.trans (b := y (ix3 ⟨i0.val / 256, by omega⟩ ⟨i0.val % 256, by omega⟩ i1)) ?_ ((hc _ _).trans (congrArg (fun r => proj x g e w r i1) (Fin.ext (show i0.val / 256 * 256 + i0.val % 256 = i0.val by omega))))
    pointwise []
    exact dif_pos h
  · have hd := Nat.div_add_mod (i0.val - 8192) 2048
    refine Eq.trans (b := z (ix3 ⟨(i0.val - 8192) / 2048, by omega⟩ ⟨(i0.val - 8192) % 2048, by omega⟩ i1)) ?_
      ((hl _ _).trans (congrArg (fun r => proj x g e w r i1) (Fin.ext (show 8192 + ((i0.val - 8192) / 2048 * 2048 + (i0.val - 8192) % 2048) = i0.val by omega))))
    pointwise []
    exact dif_neg h

/-- The projection call at the ideal instance computes the reference's projection. -/
theorem value : Cert.algebraic_ProjIdeal_ProjRefIdeal := by
  intro m ρ m' ρ' _ hagree
  refine ⟨fun c => fun i : Cert.ProjIdeal.S16384x6144.Idx => proj (m ((c.tc : Thread Cert.ProjIdeal.nD Cert.ProjIdeal.τ).loc Cert.ProjIdeal.main_arg0))
    (m ((c.tc : Thread Cert.ProjIdeal.nD Cert.ProjIdeal.τ).loc Cert.ProjIdeal.main_arg1)) (m ((c.tc : Thread Cert.ProjIdeal.nD Cert.ProjIdeal.τ).loc Cert.ProjIdeal.main_arg2))
    (m ((c.tc : Thread Cert.ProjIdeal.nD Cert.ProjIdeal.τ).loc Cert.ProjIdeal.main_arg3)) (i 0) (i 1), ?_, ?_⟩
  · exact (θ_run Cert.ProjIdeal.defs _ _).mono (fun r h c => ⟨(h c).1.trans (out_eq m c), (h c).2⟩) (Cert.ProjIdeal.Value.run_blocks (F := Ideal) m ρ)
  · refine (θ_run Cert.ProjRefIdeal.defs _ _).mono (fun _ h c => ⟨(h c).1.trans ?_, (h c).2⟩) (Cert.ProjRefIdeal.Value.run (F := Ideal) m' ρ')
    refine (val_main_v66_eq m' c).trans ((ref_eq _ _ _ _).trans ?_)
    rw [(hagree c).1, (hagree c).2.1, (hagree c).2.2.1, (hagree c).2.2.2]

/-- The reference runs and leaves its arguments. -/
theorem ref_quiescent : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

end Cert.Proof.Proj
-- ==== Proof.Proje.RunIdeal.lean ====
module

public import proofs.«01_k».proof.Proof.Gen.ProjeIdeal.Skeleton
public import proofs.«01_k».proof.Proof.Gen.ProjeIdeal.Frame
public import Idealize.ShloMosaic.Lib.Claim
public import Idealize.ShloMosaic.Lib.Pipeline.TableIdle

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.ProjeIdeal.Run

open Cert.ProjeIdeal Cert.ProjeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is taken at a row block's first column block. -/
theorem taken : ∀ t : Fin cfg0.N, k0_cond1 (grid0.coords t) = 1#1 ↔ t.val % 8 = 0 :=
  (by decide +kernel : ∀ t : Fin grid0.N, k0_cond1 (grid0.coords t) = 1#1 ↔ t.val % 8 = 0)

/-- Window 0's buffer at an instance, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
/-- Window 1's buffer at an instance, and that it is a whole buffer. -/
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
/-- Window 2's buffer at an instance, and that it is a whole buffer. -/
abbrev ms0_2 (t : Fin cfg0.N) : Memref sig .tc .vmem S1x1x6x2048 .f32 := win0_2.stage (cfg0.slots t 2)
abbrev hs0_2 (t : Fin cfg0.N) : (ms0_2 t).IsWhole := hstage0_2 ((cfg0.slots t 2).cast nbuf0_2)
/-- Window 3's buffer at an instance, and that it is a whole buffer. -/
abbrev ms0_3 (t : Fin cfg0.N) : Memref sig .tc .vmem S1x2048x1024 .bf16 := win0_3.stage (cfg0.slots t 3)
abbrev hs0_3 (t : Fin cfg0.N) : (ms0_3 t).IsWhole := hstage0_3 ((cfg0.slots t 3).cast nbuf0_3)
/-- Window 4's buffer at an instance, and that it is a whole buffer. -/
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
/-- Window 5's buffer at an instance, and that it is a whole buffer. -/
abbrev ms0_5 (t : Fin cfg0.N) : Memref sig .tc .vmem S1x2x128 .f32 := win0_5.stage (cfg0.slots t 5)
abbrev hs0_5 (t : Fin cfg0.N) : (ms0_5 t).IsWhole := hstage0_5 ((cfg0.slots t 5).cast nbuf0_5)
/-- Window 6's buffer at an instance, and that it is a whole buffer. -/
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- Window 7's buffer at an instance, and that it is a whole buffer. -/
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The left operand's scratch buffer. -/
abbrev scM0_0 : Memref sig .tc .vmem S1024x2048 .bf16 := Memref.whole cc0_scratch0
/-- One buffer of each kind, through which contents are stated. -/
abbrev VO6 : View sig .tc .vmem S1024x1024 .f32 := (Memref.whole cc0_stg6_0 : Memref sig .tc .vmem S1024x1024 .f32).view
abbrev VO7 : View sig .tc .vmem S1024x128 .f32 := (Memref.whole cc0_stg7_0 : Memref sig .tc .vmem S1024x128 .f32).view
abbrev VS : View sig .tc .vmem S1024x2048 .bf16 := scM0_0.view

/-- The invariant the region starts from: the scratch buffer at anything, and the generator's register. -/
theorem start_eq (c : Dev nD) :
    (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

set_option maxHeartbeats 4000000 in
/-- The body where the branch is taken: the pieces it leaves in the two results' buffers and the scratch, with the proof that it runs. -/
def runFirst (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x6x2048 .f32) (harg4 : arg4.IsWhole) (arg5 : Memref sig .tc .vmem S1x2048x1024 .bf16) (harg5 : arg5.IsWhole) (arg6 : Memref sig .tc .vmem S1x2048x128 .bf16) (harg6 : arg6.IsWhole) (arg7 : Memref sig .tc .vmem S1x2x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : k0_cond1 i = 1#1)
    (x0 : Vec F S1024x2048 .f32) (x1 : Vec F S1x1x2048 .f32) (x2 : Vec F S1x1x6x2048 .f32) (x3 : Vec F S1x2048x1024 .bf16) (x4 : Vec F S1x2048x128 .bf16) (x5 : Vec F S1x2x128 .f32) :
    Σ' (L6 : List (View.Piece (Elt F) S1024x1024 .f32)) (L7 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 4000000 in
/-- The body elsewhere: it reads the scratch, stores the first result's block, and leaves the gates' buffer alone. -/
def runLater (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x6x2048 .f32) (harg4 : arg4.IsWhole) (arg5 : Memref sig .tc .vmem S1x2048x1024 .bf16) (harg5 : arg5.IsWhole) (arg6 : Memref sig .tc .vmem S1x2048x128 .bf16) (harg6 : arg6.IsWhole) (arg7 : Memref sig .tc .vmem S1x2x128 .f32) (harg7 : arg7.IsWhole) (arg8 : Memref sig .tc .vmem S1024x1024 .f32) (harg8 : arg8.IsWhole) (arg9 : Memref sig .tc .vmem S1024x128 .f32) (harg9 : arg9.IsWhole) (arg10 : Memref sig .tc .vmem S1024x2048 .bf16) (harg10 : arg10.IsWhole) (hc0 : ¬k0_cond1 i = 1#1)
    (x0 : Vec F S1024x2048 .f32) (x1 : Vec F S1x1x2048 .f32) (x2 : Vec F S1x1x6x2048 .f32) (x3 : Vec F S1x2048x1024 .bf16) (x4 : Vec F S1x2048x128 .bf16) (x5 : Vec F S1x2x128 .f32) (x7 : Vec F S1024x128 .f32) (xs0 : Vec F S1024x2048 .bf16) :
    { L6 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare x7 ∗ owns (c : Thread nD τ) arg10 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS0

/-- The first body at an instance's own buffers and blocks. -/
abbrev first (c : Dev nD) (t : Fin cfg0.N) (h : t.val % 8 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((taken t).mpr h) (iblk m c 0 t) (iblk m c 1 t) (iblk m c 2 t) (iblk m c 3 t) (iblk m c 4 t) (iblk m c 5 t)

/-- The later body at an instance's own buffers and blocks. -/
abbrev later (c : Dev nD) (t : Fin cfg0.N) (h : ¬t.val % 8 = 0) (x7 : Vec F S1024x128 .f32) (xs0 : Vec F S1024x2048 .bf16) :=
  runLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun e => h ((taken t).mp e)) (iblk m c 0 t) (iblk m c 1 t) (iblk m c 2 t) (iblk m c 3 t) (iblk m c 4 t) (iblk m c 5 t) x7 xs0

/-- The pieces stored fill the buffers. -/
theorem fill6 (c : Dev nD) (t : Fin cfg0.N) (h : t.val % 8 = 0) (y : S1024x1024.Idx) : ∃ pc ∈ (first m c t h).1, y ∈ pc.1.set :=
  View.cover_of_tiledL (first m c t h).1 S1024x1024.size (by sl_kernel_rfl) y
theorem fill7 (c : Dev nD) (t : Fin cfg0.N) (h : t.val % 8 = 0) (y : S1024x128.Idx) : ∃ pc ∈ (first m c t h).2.1, y ∈ pc.1.set :=
  View.cover_of_tiledL (first m c t h).2.1 S256x128.size (by sl_kernel_rfl) y
theorem fillS (c : Dev nD) (t : Fin cfg0.N) (h : t.val % 8 = 0) (y : S1024x2048.Idx) : ∃ pc ∈ (first m c t h).2.2.1, y ∈ pc.1.set :=
  View.cover_of_tiledL (first m c t h).2.2.1 S256x2048.size (by sl_kernel_rfl) y
theorem fill6' (c : Dev nD) (t : Fin cfg0.N) (h : ¬t.val % 8 = 0) (x7 : Vec F S1024x128 .f32) (xs0 : Vec F S1024x2048 .bf16) (y : S1024x1024.Idx) :
    ∃ pc ∈ (later m c t h x7 xs0).1, y ∈ pc.1.set :=
  View.cover_of_tiledL (later m c t h x7 xs0).1 S1024x1024.size (by sl_kernel_rfl) y

/-- What the bodies leave, read back. -/
def left6 (c : Dev nD) (t : Fin cfg0.N) (h : t.val % 8 = 0) : Vec F S1024x1024 .f32 := VO6.read (Elt F) (VO6.writes (Elt F) VO6.junk (runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((taken t).mpr h) (iblk m c 0 t) (iblk m c 1 t) (iblk m c 2 t) (iblk m c 3 t) (iblk m c 4 t) (iblk m c 5 t)).1)
def left7 (c : Dev nD) (t : Fin cfg0.N) (h : t.val % 8 = 0) : Vec F S1024x128 .f32 := VO7.read (Elt F) (VO7.writes (Elt F) VO7.junk (runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((taken t).mpr h) (iblk m c 0 t) (iblk m c 1 t) (iblk m c 2 t) (iblk m c 3 t) (iblk m c 4 t) (iblk m c 5 t)).2.1)
def leftS (c : Dev nD) (t : Fin cfg0.N) (h : t.val % 8 = 0) : Vec F S1024x2048 .bf16 := VS.read (Elt F) (VS.writes (Elt F) VS.junk (runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((taken t).mpr h) (iblk m c 0 t) (iblk m c 1 t) (iblk m c 2 t) (iblk m c 3 t) (iblk m c 4 t) (iblk m c 5 t)).2.2.1)
def left6' (c : Dev nD) (t : Fin cfg0.N) (h : ¬t.val % 8 = 0) (x7 : Vec F S1024x128 .f32) (xs0 : Vec F S1024x2048 .bf16) : Vec F S1024x1024 .f32 :=
  VO6.read (Elt F) (VO6.writes (Elt F) VO6.junk (runLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun e => h ((taken t).mp e)) (iblk m c 0 t) (iblk m c 1 t) (iblk m c 2 t) (iblk m c 3 t) (iblk m c 4 t) (iblk m c 5 t) x7 xs0).1)

/-- What the gates' buffer and the scratch hold after an instance: the row block's first instance fills them. -/
def held (c : Dev nD) : (n : ℕ) → n < cfg0.N → Vec F S1024x128 .f32 × Vec F S1024x2048 .bf16
  | 0, hn => (left7 m c ⟨0, hn⟩ (Nat.zero_mod _), leftS m c ⟨0, hn⟩ (Nat.zero_mod _))
  | n + 1, hn =>
    if h : (n + 1) % 8 = 0 then (left7 m c ⟨n + 1, hn⟩ h, leftS m c ⟨n + 1, hn⟩ h)
    else held c n (Nat.lt_of_succ_lt hn)

theorem held_first (c : Dev nD) (t : Fin cfg0.N) (h : t.val % 8 = 0) : held m c t.val t.isLt = (left7 m c t h, leftS m c t h) := by
  obtain ⟨n, hn⟩ := t
  cases n with
  | zero => rfl
  | succ n => exact (dif_pos h).trans rfl

theorem held_later (c : Dev nD) (t : Fin cfg0.N) (h : ¬t.val % 8 = 0) :
    held m c t.val t.isLt = held m c (t.val - 1) (Nat.lt_of_le_of_lt (Nat.sub_le _ _) t.isLt) := by
  obtain ⟨n, hn⟩ := t
  cases n with
  | zero => exact absurd (Nat.zero_mod _) h
  | succ n => exact (dif_neg h).trans rfl

/-- What an instance leaves in the first result's buffer. -/
def stored (c : Dev nD) (t : Fin cfg0.N) : Vec F S1024x1024 .f32 :=
  if h : t.val % 8 = 0 then left6 m c t h
  else left6' m c t h (held m c (t.val - 1) (Nat.lt_of_le_of_lt (Nat.sub_le _ _) t.isLt)).1 (held m c (t.val - 1) (Nat.lt_of_le_of_lt (Nat.sub_le _ _) t.isLt)).2

/-- The invariant before an instance: the scratch at what the one before left. -/
def inv (c : Dev nD) : (n : ℕ) → n ≤ cfg0.N → sProp 𝕄
  | 0, _ => Pipeline.ΦA spec0 c
  | n + 1, hn => iprop(iprop(owns (c : Thread nD τ) scM0_0 fullShare ((held m c n hn).2)) ∗ (∃ r, prngReg c r))

theorem inv_zero (c : Dev nD) (n : ℕ) (h : n ≤ cfg0.N) (hz : n = 0) : inv m c n h = Pipeline.ΦA spec0 c := by subst hz; rfl

theorem inv_succ (c : Dev nD) (n : ℕ) (hn : n < cfg0.N) :
    inv m c (n + 1) hn = iprop(iprop(owns (c : Thread nD τ) scM0_0 fullShare ((held m c n hn).2)) ∗ (∃ r, prngReg c r)) := rfl

theorem inv_pos (c : Dev nD) (n : ℕ) (h : n ≤ cfg0.N) (hz : n ≠ 0) :
    inv m c n h = iprop(iprop(owns (c : Thread nD τ) scM0_0 fullShare ((held m c (n - 1) (by omega)).2)) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => stored m c t
    | ⟨7, _⟩ => (held m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = stored m c t := by dsimp only [dats]
theorem after0_7 (c : Dev nD) (t : Fin cfg0.N) : (dats m 0 c).after 7 t = (held m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The gates' buffer is not written at a row block's later instances. -/
theorem rests : ∀ t : Fin cfg0.N, cfg0.idle 7 (cfg0.grid.coords t) = !(t.val % 8 == 0) :=
  (by decide +kernel : ∀ t : Fin grid0.N, (!(k0_cond1 (grid0.coords t) == 1#1)) = !(t.val % 8 == 0))

/-- The gates' buffer holds nothing yet exactly when a row block starts. -/
theorem fresh : ∀ n, n ≤ cfg0.N → cfg0.fresh 7 n = (n % 8 == 0) :=
  Pipeline.Cfg.fresh_tab cfg0 7 (fun n => n % 8 == 0) rfl (fun t => by
    rw [rests t]
    have h1 := flush0_7 t
    cases hf : (cfg0.win 7).flush t
    · rw [hf] at h1
      simp only [Bool.false_eq_true, false_iff] at h1
      by_cases h : t.val % 8 = 0
      · have h3 : ¬ (t.val + 1) % 8 = 0 := by omega
        simp [h, h3]
      · have h3 : ¬ (t.val + 1) % 8 = 0 := by omega
        simp [h, h3]
    · rw [hf] at h1
      have h2 : t.val % 8 = 7 := h1.mp rfl
      have h3 : (t.val + 1) % 8 = 0 := by omega
      simp [h3])

/-- At a row block's later instances the gates' buffer holds what the first left. -/
theorem before0_7 (c : Dev nD) (t : Fin cfg0.N) (h : ¬t.val % 8 = 0) (d) :
    (dats m 0 c).before 7 t d = (held m c (t.val - 1) (Nat.lt_of_le_of_lt (Nat.sub_le _ _) t.isLt)).1 := by
  rw [(dats m 0 c).before_out_traj 7 rfl (fun _ _ => rfl) (fun t ht hi hf => by
    rw [fresh t.val (le_of_lt t.isLt)] at hf
    have h : ¬t.val % 8 = 0 := by simpa using hf
    rw [after0_7, after0_7, held_later m c t h]) t.val t rfl d, fresh t.val (le_of_lt t.isLt),
    if_neg (by simpa using h), after0_7]

/-- What the body is called with at an instance, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any instance. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = inv m c (t.val + 1) t.isLt from rfl, inv_succ]
  by_cases h0 : t.val % 8 = 0
  · by_cases hz : t.val = 0
    · rw [inv_castSucc m c t, inv_zero m c _ _ hz, start_eq]
      rw [held_first m c t h0]
      unfold stored; rw [dif_pos h0]
      unfold left6 left7 leftS; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((first m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (fillS m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fill6 m c t h0)
      unfold owns; iexists _; isplitr
      swap; · iexact H7
      ipureintro; exact View.read_writes_of_cover _ _ _ _ _ (fill7 m c t h0)
    · rw [inv_castSucc m c t, inv_pos m c _ _ hz]
      rw [held_first m c t h0]
      unfold stored; rw [dif_pos h0]
      unfold left6 left7 leftS; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((first m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (fillS m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fill6 m c t h0)
      unfold owns; iexists _; isplitr
      swap; · iexact H7
      ipureintro; exact View.read_writes_of_cover _ _ _ _ _ (fill7 m c t h0)
  · have hz : t.val ≠ 0 := fun e => h0 (by rw [e])
    rw [inv_castSucc m c t, inv_pos m c _ _ hz]
    simp only [before0_7 m c t h0]
    rw [held_later m c t h0]
    unfold stored; rw [dif_neg h0]
    unfold left6'
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((later m c t h0 _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, ⟨%e6, H6⟩, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fill6' m c t h0 _ _)
    iexact H7

/-- The body table's entry at an instance is the body. -/
theorem defs₀_row (t : Fin cfg0.N) : defs₀ (F := F) .tc cfg0.body (cfg0.bodyArgs t (cfg0.slots t)) = bodyAt0 t := by
  unfold defs₀; rw [Defs.onTc_tc]

/-- What is asked back of the gates' buffer: at an instance that neither fills nor writes it back, what it held. -/
theorem gates_back (c : Dev nD) (t : Fin cfg0.N) :
    owns (c : Thread nD τ) (ms0_7 t) fullShare ((dats m 0 c).after 7 t) ⊢
      (match cfg0.idle 7 (cfg0.grid.coords t) with
        | true =>
          match (cfg0.win 7).flush t with
          | false => iprop(∃ d, owns (c : Thread nD τ) (ms0_7 t) fullShare ((dats m 0 c).before 7 t d))
          | true => owns (c : Thread nD τ) (ms0_7 t) fullShare ((dats m 0 c).after 7 t)
        | false => owns (c : Thread nD τ) (ms0_7 t) fullShare ((dats m 0 c).after 7 t) : sProp 𝕄) := by
  cases hi : cfg0.idle 7 (cfg0.grid.coords t)
  · exact .rfl
  · cases hf : (cfg0.win 7).flush t
    · have h : ¬t.val % 8 = 0 := by rw [rests t] at hi; simpa using hi
      dsimp only
      simp only [before0_7 m c t h]
      rw [after0_7, held_later m c t h]
      iintro H
      iexists (held m c (t.val - 1) (Nat.lt_of_le_of_lt (Nat.sub_le _ _) t.isLt)).1
      iexact H
    · exact .rfl

/-- The body obligation, at every instance. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HI, Ho, H0, H1, H2, H3, H4, H5, H6, H7⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (gates_back m c t)
  iexact H7

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 128 := N_0
  rw [show (dats m 0 c).Φ (Fin.last cfg0.N) = inv m c cfg0.N (le_refl _) from rfl, inv_pos m c _ _ (by omega), start_eq]
  iintro ⟨HS0, Hg⟩
  isplitl [HS0]
  · iexists _; iexact HS0
  iexact Hg

set_option backward.isDefEq.respectTransparency.types false in
/-- The launch: every execution ends, with every array at what the proof data says and no counter left standing. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ProjeIdeal.Run

end
-- ==== Proof.Proje.Spec.lean ====
module

public import proofs.«01_k».proof.Defs
public import proofs.«01_k».proof.Proof.Norm.Modulated

@[expose] public section

noncomputable section

open Idealize.ShloMosaic

namespace Cert.Proof.Proje

open Cert.ProjeIdeal Cert.Proof.Norm

/-- The projection's left operand at a row and lane: the normalised and modulated row of layer `0`. -/
def left (x : S16384x2048.Idx → EReal) (g : S4x2x2048.Idx → EReal) (e : S4x8x6x2048.Idx → EReal) (r : Fin 16384) (l : Fin 2048) : EReal :=
  modulated x (fun l => g (ix3 0 0 l)) (fun n l => e (ix4 0 n 0 l)) (fun n l => e (ix4 0 n 1 l)) r l

/-- The projection at a row and lane. -/
def proj (x : S16384x2048.Idx → EReal) (g : S4x2x2048.Idx → EReal) (e : S4x8x6x2048.Idx → EReal) (w : S2x2048x8224.Idx → EReal)
    (r : Fin 16384) (l : Fin 8224) : EReal :=
  ∑ k : Fin 2048, left x g e r k * w (ix3 0 k l)

/-- The part of the projection the first result holds: the first `8192` columns. -/
def columns (x : S16384x2048.Idx → EReal) (g : S4x2x2048.Idx → EReal) (e : S4x8x6x2048.Idx → EReal) (w : S2x2048x8224.Idx → EReal)
    (r : Fin 16384) (l : Fin 8192) : EReal :=
  proj x g e w r ⟨l.val, by omega⟩

/-- A gate from the logit `z` of its element, the decays `G` of its chunk, its position `p` in the chunk and its lane `l`:
    the running sum of the decays from the chunk's start for the first eight lanes and to its end for the next eight, the
    logistic of the logit in the sixteen lanes after them, nought in the rest. -/
def gateOf (z : EReal) (G : Fin 128 → EReal) (p l : ℕ) : EReal :=
  if l < 8 then ∑ x : Fin 128, if x.val ≤ p then G x else 0
  else if l < 16 then ∑ x : Fin 128, if p ≤ x.val then G x else 0
  else if l < 32 then Ideal.div 1 (1 + Ideal.exp (0 - z))
  else 0

/-- A decay, of its logit `z`, the logarithm `a` of its rate and its bias `d`. -/
def decayOf (z a d : EReal) : EReal :=
  (0 - Ideal.exp a) * (max (z + d) 0 + Ideal.log (1 + Ideal.exp (0 - FloatOps.absf (F := Ideal) (φ := .f32) (z + d))))

/-- The logit of a gate: the projection's column after the first `8192`, in the first `32` lanes. -/
def logit (x : S16384x2048.Idx → EReal) (g : S4x2x2048.Idx → EReal) (e : S4x8x6x2048.Idx → EReal) (w : S2x2048x8224.Idx → EReal)
    (r : Fin 16384) (l : Fin 128) : EReal :=
  if h : l.val < 32 then proj x g e w r ⟨8192 + l.val, by omega⟩ else 0

/-- A parameter of layer `0`'s heads in the first `16` lanes: eight heads of either direction. -/
def lanes (a : S2x2x8.Idx → EReal) (l : Fin 128) : EReal :=
  if h : l.val < 16 then a (ix3 0 ⟨l.val / 8, by omega⟩ ⟨l.val % 8, by omega⟩) else 0

/-- The decay at a row and lane. -/
def decay (x : S16384x2048.Idx → EReal) (g : S4x2x2048.Idx → EReal) (e : S4x8x6x2048.Idx → EReal) (w : S2x2048x8224.Idx → EReal)
    (a d : S2x2x8.Idx → EReal) (r : Fin 16384) (l : Fin 128) : EReal :=
  decayOf (logit x g e w r l) (lanes a l) (lanes d l)

/-- The gates at a row and lane. -/
def gates (x : S16384x2048.Idx → EReal) (g : S4x2x2048.Idx → EReal) (e : S4x8x6x2048.Idx → EReal) (w : S2x2048x8224.Idx → EReal)
    (a d : S2x2x8.Idx → EReal) (r : Fin 16384) (l : Fin 128) : EReal :=
  gateOf (logit x g e w r l) (fun k => decay x g e w a d ⟨r.val / 128 * 128 + k.val, by omega⟩ l) (r.val % 128) l.val

end Cert.Proof.Proje
-- ==== Proof.Proje.Kernel.lean ====
module

public import proofs.«01_k».proof.Defs
public import proofs.«01_k».proof.Proof.Proje.RunIdeal
public import proofs.«01_k».proof.Proof.Proje.Spec
public import proofs.«01_k».proof.Proof.Loads
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Proje

open Cert.ProjeIdeal Cert.ProjeIdeal.Gen Cert.Proof.Norm

variable (m : (ℓ : Loc nD τ sig) → Buf (Elt Ideal) ℓ)

/-- The blocks the windows take at an instance: `8` column blocks to a row block. -/
theorem idx : ∀ t : Fin grid0.N, win0_0.index t = ![t.val / 8, 0] ∧ win0_1.index t = ![0, 0, 0]
    ∧ win0_2.index t = ![0, if t.val / 8 < 8 then 0 else 1 + (t.val / 8 - 8) / 2, 0, 0]
    ∧ win0_3.index t = ![0, 0, t.val % 8] ∧ win0_6.index t = ![t.val / 8, t.val % 8]
    ∧ win0_4.index t = ![0, 0, 0] ∧ win0_5.index t = ![0, 0, 0] ∧ win0_7.index t = ![t.val / 8, 0] := by
  decide +kernel

/-- The modulated block of a row block, of the blocks loaded. -/
def blockLeft (x : S1024x2048.Idx → EReal) (g : S1x1x2048.Idx → EReal) (e : S1x1x6x2048.Idx → EReal) (r : Fin 1024) (l : Fin 2048) : EReal :=
  x (ix2 r l) * Ideal.rsqrt (Ideal.div (∑ k : Fin 2048, x (ix2 r k) * x (ix2 r k)) (Ideal.ofBits .f32 0x45000000#32)
    + Ideal.ofBits .f32 0x358637BD#32) * g (ix3 0 0 l) * (1 + e (ix4 0 0 1 l)) + e (ix4 0 0 0 l)

/-- The first column block of a row block fills the scratch with the modulated rows. -/
theorem filled (c : Dev nD) (t : Fin cfg0.N) (h : t.val % 8 = 0) (y : S1024x2048.Idx) :
    (Run.held m c t.val t.isLt).2 y = blockLeft (iblk m c 0 t) (iblk m c 1 t) (iblk m c 2 t) (y 0) (y 1) := by
  rw [Run.held_first m c t h]
  frame_out
  canon_tiles x h
  · idx_vars x
    rw [Loads.at_coords (blockLeft (iblk m c 0 t) (iblk m c 1 t) (iblk m c 2 t)) (y 0) ⟨768 + x0.val, by omega⟩ (y 1) x1 h0 h1]
    pointwise [k0_pay56, k0_pay55, k0_pay54, blockLeft]
  · idx_vars x
    rw [Loads.at_coords (blockLeft (iblk m c 0 t) (iblk m c 1 t) (iblk m c 2 t)) (y 0) ⟨512 + x0.val, by omega⟩ (y 1) x1 h0 h1]
    pointwise [k0_pay38, k0_pay37, blockLeft]
  · idx_vars x
    rw [Loads.at_coords (blockLeft (iblk m c 0 t) (iblk m c 1 t) (iblk m c 2 t)) (y 0) ⟨256 + x0.val, by omega⟩ (y 1) x1 h0 h1]
    pointwise [k0_pay22, k0_pay21, k0_pay20, k0_pay19, blockLeft]
  · idx_vars x
    rw [Loads.at_coords (blockLeft (iblk m c 0 t) (iblk m c 1 t) (iblk m c 2 t)) (y 0) ⟨0 + x0.val, by omega⟩ (y 1) x1 (h0.trans (Nat.zero_add _).symm) h1]
    pointwise [k0_pay3, k0_pay2, blockLeft]

/-- The other column blocks leave the scratch as it is. -/
theorem kept (c : Dev nD) (t : Fin cfg0.N) (h : ¬t.val % 8 = 0) (y : S1024x2048.Idx) :
    (Run.held m c t.val t.isLt).2 y = (Run.held m c (t.val - 1) (Nat.lt_of_le_of_lt (Nat.sub_le _ _) t.isLt)).2 y := by
  rw [Run.held_later m c t h]

/-- What an instance stores: the product of the scratch and its weight block. -/
theorem stored (c : Dev nD) (t : Fin cfg0.N) :
    Run.stored m c t = k0_pay1 (Run.held m c t.val t.isLt).2 (iblk m c 3 t) := by
  unfold Run.stored
  by_cases h : t.val % 8 = 0
  · rw [dif_pos h, Run.held_first m c t h]
    frame_out
    refine congrArg (fun z => k0_pay1 z (iblk m c 3 t)) ?_
    exact Loads.load_whole _ _ _ (by decide)
  · rw [dif_neg h, Run.held_later m c t h]
    frame_out
    simp only [read_unread_whole]

/-- The row block an instance loads. -/
theorem block0 (c : Dev nD) (t : Fin cfg0.N) (r : Fin 1024) (l : Fin 2048) :
    iblk m c 0 t (ix2 r l) = m ((c : Thread nD τ).loc main_arg0) (ix2 ⟨t.val / 8 * 1024 + r.val, by have : t.val < 128 := t.isLt; omega⟩ l) := by
  blk_point [iblk, V, idx t]

/-- The gain is layer `0`'s first. -/
theorem block1 (c : Dev nD) (t : Fin cfg0.N) (l : Fin 2048) :
    iblk m c 1 t (ix3 0 0 l) = m ((c : Thread nD τ).loc main_arg1) (ix3 0 0 l) := by
  have e : (((cfg0.win 1).blk t).view.emb (ix3 0 0 l)) = (ix3 0 0 l : S8x1x2048.Idx) := by
    funext a
    fin_cases a
    · exact Fin.ext (by blk_simp [idx t] <;> rfl)
    · exact Fin.ext (by blk_simp [idx t] <;> rfl)
    · exact Fin.ext (by blk_simp [idx t] <;> rfl)
  have h : iblk m c 1 t (ix3 0 0 l) = V m c main_v12 (((cfg0.win 1).blk t).view.emb (ix3 0 0 l)) := rfl
  rw [h, e]
  show StableHlo.after _ _ _ _ = _
  simp only [List.flatten_cons, List.flatten_nil, List.append_nil, hostOps0, hostOps0_1, hostOps0_2, hostOps0_3, hostOps0_4,
    hostOps0_5, hostOps0_6, List.cons_append, List.nil_append]
  entry_read
  pointwise []

/-- The conditioning of an instance's rows. -/
theorem block2 (c : Dev nD) (t : Fin cfg0.N) (r : Fin 1024) (s : Fin 6) (l : Fin 2048) :
    iblk m c 2 t (ix4 0 0 s l) = m ((c : Thread nD τ).loc main_arg2)
      (ix4 0 (condRow ⟨t.val / 8 * 1024 + r.val, by have : t.val < 128 := t.isLt; omega⟩) s l) := by
  have ht : t.val < 128 := t.isLt
  have e : (((cfg0.win 2).blk t).view.emb (ix4 0 0 s l))
      = (ix4 0 (condRow ⟨t.val / 8 * 1024 + r.val, by omega⟩) s l : S4x8x6x2048.Idx) := by
    funext a
    fin_cases a
    · exact Fin.ext (by blk_simp [idx t] <;> rfl)
    · refine Fin.ext ?_
      blk_simp [idx t]
      show (if t.val / 8 < 8 then 0 else 1 + (t.val / 8 - 8) / 2)
        = if t.val / 8 * 1024 + r.val < 8192 then 0 else 1 + (t.val / 8 * 1024 + r.val - 8192) / 2048
      split_ifs <;> omega
    · exact Fin.ext (by blk_simp [idx t] <;> rfl)
    · exact Fin.ext (by blk_simp [idx t] <;> rfl)
  have h : iblk m c 2 t (ix4 0 0 s l) = V m c main_arg2 (((cfg0.win 2).blk t).view.emb (ix4 0 0 s l)) := rfl
  rw [h, e]
  rfl

/-- The weight block an instance loads. -/
theorem block3 (c : Dev nD) (t : Fin cfg0.N) (k : Fin 2048) (l : Fin 1024) :
    iblk m c 3 t (ix3 0 k l) = m ((c : Thread nD τ).loc main_arg3) (ix3 0 k ⟨t.val % 8 * 1024 + l.val, by have := l.isLt; omega⟩) := by
  have e : ((win0_3.blk t).view.emb (ix3 0 k l)) = (ix3 0 k ⟨t.val % 8 * 1024 + l.val, by have := l.isLt; omega⟩ : S2x2048x8192.Idx) := by
    funext a
    fin_cases a
    · exact Fin.ext (by blk_simp [idx t] <;> rfl)
    · exact Fin.ext (by blk_simp [idx t] <;> rfl)
    · exact Fin.ext (by blk_simp [idx t] <;> rfl)
  have h : iblk m c 3 t (ix3 0 k l) = V m c main_v1 ((win0_3.blk t).view.emb (ix3 0 k l)) := rfl
  rw [h, e]
  show StableHlo.after _ _ _ _ = _
  simp only [List.flatten_cons, List.flatten_nil, List.append_nil, hostOps0, hostOps0_1, hostOps0_2, hostOps0_3, hostOps0_4,
    hostOps0_5, hostOps0_6, List.cons_append, List.nil_append]
  entry_read
  pointwise []

/-- The scratch at an instance: the modulated rows of its row block. -/
theorem scratch (c : Dev nD) (t : Fin cfg0.N) (r : Fin 1024) (l : Fin 2048) :
    (Run.held m c t.val t.isLt).2 (ix2 r l) = left (m ((c : Thread nD τ).loc main_arg0)) (m ((c : Thread nD τ).loc main_arg1))
      (m ((c : Thread nD τ).loc main_arg2)) ⟨t.val / 8 * 1024 + r.val, by have : t.val < 128 := t.isLt; omega⟩ l := by
  rw [Pipeline.eq_of_write_hold_apply (fun n h => (Run.held m c n h).2) 8 (fun t y => blockLeft (iblk m c 0 t) (iblk m c 1 t) (iblk m c 2 t) (y 0) (y 1))
    (fun t h y => filled m c t h y) (fun t h y => kept m c t h y) t (ix2 r l)]
  show blockLeft _ _ _ r l = _
  unfold blockLeft left modulated
  simp only [block0, block1, block2 m c _ r]
  have e : 8 * (t.val / 8) / 8 = t.val / 8 := by omega
  simp only [e]

set_option maxHeartbeats 1000000 in
/-- The first result's array after the run. -/
theorem out_eq (c : Dev nD) : (Run.dats m 0 c).arrAt 6 cfg0.N
    = fun i : S16384x8192.Idx => columns (m ((c : Thread nD τ).loc main_arg0)) (m ((c : Thread nD τ).loc main_arg1))
      (m ((c : Thread nD τ).loc main_arg2)) (m ((c : Thread nD τ).loc main_arg3)) (i 0) (i 1) := by
  refine (Run.dats m 0 c).arrAt_eq_of_covers 6 _ (by decide +kernel) fun t hf y => ?_
  blk_simp
  rw [Run.after0_6, stored]
  idx_vars y
  have ht : t.val < 128 := t.isLt
  have e0 : ((((View.whole main_v13_0).slice (win0_6.rect t)).emb (ix2 y0 y1) 0 : Fin 16384) : ℕ) = t.val / 8 * 1024 + y0.val := by
    blk_point [idx t]
  have e1 : ((((View.whole main_v13_0).slice (win0_6.rect t)).emb (ix2 y0 y1) 1 : Fin 8192) : ℕ) = t.val % 8 * 1024 + y1.val := by
    blk_point [idx t]
  pointwise [k0_pay1]
  simp only [scratch, block3]
  exact (Loads.at_coords (columns (m ((c : Thread nD τ).loc main_arg0)) (m ((c : Thread nD τ).loc main_arg1))
      (m ((c : Thread nD τ).loc main_arg2)) (m ((c : Thread nD τ).loc main_arg3))) _ ⟨t.val / 8 * 1024 + y0.val, by omega⟩
    _ ⟨t.val % 8 * 1024 + y1.val, by omega⟩ e0 e1).symm

end Cert.Proof.Proje
-- ==== Proof.Proje.Gates.lean ====
module

public import proofs.«01_k».proof.Proof.Proje.Spec
public import proofs.«01_k».proof.Proof.Gen.ProjeIdeal.Skeleton
public import Idealize.ShloMosaic.Lib.Pointwise
public import Idealize.ShloMosaic.Lib.Tactic

@[expose] public section

set_option maxRecDepth 16384

noncomputable section

open Idealize.ShloMosaic

namespace Cert.Proof.Proje

open Cert.ProjeIdeal Cert.ProjeIdeal.Gen

/-- A small number as a signed word. -/
theorem word_int (a : ℕ) (h : a < 1024) : (BitVec.ofNat 32 a).toInt = (a : ℤ) := by
  rw [BitVec.toInt_eq_toNat_of_lt]
  · simp only [BitVec.toNat_ofNat]
    exact congrArg _ (Nat.mod_eq_of_lt (by omega))
  · simp only [BitVec.toNat_ofNat]
    rw [Nat.mod_eq_of_lt (by omega)]
    omega

/-- A choice by the signed comparison "less" of two small numbers. -/
theorem select_lt (a b : ℕ) (ha : a < 1024) (hb : b < 1024) (x y : EReal) :
    Scalar.select (IntOp.cmpi .slt (BitVec.ofNat 32 a) (BitVec.ofNat 32 b)) x y = if a < b then x else y := by
  simp only [Scalar.select, IntOp.cmpi, BitVec.slt, word_int a ha, word_int b hb]
  by_cases h : a < b <;> simp [h]

/-- A choice by the signed comparison "at most" of two small numbers. -/
theorem select_le (a b : ℕ) (ha : a < 1024) (hb : b < 1024) (x y : EReal) :
    Scalar.select (IntOp.cmpi .sle (BitVec.ofNat 32 a) (BitVec.ofNat 32 b)) x y = if a ≤ b then x else y := by
  simp only [Scalar.select, IntOp.cmpi, BitVec.sle, word_int a ha, word_int b hb]
  by_cases h : a ≤ b <;> simp [h]

/-- A choice by the signed comparison "at least" of two small numbers. -/
theorem select_ge (a b : ℕ) (ha : a < 1024) (hb : b < 1024) (x y : EReal) :
    Scalar.select (IntOp.cmpi .sge (BitVec.ofNat 32 a) (BitVec.ofNat 32 b)) x y = if b ≤ a then x else y := by
  simp only [Scalar.select, IntOp.cmpi, BitVec.sle, word_int a ha, word_int b hb]
  by_cases h : b ≤ a <;> simp [h]

/-- A choice by a small number's lying between two bounds. -/
theorem select_between (a b d : ℕ) (ha : a < 1024) (hb : b < 1024) (hd : d < 1024) (x y : EReal) :
    Scalar.select (IntOp.andi (IntOp.cmpi .sge (BitVec.ofNat 32 a) (BitVec.ofNat 32 b)) (IntOp.cmpi .slt (BitVec.ofNat 32 a) (BitVec.ofNat 32 d))) x y
      = if b ≤ a ∧ a < d then x else y := by
  simp only [Scalar.select, IntOp.andi, IntOp.cmpi, BitVec.sle, BitVec.slt, word_int a ha, word_int b hb, word_int d hd]
  by_cases h : b ≤ a <;> by_cases h' : a < d <;> simp [h, h']

/-- The gates of a group of rows, of their logits `z` and their decays `g`. -/
def tile (z g : S256x128.Idx → EReal) (r : Fin 256) (l : Fin 128) : EReal :=
  gateOf (z (ix2 r l)) (fun x => g (ix2 ⟨r.val / 128 * 128 + x.val, by omega⟩ l)) (r.val % 128) l.val

/-- The gates of a block of rows, of their logits and their decays. -/
def blockGates (Z D : Fin 1024 → Fin 128 → EReal) (r : Fin 1024) (l : Fin 128) : EReal :=
  gateOf (Z r l) (fun x => D ⟨r.val / 128 * 128 + x.val, by omega⟩ l) (r.val % 128) l.val

/-- The gates of a group of rows are those of the block the group is in. -/
theorem tile_eq (z g : S256x128.Idx → EReal) (Z D : Fin 1024 → Fin 128 → EReal) (o : ℕ) (ho : o + 256 ≤ 1024) (ho' : o % 128 = 0)
    (hz : ∀ (r : Fin 256) (l : Fin 128), z (ix2 r l) = Z ⟨o + r.val, by omega⟩ l)
    (hg : ∀ (r : Fin 256) (l : Fin 128), g (ix2 r l) = D ⟨o + r.val, by omega⟩ l) (r : Fin 256) (l : Fin 128) :
    tile z g r l = blockGates Z D ⟨o + r.val, by omega⟩ l := by
  unfold tile blockGates
  have q : (o + r.val) % 128 = r.val % 128 := by omega
  have q' : ∀ x : ℕ, o + (r.val / 128 * 128 + x) = (o + r.val) / 128 * 128 + x := by omega
  simp only [hz, hg, q, q']

/-- The gates of the first group of rows, as stored, over the group's logits and decays. -/
theorem tile_first (z : FVec Ideal S256x128 .f32) (a d : Vec Ideal S1x1x128 .f32) (r : Fin 256) (l : Fin 128)
    (hg : l.val < 16 → ∀ k : Fin 256, (k0_pay5 z a d) (ix2 k l) - (k0_pay5 z a d) (ix2 k l) = 0) :
    k0_pay18 z (iota .tc S256x128 32 [1] iota_S256x128_d1_w32) k0_pay7
      (k0_pay10 k0_pay6 k0_pay7 (k0_pay8 z (iota .tc S256x128 32 [1] iota_S256x128_d1_w32) a d) (k0_pay9 z (iota .tc S256x128 32 [1] iota_S256x128_d1_w32) a d))
      (k0_pay11 k0_pay6 (k0_pay8 z (iota .tc S256x128 32 [1] iota_S256x128_d1_w32) a d)) (k0_pay15 (k0_pay9 z (iota .tc S256x128 32 [1] iota_S256x128_d1_w32) a d)) (k0_pay16 (k0_pay9 z (iota .tc S256x128 32 [1] iota_S256x128_d1_w32) a d))
      (k0_pay17 k0_pay7 (k0_pay9 z (iota .tc S256x128 32 [1] iota_S256x128_d1_w32) a d)) (constant S128x128 .f32 0#32) (ix2 r l)
      = tile z (k0_pay5 z a d) r l := by
  revert hg
  unfold k0_pay8 k0_pay9
  generalize k0_pay5 z a d = g
  intro hg
  pointwise [k0_pay18, k0_pay10, k0_pay6, k0_pay7, k0_pay11, k0_pay15, k0_pay14, k0_pay13, k0_pay12, k0_pay16, k0_pay17]
  simp (disch := omega) only [select_lt, select_le, select_ge, select_between]
  unfold tile gateOf
  by_cases h8 : l.val < 8
  · have h16 : l.val < 16 := by omega
    have hn : ¬8 ≤ l.val := by omega
    simp only [h8, h16, hn, hg, if_true, if_false, false_and, sub_zero, ite_self, Finset.sum_const_zero, add_zero]
    by_cases hr : r.val < 128
    · simp only [hr, dite_true, if_true, dif_pos]
      refine Finset.sum_congr rfl fun x _ => ?_
      have q : r.val % 128 = r.val := by omega
      have q' : r.val / 128 * 128 + x.val = x.val := by omega
      simp only [q, q']
    · simp only [hr, dite_false, if_false, dif_neg]
      refine Finset.sum_congr rfl fun x _ => ?_
      have q : r.val % 128 = r.val - 128 := by omega
      have q' : r.val / 128 * 128 + x.val = 128 + x.val := by omega
      simp only [q, q']
  · by_cases h16 : l.val < 16
    · have hn : 8 ≤ l.val := by omega
      simp only [h8, h16, hn, hg, if_true, if_false, true_and, sub_zero, ite_self, Finset.sum_const_zero, add_zero, zero_add]
      by_cases hr : r.val < 128
      · simp only [hr, dite_true, if_true, dif_pos]
        refine Finset.sum_congr rfl fun x _ => ?_
        have q : r.val % 128 = r.val := by omega
        have q' : r.val / 128 * 128 + x.val = x.val := by omega
        simp only [q, q']
      · simp only [hr, dite_false, if_false, dif_neg]
        refine Finset.sum_congr rfl fun x _ => ?_
        have q : r.val % 128 = r.val - 128 := by omega
        have q' : r.val / 128 * 128 + x.val = 128 + x.val := by omega
        simp only [q, q']
    · simp only [h8, h16, if_false]

/-- The gates of the first group of rows, as stored, over the logits and decays of the block. -/
theorem group_first (z : FVec Ideal S256x128 .f32) (a d : Vec Ideal S1x1x128 .f32) (Z D : Fin 1024 → Fin 128 → EReal) (o : ℕ) (ho : o + 256 ≤ 1024)
    (ho' : o % 128 = 0) (hz : ∀ (r : Fin 256) (l : Fin 128), z (ix2 r l) = Z ⟨o + r.val, by omega⟩ l)
    (hg : ∀ (r : Fin 256) (l : Fin 128), (k0_pay5 z a d) (ix2 r l) = D ⟨o + r.val, by omega⟩ l)
    (hD : ∀ (r : Fin 1024) (l : Fin 128), l.val < 16 → D r l - D r l = 0) (r : Fin 256) (l : Fin 128) :
    k0_pay18 z (iota .tc S256x128 32 [1] iota_S256x128_d1_w32) k0_pay7
      (k0_pay10 k0_pay6 k0_pay7 (k0_pay8 z (iota .tc S256x128 32 [1] iota_S256x128_d1_w32) a d) (k0_pay9 z (iota .tc S256x128 32 [1] iota_S256x128_d1_w32) a d))
      (k0_pay11 k0_pay6 (k0_pay8 z (iota .tc S256x128 32 [1] iota_S256x128_d1_w32) a d)) (k0_pay15 (k0_pay9 z (iota .tc S256x128 32 [1] iota_S256x128_d1_w32) a d)) (k0_pay16 (k0_pay9 z (iota .tc S256x128 32 [1] iota_S256x128_d1_w32) a d))
      (k0_pay17 k0_pay7 (k0_pay9 z (iota .tc S256x128 32 [1] iota_S256x128_d1_w32) a d)) (constant S128x128 .f32 0#32) (ix2 r l)
      = blockGates Z D ⟨o + r.val, by omega⟩ l :=
  (tile_first z a d r l fun hl k => by rw [hg]; exact hD _ _ hl).trans (tile_eq _ _ Z D o ho ho' hz hg r l)

/-- The gates of the second group of rows, as stored, over the group's logits and decays. -/
theorem tile_second (z : FVec Ideal S256x128 .f32) (g : FVec Ideal S256x128 .f32) (r : Fin 256) (l : Fin 128)
    (hg : l.val < 16 → ∀ k : Fin 256, g (ix2 k l) - g (ix2 k l) = 0) :
    k0_pay36 z (iota .tc S256x128 32 [1] iota_S256x128_d1_w32) (k0_pay25 (iota .tc S128x128 32 [0] iota_S128x128_d0_w32)) (k0_pay26 (iota .tc S128x128 32 [0] iota_S128x128_d0_w32)) (k0_pay27 (iota .tc S256x128 32 [1] iota_S256x128_d1_w32) g) (k0_pay28 (iota .tc S256x128 32 [1] iota_S256x128_d1_w32) g) (k0_pay29 (iota .tc S256x128 32 [1] iota_S256x128_d1_w32) g (iota .tc S128x128 32 [0] iota_S128x128_d0_w32)) (k0_pay34 (iota .tc S256x128 32 [1] iota_S256x128_d1_w32) g) (k0_pay35 (iota .tc S256x128 32 [1] iota_S256x128_d1_w32) g (iota .tc S128x128 32 [0] iota_S128x128_d0_w32)) (ix2 r l)
      = tile z g r l := by
  revert hg
  intro hg
  pointwise [k0_pay36, k0_pay25, k0_pay26, k0_pay27, k0_pay28, k0_pay29, k0_pay30, k0_pay31, k0_pay32, k0_pay33, k0_pay34, k0_pay35]
  simp (disch := omega) only [select_lt, select_le, select_ge, select_between]
  unfold tile gateOf
  by_cases h8 : l.val < 8
  · have h16 : l.val < 16 := by omega
    have hn : ¬8 ≤ l.val := by omega
    simp only [h8, h16, hn, hg, if_true, if_false, false_and, sub_zero, ite_self, Finset.sum_const_zero, add_zero]
    by_cases hr : r.val < 128
    · simp only [hr, dite_true, if_true, dif_pos]
      refine Finset.sum_congr rfl fun x _ => ?_
      have q : r.val % 128 = r.val := by omega
      have q' : r.val / 128 * 128 + x.val = x.val := by omega
      simp only [q, q']
    · simp only [hr, dite_false, if_false, dif_neg]
      refine Finset.sum_congr rfl fun x _ => ?_
      have q : r.val % 128 = r.val - 128 := by omega
      have q' : r.val / 128 * 128 + x.val = 128 + x.val := by omega
      simp only [q, q']
  · by_cases h16 : l.val < 16
    · have hn : 8 ≤ l.val := by omega
      simp only [h8, h16, hn, hg, if_true, if_false, true_and, sub_zero, ite_self, Finset.sum_const_zero, add_zero, zero_add]
      by_cases hr : r.val < 128
      · simp only [hr, dite_true, if_true, dif_pos]
        refine Finset.sum_congr rfl fun x _ => ?_
        have q : r.val % 128 = r.val := by omega
        have q' : r.val / 128 * 128 + x.val = x.val := by omega
        simp only [q, q']
      · simp only [hr, dite_false, if_false, dif_neg]
        refine Finset.sum_congr rfl fun x _ => ?_
        have q : r.val % 128 = r.val - 128 := by omega
        have q' : r.val / 128 * 128 + x.val = 128 + x.val := by omega
        simp only [q, q']
    · simp only [h8, h16, if_false]

/-- The gates of the second group of rows, as stored, over the logits and decays of the block. -/
theorem group_second (z : FVec Ideal S256x128 .f32) (g : FVec Ideal S256x128 .f32) (Z D : Fin 1024 → Fin 128 → EReal) (o : ℕ) (ho : o + 256 ≤ 1024)
    (ho' : o % 128 = 0) (hz : ∀ (r : Fin 256) (l : Fin 128), z (ix2 r l) = Z ⟨o + r.val, by omega⟩ l)
    (hg : ∀ (r : Fin 256) (l : Fin 128), g (ix2 r l) = D ⟨o + r.val, by omega⟩ l)
    (hD : ∀ (r : Fin 1024) (l : Fin 128), l.val < 16 → D r l - D r l = 0) (r : Fin 256) (l : Fin 128) :
    k0_pay36 z (iota .tc S256x128 32 [1] iota_S256x128_d1_w32) (k0_pay25 (iota .tc S128x128 32 [0] iota_S128x128_d0_w32)) (k0_pay26 (iota .tc S128x128 32 [0] iota_S128x128_d0_w32)) (k0_pay27 (iota .tc S256x128 32 [1] iota_S256x128_d1_w32) g) (k0_pay28 (iota .tc S256x128 32 [1] iota_S256x128_d1_w32) g) (k0_pay29 (iota .tc S256x128 32 [1] iota_S256x128_d1_w32) g (iota .tc S128x128 32 [0] iota_S128x128_d0_w32)) (k0_pay34 (iota .tc S256x128 32 [1] iota_S256x128_d1_w32) g) (k0_pay35 (iota .tc S256x128 32 [1] iota_S256x128_d1_w32) g (iota .tc S128x128 32 [0] iota_S128x128_d0_w32)) (ix2 r l)
      = blockGates Z D ⟨o + r.val, by omega⟩ l :=
  (tile_second z g r l fun hl k => by rw [hg]; exact hD _ _ hl).trans (tile_eq _ _ Z D o ho ho' hz hg r l)

/-- The gates of the third group of rows, as stored, over the group's logits and decays. -/
theorem tile_third (z : FVec Ideal S256x128 .f32) (a d : Vec Ideal S1x1x128 .f32) (r : Fin 256) (l : Fin 128)
    (hg : l.val < 16 → ∀ k : Fin 256, (k0_pay40 z a d) (ix2 k l) - (k0_pay40 z a d) (ix2 k l) = 0) :
    k0_pay53 z (iota .tc S256x128 32 [1] iota_S256x128_d1_w32) k0_pay42
      (k0_pay46 (k0_pay40 z a d) k0_pay41 k0_pay42 (k0_pay43 z (iota .tc S256x128 32 [1] iota_S256x128_d1_w32) a d) (k0_pay44 (iota .tc S256x128 32 [1] iota_S256x128_d1_w32)) (FloatOps.ofBits .f32 0#32))
      (k0_pay47 k0_pay41 (k0_pay43 z (iota .tc S256x128 32 [1] iota_S256x128_d1_w32) a d)) (k0_pay49 (k0_pay40 z a d) (k0_pay44 (iota .tc S256x128 32 [1] iota_S256x128_d1_w32)) (FloatOps.ofBits .f32 0#32))
      (k0_pay51 (k0_pay40 z a d) (k0_pay44 (iota .tc S256x128 32 [1] iota_S256x128_d1_w32)) (FloatOps.ofBits .f32 0#32))
      (k0_pay52 (k0_pay40 z a d) (k0_pay44 (iota .tc S256x128 32 [1] iota_S256x128_d1_w32)) (FloatOps.ofBits .f32 0#32)) (constant S128x128 .f32 0#32) (ix2 r l)
      = tile z (k0_pay40 z a d) r l := by
  revert hg
  unfold k0_pay43
  generalize k0_pay40 z a d = g
  intro hg
  pointwise [k0_pay53, k0_pay42, k0_pay46, k0_pay41, k0_pay45, k0_pay44, k0_pay47, k0_pay48, k0_pay49, k0_pay50, k0_pay51, k0_pay52]
  simp (disch := omega) only [select_lt, select_le, select_ge, select_between]
  unfold tile gateOf
  by_cases h8 : l.val < 8
  · have h16 : l.val < 16 := by omega
    have hn : ¬8 ≤ l.val := by omega
    simp only [h8, h16, hn, hg, if_true, if_false, false_and, sub_zero, ite_self, Finset.sum_const_zero, add_zero]
    by_cases hr : r.val < 128
    · simp only [hr, dite_true, if_true, dif_pos]
      refine Finset.sum_congr rfl fun x _ => ?_
      have q : r.val % 128 = r.val := by omega
      have q' : r.val / 128 * 128 + x.val = x.val := by omega
      simp only [q, q']
    · simp only [hr, dite_false, if_false, dif_neg]
      refine Finset.sum_congr rfl fun x _ => ?_
      have q : r.val % 128 = r.val - 128 := by omega
      have q' : r.val / 128 * 128 + x.val = 128 + x.val := by omega
      simp only [q, q']
  · by_cases h16 : l.val < 16
    · have hn : 8 ≤ l.val := by omega
      simp only [h8, h16, hn, hg, if_true, if_false, true_and, sub_zero, ite_self, Finset.sum_const_zero, add_zero, zero_add]
      by_cases hr : r.val < 128
      · simp only [hr, dite_true, if_true, dif_pos]
        refine Finset.sum_congr rfl fun x _ => ?_
        have q : r.val % 128 = r.val := by omega
        have q' : r.val / 128 * 128 + x.val = x.val := by omega
        simp only [q, q']
      · simp only [hr, dite_false, if_false, dif_neg]
        refine Finset.sum_congr rfl fun x _ => ?_
        have q : r.val % 128 = r.val - 128 := by omega
        have q' : r.val / 128 * 128 + x.val = 128 + x.val := by omega
        simp only [q, q']
    · simp only [h8, h16, if_false]

/-- The gates of the third group of rows, as stored, over the logits and decays of the block. -/
theorem group_third (z : FVec Ideal S256x128 .f32) (a d : Vec Ideal S1x1x128 .f32) (Z D : Fin 1024 → Fin 128 → EReal) (o : ℕ) (ho : o + 256 ≤ 1024)
    (ho' : o % 128 = 0) (hz : ∀ (r : Fin 256) (l : Fin 128), z (ix2 r l) = Z ⟨o + r.val, by omega⟩ l)
    (hg : ∀ (r : Fin 256) (l : Fin 128), (k0_pay40 z a d) (ix2 r l) = D ⟨o + r.val, by omega⟩ l)
    (hD : ∀ (r : Fin 1024) (l : Fin 128), l.val < 16 → D r l - D r l = 0) (r : Fin 256) (l : Fin 128) :
    k0_pay53 z (iota .tc S256x128 32 [1] iota_S256x128_d1_w32) k0_pay42
      (k0_pay46 (k0_pay40 z a d) k0_pay41 k0_pay42 (k0_pay43 z (iota .tc S256x128 32 [1] iota_S256x128_d1_w32) a d) (k0_pay44 (iota .tc S256x128 32 [1] iota_S256x128_d1_w32)) (FloatOps.ofBits .f32 0#32))
      (k0_pay47 k0_pay41 (k0_pay43 z (iota .tc S256x128 32 [1] iota_S256x128_d1_w32) a d)) (k0_pay49 (k0_pay40 z a d) (k0_pay44 (iota .tc S256x128 32 [1] iota_S256x128_d1_w32)) (FloatOps.ofBits .f32 0#32))
      (k0_pay51 (k0_pay40 z a d) (k0_pay44 (iota .tc S256x128 32 [1] iota_S256x128_d1_w32)) (FloatOps.ofBits .f32 0#32))
      (k0_pay52 (k0_pay40 z a d) (k0_pay44 (iota .tc S256x128 32 [1] iota_S256x128_d1_w32)) (FloatOps.ofBits .f32 0#32)) (constant S128x128 .f32 0#32) (ix2 r l)
      = blockGates Z D ⟨o + r.val, by omega⟩ l :=
  (tile_third z a d r l fun hl k => by rw [hg]; exact hD _ _ hl).trans (tile_eq _ _ Z D o ho ho' hz hg r l)

/-- The gates of the last group of rows, as stored, over the group's logits and decays. -/
theorem tile_last (z : FVec Ideal S256x128 .f32) (z1 z2 : FVec Ideal S256x128 .f32) (r : Fin 256) (l : Fin 128)
    (hg : l.val < 16 → ∀ k : Fin 256, (k0_pay60 z1 z2) (ix2 k l) - (k0_pay60 z1 z2) (ix2 k l) = 0) :
    k0_pay72 z (iota .tc S256x128 32 [1] iota_S256x128_d1_w32) k0_pay61 k0_pay62 (k0_pay63 (iota .tc S256x128 32 [1] iota_S256x128_d1_w32) z1 z2) (k0_pay64 (iota .tc S256x128 32 [1] iota_S256x128_d1_w32) z1 z2) (k0_pay65 (iota .tc S256x128 32 [1] iota_S256x128_d1_w32) z1 z2) (k0_pay69 (iota .tc S256x128 32 [1] iota_S256x128_d1_w32) z1 z2)
      (k0_pay70 (iota .tc S256x128 32 [1] iota_S256x128_d1_w32) z1 z2) (k0_pay71 (iota .tc S256x128 32 [1] iota_S256x128_d1_w32) z1 z2) (constant S128x128 .f32 0#32) (ix2 r l)
      = tile z (k0_pay60 z1 z2) r l := by
  revert hg
  unfold k0_pay71 k0_pay70 k0_pay69 k0_pay68 k0_pay67 k0_pay66 k0_pay65 k0_pay64 k0_pay63
  generalize k0_pay60 z1 z2 = g
  intro hg
  pointwise [k0_pay72, k0_pay61, k0_pay62, k0_pay66, k0_pay67, k0_pay68]
  simp (disch := omega) only [select_lt, select_le, select_ge, select_between]
  unfold tile gateOf
  by_cases h8 : l.val < 8
  · have h16 : l.val < 16 := by omega
    have hn : ¬8 ≤ l.val := by omega
    simp only [h8, h16, hn, hg, if_true, if_false, false_and, sub_zero, ite_self, Finset.sum_const_zero, add_zero]
    by_cases hr : r.val < 128
    · simp only [hr, dite_true, if_true, dif_pos]
      refine Finset.sum_congr rfl fun x _ => ?_
      have q : r.val % 128 = r.val := by omega
      have q' : r.val / 128 * 128 + x.val = x.val := by omega
      simp only [q, q']
    · simp only [hr, dite_false, if_false, dif_neg]
      refine Finset.sum_congr rfl fun x _ => ?_
      have q : r.val % 128 = r.val - 128 := by omega
      have q' : r.val / 128 * 128 + x.val = 128 + x.val := by omega
      simp only [q, q']
  · by_cases h16 : l.val < 16
    · have hn : 8 ≤ l.val := by omega
      simp only [h8, h16, hn, hg, if_true, if_false, true_and, sub_zero, ite_self, Finset.sum_const_zero, add_zero, zero_add]
      by_cases hr : r.val < 128
      · simp only [hr, dite_true, if_true, dif_pos]
        refine Finset.sum_congr rfl fun x _ => ?_
        have q : r.val % 128 = r.val := by omega
        have q' : r.val / 128 * 128 + x.val = x.val := by omega
        simp only [q, q']
      · simp only [hr, dite_false, if_false, dif_neg]
        refine Finset.sum_congr rfl fun x _ => ?_
        have q : r.val % 128 = r.val - 128 := by omega
        have q' : r.val / 128 * 128 + x.val = 128 + x.val := by omega
        simp only [q, q']
    · simp only [h8, h16, if_false]

/-- The gates of the last group of rows, as stored, over the logits and decays of the block. -/
theorem group_last (z : FVec Ideal S256x128 .f32) (z1 z2 : FVec Ideal S256x128 .f32) (Z D : Fin 1024 → Fin 128 → EReal) (o : ℕ) (ho : o + 256 ≤ 1024)
    (ho' : o % 128 = 0) (hz : ∀ (r : Fin 256) (l : Fin 128), z (ix2 r l) = Z ⟨o + r.val, by omega⟩ l)
    (hg : ∀ (r : Fin 256) (l : Fin 128), (k0_pay60 z1 z2) (ix2 r l) = D ⟨o + r.val, by omega⟩ l)
    (hD : ∀ (r : Fin 1024) (l : Fin 128), l.val < 16 → D r l - D r l = 0) (r : Fin 256) (l : Fin 128) :
    k0_pay72 z (iota .tc S256x128 32 [1] iota_S256x128_d1_w32) k0_pay61 k0_pay62 (k0_pay63 (iota .tc S256x128 32 [1] iota_S256x128_d1_w32) z1 z2) (k0_pay64 (iota .tc S256x128 32 [1] iota_S256x128_d1_w32) z1 z2) (k0_pay65 (iota .tc S256x128 32 [1] iota_S256x128_d1_w32) z1 z2) (k0_pay69 (iota .tc S256x128 32 [1] iota_S256x128_d1_w32) z1 z2)
      (k0_pay70 (iota .tc S256x128 32 [1] iota_S256x128_d1_w32) z1 z2) (k0_pay71 (iota .tc S256x128 32 [1] iota_S256x128_d1_w32) z1 z2) (constant S128x128 .f32 0#32) (ix2 r l)
      = blockGates Z D ⟨o + r.val, by omega⟩ l :=
  (tile_last z z1 z2 r l fun hl k => by rw [hg]; exact hD _ _ hl).trans (tile_eq _ _ Z D o ho ho' hz hg r l)

end Cert.Proof.Proje
-- ==== Proof.Proje.KernelGates.lean ====
module

public import proofs.«01_k».proof.Proof.Proje.Kernel
public import proofs.«01_k».proof.Proof.Proje.Gates

@[expose] public section

set_option maxRecDepth 16384

noncomputable section

open Idealize.ShloMosaic Idealize.ShloMosaic.TcCoe Idealize.SL.Sem
open Idealize.ShloMosaic.Pipeline (Dat)

namespace Cert.Proof.Proje

open Cert.ProjeIdeal Cert.ProjeIdeal.Gen Cert.Proof.Norm

variable (m : (ℓ : Loc nD τ sig) → Buf (Elt Ideal) ℓ)

/-- The logits of a row block, of the blocks loaded. -/
def blockLogit (x : S1024x2048.Idx → EReal) (g : S1x1x2048.Idx → EReal) (e : S1x1x6x2048.Idx → EReal) (w : S1x2048x128.Idx → EReal)
    (r : Fin 1024) (l : Fin 128) : EReal :=
  ∑ k : Fin 2048, blockLeft x g e r k * w (ix3 0 k l)

/-- The decays of a row block, of the blocks loaded. -/
def blockDecay (x : S1024x2048.Idx → EReal) (g : S1x1x2048.Idx → EReal) (e : S1x1x6x2048.Idx → EReal) (w : S1x2048x128.Idx → EReal)
    (p : S1x2x128.Idx → EReal) (r : Fin 1024) (l : Fin 128) : EReal :=
  decayOf (blockLogit x g e w r l) (p (ix3 0 0 l)) (p (ix3 0 1 l))

/-- The logits of an instance's rows. -/
abbrev logits (c : Dev nD) (t : Fin cfg0.N) : Fin 1024 → Fin 128 → EReal :=
  blockLogit (iblk m c 0 t) (iblk m c 1 t) (iblk m c 2 t) (iblk m c 4 t)

/-- The decays of an instance's rows. -/
abbrev decays (c : Dev nD) (t : Fin cfg0.N) : Fin 1024 → Fin 128 → EReal :=
  blockDecay (iblk m c 0 t) (iblk m c 1 t) (iblk m c 2 t) (iblk m c 4 t) (iblk m c 5 t)

/-- The first column block of a row block fills the gates' block. -/
theorem gates_filled (c : Dev nD) (t : Fin cfg0.N) (h : t.val % 8 = 0)
    (hD : ∀ (r : Fin 1024) (l : Fin 128), l.val < 16 → decays m c t r l - decays m c t r l = 0) (y : S1024x128.Idx) :
    (Run.held m c t.val t.isLt).1 y = blockGates (logits m c t) (decays m c t) (y 0) (y 1) := by
  rw [Run.held_first m c t h]
  frame_out
  canon_tiles x h
  · idx_vars x
    rw [Loads.at_coords (blockGates (logits m c t) (decays m c t)) (y 0) ⟨768 + x0.val, by omega⟩ (y 1) x1 h0 h1]
    refine group_last _ _ _ (logits m c t) (decays m c t) 768 (by omega) (by omega) (fun r l => ?_) (fun r l => ?_) hD x0 x1
    · pointwise [k0_pay57, k0_pay55, k0_pay54, blockLogit, blockLeft]
    · pointwise [k0_pay60, k0_pay59, k0_pay58, k0_pay57, k0_pay55, k0_pay54, blockDecay, decayOf, blockLogit, blockLeft]
  · idx_vars x
    rw [Loads.at_coords (blockGates (logits m c t) (decays m c t)) (y 0) ⟨512 + x0.val, by omega⟩ (y 1) x1 h0 h1]
    refine group_third _ _ _ (logits m c t) (decays m c t) 512 (by omega) (by omega) (fun r l => ?_) (fun r l => ?_) hD x0 x1
    · pointwise [k0_pay39, k0_pay37, blockLogit, blockLeft]
    · pointwise [k0_pay40, k0_pay39, k0_pay37, blockDecay, decayOf, blockLogit, blockLeft]
  · idx_vars x
    rw [Loads.at_coords (blockGates (logits m c t) (decays m c t)) (y 0) ⟨256 + x0.val, by omega⟩ (y 1) x1 h0 h1]
    refine group_second _ _ (logits m c t) (decays m c t) 256 (by omega) (by omega) (fun r l => ?_) (fun r l => ?_) hD x0 x1
    · pointwise [k0_pay23, k0_pay21, k0_pay20, k0_pay19, blockLogit, blockLeft]
    · pointwise [k0_pay24, k0_pay23, k0_pay21, k0_pay20, k0_pay19, blockDecay, decayOf, blockLogit, blockLeft]
  · idx_vars x
    rw [Loads.at_coords (blockGates (logits m c t) (decays m c t)) (y 0) ⟨0 + x0.val, by omega⟩ (y 1) x1 (h0.trans (Nat.zero_add _).symm) h1]
    refine group_first _ _ _ (logits m c t) (decays m c t) 0 (by omega) (by omega) (fun r l => ?_) (fun r l => ?_) hD x0 x1
    · pointwise [k0_pay4, k0_pay2, blockLogit, blockLeft]
    · pointwise [k0_pay5, k0_pay4, k0_pay2, blockDecay, decayOf, blockLogit, blockLeft]

/-- The other column blocks leave the gates' block as it is. -/
theorem gates_kept (c : Dev nD) (t : Fin cfg0.N) (h : ¬t.val % 8 = 0) (y : S1024x128.Idx) :
    (Run.held m c t.val t.isLt).1 y = (Run.held m c (t.val - 1) (Nat.lt_of_le_of_lt (Nat.sub_le _ _) t.isLt)).1 y := by
  rw [Run.held_later m c t h]

/-- The integer nought as a number. -/
theorem nought : FloatOps.sitofp (F := Ideal) FTy.f32 (0#32 : BitVec 32) = (0 : EReal) := by
  show (((0#32 : BitVec 32).toInt : ℝ) : EReal) = 0
  simp

/-- The small weights an instance loads: the last `32` columns, padded with noughts. -/
theorem block4 (c : Dev nD) (t : Fin cfg0.N) (k : Fin 2048) (l : Fin 128) :
    iblk m c 4 t (ix3 0 k l) = if h : l.val < 32 then m ((c : Thread nD τ).loc main_arg3) (ix3 0 k ⟨8192 + l.val, by omega⟩) else (0 : EReal) := by
  have e : ((win0_4.blk t).view.emb (ix3 0 k l)) = (ix3 0 k l : S2x2048x128.Idx) := by
    funext a
    fin_cases a
    · exact Fin.ext (by blk_simp [idx t] <;> rfl)
    · exact Fin.ext (by blk_simp [idx t] <;> rfl)
    · exact Fin.ext (by blk_simp [idx t] <;> rfl)
  have h : iblk m c 4 t (ix3 0 k l) = V m c main_v4 ((win0_4.blk t).view.emb (ix3 0 k l)) := rfl
  rw [h, e]
  show StableHlo.after _ _ _ _ = _
  simp only [List.flatten_cons, List.flatten_nil, List.append_nil, hostOps0, hostOps0_1, hostOps0_2, hostOps0_3, hostOps0_4,
    hostOps0_5, hostOps0_6, List.cons_append, List.nil_append]
  entry_read
  simp only [StableHlo.TRef.toBuf, StableHlo.TRef.ofBuf, StableHlo.TRef.of, cast_eq]
  by_cases hl : l.val < 32
  · rw [dif_pos hl]
    pointwise []
    exact dif_pos hl
  · rw [dif_neg hl]
    pointwise []
    exact (dif_neg hl).trans nought

/-- The logarithms of the rates an instance loads, padded with noughts. -/
theorem block5_rate (c : Dev nD) (t : Fin cfg0.N) (l : Fin 128) :
    iblk m c 5 t (ix3 0 0 l) = lanes (m ((c : Thread nD τ).loc main_arg4)) l := by
  unfold lanes
  have e : ((win0_5.blk t).view.emb (ix3 0 0 l)) = (ix3 0 0 l : S2x2x128.Idx) := by
    funext a
    fin_cases a
    · exact Fin.ext (by blk_simp [idx t] <;> rfl)
    · exact Fin.ext (by blk_simp [idx t] <;> rfl)
    · exact Fin.ext (by blk_simp [idx t] <;> rfl)
  have h : iblk m c 5 t (ix3 0 0 l) = V m c main_v11 ((win0_5.blk t).view.emb (ix3 0 0 l)) := rfl
  rw [h, e]
  show StableHlo.after _ _ _ _ = _
  simp only [List.flatten_cons, List.flatten_nil, List.append_nil, hostOps0, hostOps0_1, hostOps0_2, hostOps0_3, hostOps0_4,
    hostOps0_5, hostOps0_6, List.cons_append, List.nil_append]
  entry_read
  simp only [StableHlo.TRef.toBuf, StableHlo.TRef.ofBuf, StableHlo.TRef.of, cast_eq]
  by_cases hl : l.val < 16
  · rw [dif_pos hl]
    pointwise []
    exact dif_pos hl
  · rw [dif_neg hl]
    pointwise []
    exact (dif_neg hl).trans nought

/-- The biases an instance loads, padded with noughts. -/
theorem block5_bias (c : Dev nD) (t : Fin cfg0.N) (l : Fin 128) :
    iblk m c 5 t (ix3 0 1 l) = lanes (m ((c : Thread nD τ).loc main_arg5)) l := by
  unfold lanes
  have e : ((win0_5.blk t).view.emb (ix3 0 1 l)) = (ix3 0 1 l : S2x2x128.Idx) := by
    funext a
    fin_cases a
    · exact Fin.ext (by blk_simp [idx t] <;> rfl)
    · exact Fin.ext (by blk_simp [idx t] <;> rfl)
    · exact Fin.ext (by blk_simp [idx t] <;> rfl)
  have h : iblk m c 5 t (ix3 0 1 l) = V m c main_v11 ((win0_5.blk t).view.emb (ix3 0 1 l)) := rfl
  rw [h, e]
  show StableHlo.after _ _ _ _ = _
  simp only [List.flatten_cons, List.flatten_nil, List.append_nil, hostOps0, hostOps0_1, hostOps0_2, hostOps0_3, hostOps0_4,
    hostOps0_5, hostOps0_6, List.cons_append, List.nil_append]
  entry_read
  simp only [StableHlo.TRef.toBuf, StableHlo.TRef.ofBuf, StableHlo.TRef.of, cast_eq]
  by_cases hl : l.val < 16
  · rw [dif_pos hl]
    pointwise []
    exact dif_pos hl
  · rw [dif_neg hl]
    pointwise []
    exact (dif_neg hl).trans nought

/-- The logits of an instance's rows are those of the arrays. -/
theorem logits_eq (c : Dev nD) (t : Fin cfg0.N) (r : Fin 1024) (l : Fin 128) :
    logits m c t r l = logit (m ((c : Thread nD τ).loc main_arg0)) (m ((c : Thread nD τ).loc main_arg1)) (m ((c : Thread nD τ).loc main_arg2))
      (m ((c : Thread nD τ).loc main_arg3)) ⟨t.val / 8 * 1024 + r.val, by have : t.val < 128 := t.isLt; omega⟩ l := by
  unfold logits blockLogit logit proj blockLeft left modulated
  simp only [block0, block1, block2 m c _ r, block4]
  by_cases hl : l.val < 32
  · simp only [dif_pos hl]
  · simp only [dif_neg hl, mul_zero, Finset.sum_const_zero]

/-- The decays of an instance's rows are those of the arrays. -/
theorem decays_eq (c : Dev nD) (t : Fin cfg0.N) (r : Fin 1024) (l : Fin 128) :
    decays m c t r l = decay (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨t.val / 8 * 1024 + r.val, by have : t.val < 128 := t.isLt; omega⟩ l := by
  have h := logits_eq m c t r l
  unfold decays blockDecay decay
  rw [block5_rate, block5_bias, ← h]

/-- The gates' block at an instance. -/
theorem gates_held (c : Dev nD)
    (hD : ∀ (r : Fin 16384) (l : Fin 128), l.val < 16 → decay (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l
      - decay (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l = 0)
    (t : Fin cfg0.N) (r : Fin 1024) (l : Fin 128) :
    (Run.held m c t.val t.isLt).1 (ix2 r l) = gates (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      ⟨t.val / 8 * 1024 + r.val, by have : t.val < 128 := t.isLt; omega⟩ l := by
  have ht : t.val < 128 := t.isLt
  rw [Pipeline.eq_of_write_hold_apply (fun n h => (Run.held m c n h).1) 8 (fun t y => blockGates (logits m c t) (decays m c t) (y 0) (y 1))
    (fun t h y => gates_filled m c t h (fun r l hl => by rw [decays_eq]; exact hD _ _ hl) y) (fun t h y => gates_kept m c t h y) t (ix2 r l)]
  show blockGates _ _ r l = _
  unfold blockGates gates
  simp only [logits_eq, decays_eq]
  have e : 8 * (t.val / 8) / 8 = t.val / 8 := by omega
  have e' : ∀ x : ℕ, t.val / 8 * 1024 + (r.val / 128 * 128 + x) = (t.val / 8 * 1024 + r.val) / 128 * 128 + x := by omega
  have e'' : (t.val / 8 * 1024 + r.val) % 128 = r.val % 128 := by omega
  simp only [e, e', e'']

set_option maxHeartbeats 1000000 in
/-- The second result's array after the run. -/
theorem gates_out_eq (c : Dev nD)
    (hD : ∀ (r : Fin 16384) (l : Fin 128), l.val < 16 → decay (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l
      - decay (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) r l = 0) :
    (Run.dats m 0 c).arrAt 7 cfg0.N
    = fun i : S16384x128.Idx => gates (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (Run.dats m 0 c).arrAt_eq_of_covers 7 _ (by decide +kernel) fun t hf y => ?_
  blk_simp
  rw [Run.after0_7]
  idx_vars y
  have ht : t.val < 128 := t.isLt
  have e0 : ((((View.whole main_v13_1).slice (win0_7.rect t)).emb (ix2 y0 y1) 0 : Fin 16384) : ℕ) = t.val / 8 * 1024 + y0.val := by
    blk_point [idx t]
  have e1 : ((((View.whole main_v13_1).slice (win0_7.rect t)).emb (ix2 y0 y1) 1 : Fin 128) : ℕ) = y1.val := by
    blk_point [idx t]
  exact (gates_held m c hD t y0 y1).trans (Loads.at_coords (gates (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) _ ⟨t.val / 8 * 1024 + y0.val, by omega⟩
    _ y1 e0 e1).symm

end Cert.Proof.Proje
-- ==== Proof.Proje.Ref.lean ====
module

public import proofs.«01_k».proof.Proof.Proje.Spec
public import proofs.«01_k».proof.Proof.Gen.ProjeRefIdeal.Read

@[expose] public section

set_option maxRecDepth 16384

noncomputable section

open Idealize.ShloMosaic Idealize.ShloMosaic.TcCoe Idealize.SL.Sem

namespace Cert.Proof.Proje

open Cert.ProjeRefIdeal Cert.ProjeRefIdeal.Gen Cert.ProjeRefIdeal.Read Cert.Proof.Norm

/-- The reference's modulated context rows. -/
theorem ref_context (x : FVec Ideal S16384x2048 .f32) (g : FVec Ideal S4x2x2048 .f32) (e : FVec Ideal S4x8x6x2048 .f32)
    (b : Fin 32) (r : Fin 256) (l : Fin 2048) :
    val_main_v34 (F := Ideal) x g e (ix3 b r l) = left x g e ⟨b.val * 256 + r.val, by omega⟩ l := by
  have hc : condRow ⟨b.val * 256 + r.val, by omega⟩ = 0 := Fin.ext (if_pos (show b.val * 256 + r.val < 8192 by omega))
  unfold left modulated
  rw [hc]
  pointwise [val_main_v34, val_main_v33, val_main_v32, val_main_v31, val_main_v30, val_main_v29, val_main_v28, val_main_v27, val_main_cst_2, val_main_v26, val_main_v25, val_main_v24, val_main_v23, val_main_v22, val_main_v21, val_main_v20, val_main_v19, val_main_v18, val_main_v17, val_main_v16, val_main_v15, val_main_v14, val_main_v13, val_main_v12, val_main_v9, val_main_v8, val_main_v5, val_main_v4, val_main_v3, val_main_v2, val_main_v1, val_main_v0, val_main_cst, val_main_cst_0, val_main_cst_1]

/-- The reference's modulated latent rows. -/
theorem ref_latent (x : FVec Ideal S16384x2048 .f32) (g : FVec Ideal S4x2x2048 .f32) (e : FVec Ideal S4x8x6x2048 .f32)
    (b : Fin 4) (r : Fin 2048) (l : Fin 2048) :
    val_main_v57 (F := Ideal) x g e (ix3 b r l) = left x g e ⟨8192 + (b.val * 2048 + r.val), by omega⟩ l := by
  have hc : condRow ⟨8192 + (b.val * 2048 + r.val), by omega⟩ = ⟨1 + b.val, by omega⟩ := Fin.ext
    ((if_neg (show ¬8192 + (b.val * 2048 + r.val) < 8192 by omega)).trans (show 1 + (8192 + (b.val * 2048 + r.val) - 8192) / 2048 = 1 + b.val by omega))
  unfold left modulated
  rw [hc]
  pointwise [val_main_v57, val_main_v56, val_main_v55, val_main_v54, val_main_v53, val_main_v52, val_main_v51, val_main_v50, val_main_cst_6, val_main_v49, val_main_v48, val_main_v47, val_main_v46, val_main_v45, val_main_v44, val_main_v43, val_main_v42, val_main_v41, val_main_v40, val_main_v39, val_main_v38, val_main_v37, val_main_v36, val_main_v35, val_main_v11, val_main_v10, val_main_v7, val_main_v6, val_main_v3, val_main_v2, val_main_v1, val_main_v0, val_main_cst_3, val_main_cst_4, val_main_cst_5]

/-- The reference's context rows of the projection. -/
theorem ref_dot_context (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal)
    (b : Fin 32) (r : Fin 256) (l : Fin 8224) :
    val_main_v60 (F := Ideal) x g e w (ix3 b r l) = proj x g e w ⟨b.val * 256 + r.val, by omega⟩ l := by
  unfold proj
  simp only [← ref_context]
  unfold val_main_v60
  generalize val_main_v34 (F := Ideal) x g e = y
  pointwise [val_main_v59, val_main_v58]

/-- The reference's latent rows of the projection. -/
theorem ref_dot_latent (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal)
    (b : Fin 4) (r : Fin 2048) (l : Fin 8224) :
    val_main_v63 (F := Ideal) x g e w (ix3 b r l) = proj x g e w ⟨8192 + (b.val * 2048 + r.val), by omega⟩ l := by
  unfold proj
  simp only [← ref_latent]
  unfold val_main_v63
  generalize val_main_v57 (F := Ideal) x g e = y
  pointwise [val_main_v62, val_main_v61]

/-- The first result's context rows before they are stacked. -/
theorem ref_columns_context (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal)
    (b : Fin 32) (r : Fin 256) (l : Fin 8192) :
    val_main_v64 (F := Ideal) x g e w (ix3 b r l) = columns x g e w ⟨b.val * 256 + r.val, by omega⟩ l := by
  have hc := ref_dot_context x g e w b r ⟨l.val, by omega⟩
  unfold columns
  rw [← hc]
  unfold val_main_v64
  generalize val_main_v60 (F := Ideal) x g e w = y
  pointwise []

/-- The first result's latent rows before they are stacked. -/
theorem ref_columns_latent (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal)
    (b : Fin 4) (r : Fin 2048) (l : Fin 8192) :
    val_main_v66 (F := Ideal) x g e w (ix3 b r l) = columns x g e w ⟨8192 + (b.val * 2048 + r.val), by omega⟩ l := by
  have hc := ref_dot_latent x g e w b r ⟨l.val, by omega⟩
  unfold columns
  rw [← hc]
  unfold val_main_v66
  generalize val_main_v63 (F := Ideal) x g e w = y
  pointwise []

/-- The reference's first result at an element. -/
theorem ref_eq (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal) :
    val_main_v68 (F := Ideal) x g e w = fun i : Cert.ProjeRefIdeal.S16384x8192.Idx => columns x g e w (i 0) (i 1) := by
  funext i
  idx_vars i
  show _ = columns x g e w i0 i1
  unfold val_main_v68 val_main_v65 val_main_v67
  have hc := fun b r => ref_columns_context x g e w b r i1
  have hl := fun b r => ref_columns_latent x g e w b r i1
  generalize val_main_v64 (F := Ideal) x g e w = y at hc ⊢
  generalize val_main_v66 (F := Ideal) x g e w = z at hl ⊢
  by_cases h : i0.val < 8192
  · have hd := Nat.div_add_mod i0.val 256
    refine Eq.trans (b := y (ix3 ⟨i0.val / 256, by omega⟩ ⟨i0.val % 256, by omega⟩ i1)) ?_ ((hc _ _).trans (congrArg (fun r => columns x g e w r i1) (Fin.ext (show i0.val / 256 * 256 + i0.val % 256 = i0.val by omega))))
    pointwise []
    exact dif_pos h
  · have hd := Nat.div_add_mod (i0.val - 8192) 2048
    refine Eq.trans (b := z (ix3 ⟨(i0.val - 8192) / 2048, by omega⟩ ⟨(i0.val - 8192) % 2048, by omega⟩ i1)) ?_
      ((hl _ _).trans (congrArg (fun r => columns x g e w r i1) (Fin.ext (show 8192 + ((i0.val - 8192) / 2048 * 2048 + (i0.val - 8192) % 2048) = i0.val by omega))))
    pointwise []
    exact dif_neg h

end Cert.Proof.Proje
-- ==== Proof.Proje.Sums.lean ====
module

public import Idealize.ShloMosaic.Lib.Pointwise
public import Idealize.ShloMosaic.Lib.Tactic

@[expose] public section

noncomputable section

open Idealize.ShloMosaic

namespace Cert.Proof.Proje

/-- Adding up along a list. -/
theorem foldl_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- The positions of a window of one chunk. -/
def positions : Fin 128 ≃ (⟨4, ![1, 1, 128, 1]⟩ : Shape).Idx where
  toFun n := ix4 (0 : Fin 1) (0 : Fin 1) n (0 : Fin 1)
  invFun i := i 2
  left_inv _ := rfl
  right_inv i := by
    funext a
    fin_cases a
    · exact Fin.ext (by have : (i 0).val < 1 := (i 0).isLt; show 0 = (i 0).val; omega)
    · exact Fin.ext (by have : (i 1).val < 1 := (i 1).isLt; show 0 = (i 1).val; omega)
    · rfl
    · exact Fin.ext (by have : (i 3).val < 1 := (i 3).isLt; show 0 = (i 3).val; omega)

/-- A running sum along the chunks of `128`: the sum over the positions up to the element's. -/
theorem running (B C H : ℕ) (x : (⟨4, ![B, C, 128, H]⟩ : Shape).Idx → EReal) (init : (⟨0, ![]⟩ : Shape).Idx → EReal) (hi : ∀ i, init i = 0)
    (h : (⟨4, ![B, C, 128, H]⟩ : Shape).ReduceWindows ![1, 1, 128, 1] ![1, 1, 1, 1] ![0, 0, 127, 0] ![0, 0, 0, 0] ⟨4, ![B, C, 128, H]⟩)
    (hu : 0 < (⟨0, ![]⟩ : Shape).numel) (b : Fin B) (c : Fin C) (p : Fin 128) (k : Fin H) :
    Host.reduceWindowAdd (F := Ideal) (φ := .f32) ![1, 1, 128, 1] ![1, 1, 1, 1] ![0, 0, 127, 0] ![0, 0, 0, 0] x init h hu (ix4 b c p k)
      = ∑ y : Fin 128, if y.val ≤ p.val then x (ix4 b c y k) else 0 := by
  unfold Host.reduceWindowAdd
  rw [Ideal.hostReduceWindowAdd_def]
  unfold Ideal.hostReduceWindowAdd Host.reduceWindow
  dsimp only
  rw [foldl_sum, hi, zero_add, ← Fin.sum_univ_def, ← Equiv.sum_comp (⟨4, ![1, 1, 128, 1]⟩ : Shape).rowMajor, ← Equiv.sum_comp positions,
    ← Equiv.sum_comp (Equiv.addRight (p + 1)) (fun y : Fin 128 => if y.val ≤ p.val then x (ix4 b c y k) else 0)]
  refine Finset.sum_congr rfl fun n _ => ?_
  simp only [Equiv.symm_apply_apply]
  have hv : (n + (p + 1)).val = (n.val + p.val + 1) % 128 := by
    rw [Fin.val_add, Fin.val_add]
    show (n.val + (p.val + 1) % 128) % 128 = _
    omega
  have hn := n.isLt
  have hp := p.isLt
  show _ = if (n + (p + 1)).val ≤ p.val then x (ix4 b c (n + (p + 1)) k) else 0
  by_cases hw : 127 ≤ p.val + n.val
  · have hq : (n + (p + 1)).val = p.val + n.val - 127 := by omega
    rw [if_pos (by omega)]
    refine (dif_pos ?_).trans ?_
    · intro a
      fin_cases a
      · exact ⟨Nat.zero_le _, by show b.val * 1 + 0 - 0 < B; have := b.isLt; omega⟩
      · exact ⟨Nat.zero_le _, by show c.val * 1 + 0 - 0 < C; have := c.isLt; omega⟩
      · exact ⟨by show 127 ≤ p.val * 1 + n.val; omega, by show p.val * 1 + n.val - 127 < 128; omega⟩
      · exact ⟨Nat.zero_le _, by show k.val * 1 + 0 - 0 < H; have := k.isLt; omega⟩
    · refine congrArg x ?_
      funext a
      fin_cases a
      · exact Fin.ext (by show b.val * 1 + 0 - 0 = b.val; omega)
      · exact Fin.ext (by show c.val * 1 + 0 - 0 = c.val; omega)
      · exact Fin.ext (by show p.val * 1 + n.val - 127 = (n + (p + 1)).val; omega)
      · exact Fin.ext (by show k.val * 1 + 0 - 0 = k.val; omega)
  · rw [if_neg (by omega)]
    refine dif_neg fun hall => ?_
    have h2 : 127 ≤ p.val * 1 + n.val := (hall 2).1
    omega

end Cert.Proof.Proje
-- ==== Proof.Proje.RefContext.lean ====
module

public import proofs.«01_k».proof.Proof.Proje.Ref
public import proofs.«01_k».proof.Proof.Proje.Sums

@[expose] public section

set_option maxRecDepth 16384

noncomputable section

open Idealize.ShloMosaic Idealize.ShloMosaic.TcCoe Idealize.SL.Sem

namespace Cert.Proof.Proje

open Cert.ProjeRefIdeal Cert.ProjeRefIdeal.Gen Cert.ProjeRefIdeal.Read Cert.Proof.Norm

variable (x : Cert.ProjeRefIdeal.S16384x2048.Idx → EReal) (g : Cert.ProjeRefIdeal.S4x2x2048.Idx → EReal)
  (e : Cert.ProjeRefIdeal.S4x8x6x2048.Idx → EReal) (w : Cert.ProjeRefIdeal.S2x2048x8224.Idx → EReal) (a d : Cert.ProjeRefIdeal.S2x2x8.Idx → EReal)

/-- The softplus of a number, with its guard against a number that is none. -/
theorem softplus_eq (z : EReal) : (if z ≠ z then z else max z 0 + Ideal.log1p (Ideal.exp (-FloatOps.absf (F := Ideal) (φ := .f32) z)))
    = max z 0 + Ideal.log (1 + Ideal.exp (0 - FloatOps.absf (F := Ideal) (φ := .f32) z)) := by
  rw [if_neg (fun h => h rfl), zero_sub]
  rfl

/-- The decay's argument in the context rows. -/
theorem ref_arg_context (b : Fin 32) (t : Fin 256) (s : Fin 2) (h : Fin 8) :
    val_main_v79 (F := Ideal) x g e w d (ix4 b t s h) = val_main_v60 (F := Ideal) x g e w (ix3 b t ⟨8192 + (s.val * 8 + h.val), by omega⟩) + d (ix3 0 s h) := by
  unfold val_main_v79 val_main_v76 val_main_v75
  generalize val_main_v60 (F := Ideal) x g e w = y
  pointwise [val_main_v78, val_main_v77, val_main_v72, val_main_v71]

/-- The softplus of the context rows. -/
theorem ref_softplus_context (i : Cert.ProjeRefIdeal.S32x256x2x8.Idx) (z : EReal) (hz : val_main_v79 (F := Ideal) x g e w d i = z) :
    val_main_v80 (F := Ideal) x g e w d i = max z 0 + Ideal.log (1 + Ideal.exp (0 - FloatOps.absf (F := Ideal) (φ := .f32) z)) := by
  unfold val_main_v80 val_main_call0_v11 val_main_call0_v10 val_main_call0_v9 val_main_call0_v8 val_main_call0_v7 val_main_call0_v6 val_main_call0_v4
    val_main_call0_v3 val_main_call0_v1
  generalize val_main_v79 (F := Ideal) x g e w d = y at hz ⊢
  subst hz
  pointwise [val_main_call0_v5, val_main_call0_v2, val_main_call0_v0, val_main_call0_cst]
  exact softplus_eq (y i)

/-- The rates in the context rows. -/
theorem ref_rate_context (b : Fin 32) (t : Fin 256) (s : Fin 2) (h : Fin 8) :
    val_main_v82 (F := Ideal) a (ix4 b t s h) = 0 - Ideal.exp (a (ix3 0 s h)) := by
  rw [zero_sub]
  pointwise [val_main_v82, val_main_v81, val_main_v74, val_main_v73, val_main_v70, val_main_v69]

/-- The decays of the context rows. -/
theorem ref_decay_context (b : Fin 32) (t : Fin 256) (s : Fin 2) (h : Fin 8) (l : Fin 128) (hl : l.val = s.val * 8 + h.val) :
    val_main_v83 (F := Ideal) x g e w a d (ix4 b t s h) = decay x g e w a d ⟨b.val * 256 + t.val, by omega⟩ l := by
  have hs : (⟨l.val / 8, by omega⟩ : Fin 2) = s := Fin.ext (show l.val / 8 = s.val by omega)
  have hh : (⟨l.val % 8, by omega⟩ : Fin 8) = h := Fin.ext (show l.val % 8 = h.val by omega)
  have hc : (⟨8192 + l.val, by omega⟩ : Fin 8224) = ⟨8192 + (s.val * 8 + h.val), by omega⟩ := Fin.ext (show 8192 + l.val = 8192 + (s.val * 8 + h.val) by omega)
  have hL : logit x g e w ⟨b.val * 256 + t.val, by omega⟩ l = proj x g e w ⟨b.val * 256 + t.val, by omega⟩ ⟨8192 + (s.val * 8 + h.val), by omega⟩ :=
    (dif_pos (show l.val < 32 by omega)).trans (congrArg _ hc)
  have hP : ∀ f : Cert.ProjeRefIdeal.S2x2x8.Idx → EReal, lanes f l = f (ix3 0 s h) := fun f =>
    (dif_pos (show l.val < 16 by omega)).trans (by rw [hs, hh])
  unfold decay decayOf
  rw [hL, hP, hP, ← ref_dot_context]
  exact congrArg₂ (fun u v : EReal => u * v) (ref_rate_context a b t s h) (ref_softplus_context x g e w d _ _ (ref_arg_context x g e w d b t s h))

/-- The forward decays in chunks of the context rows. -/
theorem ref_forward_chunk_context (b : Fin 32) (c : Fin 2) (p : Fin 128) (h : Fin 8) :
    val_main_v93 (F := Ideal) x g e w a d (ix4 b c p h) = val_main_v83 (F := Ideal) x g e w a d (ix4 b ⟨c.val * 128 + p.val, by omega⟩ 0 h) := by
  unfold val_main_v93 val_main_v92 val_main_v91
  generalize val_main_v83 (F := Ideal) x g e w a d = y
  pointwise []

/-- The forward running sums of the context rows. -/
theorem ref_forward_context (b : Fin 32) (t : Fin 256) (h : Fin 8) :
    val_main_v95 (F := Ideal) x g e w a d (ix3 b t h) = ∑ y : Fin 128, if y.val ≤ t.val % 128 then
      decay x g e w a d ⟨b.val * 256 + (t.val / 128 * 128 + y.val), by omega⟩ ⟨h.val, by omega⟩ else 0 := by
  refine Eq.trans (b := val_main_v94 (F := Ideal) x g e w a d (ix4 b ⟨t.val / 128, by omega⟩ ⟨t.val % 128, by omega⟩ h)) ?_ ?_
  · unfold val_main_v95
    generalize val_main_v94 (F := Ideal) x g e w a d = y
    pointwise []
  · unfold val_main_v94
    refine (running 32 2 8 _ _ (fun i => ?_) _ _ b _ _ h).trans ?_
    · pointwise [val_main_call1_call0_v0, val_main_call1_call0_cst]
    · refine Finset.sum_congr rfl fun y _ => ?_
      by_cases hy : y.val ≤ t.val % 128
      · rw [if_pos hy, if_pos hy, ref_forward_chunk_context]
        exact ref_decay_context x g e w a d b _ 0 h _ (show h.val = 0 * 8 + h.val by omega)
      · rw [if_neg hy, if_neg hy]

/-- The backward decays in chunks of the context rows. -/
theorem ref_backward_chunk_context (b : Fin 32) (c : Fin 2) (p : Fin 128) (h : Fin 8) :
    val_main_v99 (F := Ideal) x g e w a d (ix4 b c p h) = val_main_v83 (F := Ideal) x g e w a d (ix4 b ⟨255 - (c.val * 128 + p.val), by omega⟩ 1 h) := by
  refine Eq.trans (b := val_main_v97 (F := Ideal) x g e w a d (ix4 b ⟨c.val * 128 + p.val, by omega⟩ 0 h)) ?_ ?_
  · unfold val_main_v99 val_main_v98
    generalize val_main_v97 (F := Ideal) x g e w a d = y
    pointwise []
  · refine Eq.trans (b := val_main_v96 (F := Ideal) x g e w a d (ix4 b ⟨255 - (c.val * 128 + p.val), by omega⟩ 0 h)) ?_ ?_
    · have hv : (⟨c.val * 128 + p.val, by omega⟩ : Fin 256).rev = ⟨255 - (c.val * 128 + p.val), by omega⟩ := Fin.ext (by
        rw [Fin.val_rev]
        show 256 - (c.val * 128 + p.val + 1) = 255 - (c.val * 128 + p.val)
        omega)
      unfold val_main_v97
      generalize val_main_v96 (F := Ideal) x g e w a d = y
      pointwise []
      exact congrArg (fun r => y (ix4 b r 0 h)) hv
    · unfold val_main_v96
      generalize val_main_v83 (F := Ideal) x g e w a d = y
      pointwise []

/-- The backward running sums of the context rows. -/
theorem ref_backward_context (b : Fin 32) (t : Fin 256) (h : Fin 8) :
    val_main_v102 (F := Ideal) x g e w a d (ix3 b t h) = ∑ y : Fin 128, if t.val % 128 ≤ y.val then
      decay x g e w a d ⟨b.val * 256 + (t.val / 128 * 128 + y.val), by omega⟩ ⟨8 + h.val, by omega⟩ else 0 := by
  refine Eq.trans (b := val_main_v101 (F := Ideal) x g e w a d (ix3 b ⟨255 - t.val, by omega⟩ h)) ?_ ?_
  · have hv : t.rev = ⟨255 - t.val, by omega⟩ := Fin.ext (by
      rw [Fin.val_rev]
      show 256 - (t.val + 1) = 255 - t.val
      omega)
    unfold val_main_v102
    generalize val_main_v101 (F := Ideal) x g e w a d = y
    pointwise []
    exact congrArg (fun r => y (ix3 b r h)) hv
  refine Eq.trans (b := val_main_v100 (F := Ideal) x g e w a d (ix4 b ⟨(255 - t.val) / 128, by omega⟩ ⟨(255 - t.val) % 128, by omega⟩ h)) ?_ ?_
  · unfold val_main_v101
    generalize val_main_v100 (F := Ideal) x g e w a d = y
    pointwise []
  · unfold val_main_v100
    refine (running 32 2 8 _ _ (fun i => ?_) _ _ b _ _ h).trans ?_
    · pointwise [val_main_call2_call0_v0, val_main_call2_call0_cst]
    · rw [← Equiv.sum_comp Fin.revPerm]
      refine Finset.sum_congr rfl fun y _ => ?_
      have hv : (Fin.revPerm y).val = 127 - y.val := by
        show (Fin.rev y).val = _
        rw [Fin.val_rev]
        omega
      have hlt := y.isLt
      have ht := t.isLt
      by_cases hy : t.val % 128 ≤ y.val
      · rw [if_pos hy, if_pos (show (Fin.revPerm y).val ≤ (255 - t.val) % 128 by omega), ref_backward_chunk_context]
        refine (ref_decay_context x g e w a d b _ 1 h ⟨8 + h.val, by omega⟩ (show 8 + h.val = 1 * 8 + h.val by omega)).trans ?_
        refine congrArg (fun r => decay x g e w a d r ⟨8 + h.val, by omega⟩) (Fin.ext ?_)
        show b.val * 256 + (255 - ((255 - t.val) / 128 * 128 + (Fin.revPerm y).val)) = b.val * 256 + (t.val / 128 * 128 + y.val)
        omega
      · rw [if_neg hy, if_neg (show ¬(Fin.revPerm y).val ≤ (255 - t.val) % 128 by omega)]

/-- The logistic of the context rows. -/
theorem ref_logistic_context (b : Fin 32) (t : Fin 256) (k : Fin 16) :
    val_main_v90 (F := Ideal) x g e w (ix3 b t k) = Ideal.div 1 (1 + Ideal.exp (0 - proj x g e w ⟨b.val * 256 + t.val, by omega⟩ ⟨8208 + k.val, by omega⟩)) := by
  rw [← ref_dot_context, zero_sub]
  unfold val_main_v90 val_main_v88 val_main_v86 val_main_v85 val_main_v84
  generalize val_main_v60 (F := Ideal) x g e w = y
  pointwise [val_main_v87, val_main_v89, val_main_cst_7, val_main_cst_8]

/-- The noughts after the gates in the context rows. -/
theorem ref_noughts_context (i : Cert.ProjeRefIdeal.S32x256x96.Idx) : val_main_v103 (F := Ideal) i = 0 := by
  pointwise [val_main_v103, val_main_cst_9]

/-- The context rows' gates, lane group by lane group. -/
theorem ref_gates_context (b : Fin 32) (t : Fin 256) (l : Fin 128) :
    val_main_v104 (F := Ideal) x g e w a d (ix3 b t l) = gates x g e w a d ⟨b.val * 256 + t.val, by omega⟩ l := by
  have hr : (b.val * 256 + t.val) % 128 = t.val % 128 := by omega
  have hd : ∀ k : Fin 128, (⟨(b.val * 256 + t.val) / 128 * 128 + k.val, by omega⟩ : Fin 16384) = ⟨b.val * 256 + (t.val / 128 * 128 + k.val), by omega⟩ := fun k =>
    Fin.ext (show (b.val * 256 + t.val) / 128 * 128 + k.val = b.val * 256 + (t.val / 128 * 128 + k.val) by omega)
  unfold gates gateOf
  simp only [hr, hd]
  by_cases h1 : l.val < 8
  · rw [if_pos h1]
    refine Eq.trans (b := val_main_v95 (F := Ideal) x g e w a d (ix3 b t ⟨l.val, h1⟩)) ?_ (ref_forward_context x g e w a d b t ⟨l.val, h1⟩)
    unfold val_main_v104
    generalize val_main_v95 (F := Ideal) x g e w a d = y1
    generalize val_main_v102 (F := Ideal) x g e w a d = y2
    generalize val_main_v90 (F := Ideal) x g e w = y3
    generalize val_main_v103 (F := Ideal) = y4
    pointwise []
    exact dif_pos h1
  rw [if_neg h1]
  by_cases h2 : l.val < 16
  · rw [if_pos h2]
    have hl : (⟨8 + (l.val - 8), by omega⟩ : Fin 128) = l := Fin.ext (show 8 + (l.val - 8) = l.val by omega)
    have hb := ref_backward_context x g e w a d b t ⟨l.val - 8, by omega⟩
    simp only [hl] at hb
    refine Eq.trans (b := val_main_v102 (F := Ideal) x g e w a d (ix3 b t ⟨l.val - 8, by omega⟩)) ?_ hb
    unfold val_main_v104
    generalize val_main_v95 (F := Ideal) x g e w a d = y1
    generalize val_main_v102 (F := Ideal) x g e w a d = y2
    generalize val_main_v90 (F := Ideal) x g e w = y3
    generalize val_main_v103 (F := Ideal) = y4
    pointwise []
    exact (dif_neg h1).trans (dif_pos (by omega))
  rw [if_neg h2]
  by_cases h3 : l.val < 32
  · rw [if_pos h3]
    have hL : logit x g e w ⟨b.val * 256 + t.val, by omega⟩ l = proj x g e w ⟨b.val * 256 + t.val, by omega⟩ ⟨8208 + (l.val - 16), by omega⟩ :=
      (dif_pos h3).trans (congrArg _ (Fin.ext (show 8192 + l.val = 8208 + (l.val - 16) by omega)))
    rw [hL]
    refine Eq.trans (b := val_main_v90 (F := Ideal) x g e w (ix3 b t ⟨l.val - 16, by omega⟩)) ?_ (ref_logistic_context x g e w b t ⟨l.val - 16, by omega⟩)
    unfold val_main_v104
    generalize val_main_v95 (F := Ideal) x g e w a d = y1
    generalize val_main_v102 (F := Ideal) x g e w a d = y2
    generalize val_main_v90 (F := Ideal) x g e w = y3
    generalize val_main_v103 (F := Ideal) = y4
    pointwise []
    exact (dif_neg h1).trans ((dif_neg (by omega)).trans (dif_pos (by omega)))
  rw [if_neg h3]
  refine Eq.trans (b := val_main_v103 (F := Ideal) (ix3 b t ⟨l.val - 32, by omega⟩)) ?_ (ref_noughts_context _)
  unfold val_main_v104
  generalize val_main_v95 (F := Ideal) x g e w a d = y1
  generalize val_main_v102 (F := Ideal) x g e w a d = y2
  generalize val_main_v90 (F := Ideal) x g e w = y3
  generalize val_main_v103 (F := Ideal) = y4
  pointwise []
  refine (dif_neg h1).trans ((dif_neg (by omega)).trans ((dif_neg (by omega)).trans ?_))
  exact congrArg (fun k => y4 (ix3 b t k)) (Fin.ext (show l.val - 8 - 8 - 16 = l.val - 32 by omega))

end Cert.Proof.Proje
-- ==== Proof.Proje.RefLatent.lean ====
module

public import proofs.«01_k».proof.Proof.Proje.Ref
public import proofs.«01_k».proof.Proof.Proje.RefContext

@[expose] public section

set_option maxRecDepth 16384

noncomputable section

open Idealize.ShloMosaic Idealize.ShloMosaic.TcCoe Idealize.SL.Sem

namespace Cert.Proof.Proje

open Cert.ProjeRefIdeal Cert.ProjeRefIdeal.Gen Cert.ProjeRefIdeal.Read Cert.Proof.Norm

variable (x : Cert.ProjeRefIdeal.S16384x2048.Idx → EReal) (g : Cert.ProjeRefIdeal.S4x2x2048.Idx → EReal)
  (e : Cert.ProjeRefIdeal.S4x8x6x2048.Idx → EReal) (w : Cert.ProjeRefIdeal.S2x2048x8224.Idx → EReal) (a d : Cert.ProjeRefIdeal.S2x2x8.Idx → EReal)

/-- The decay's argument in the latent rows. -/
theorem ref_arg_latent (b : Fin 4) (t : Fin 2048) (s : Fin 2) (h : Fin 8) :
    val_main_v116 (F := Ideal) x g e w d (ix4 b t s h) = val_main_v63 (F := Ideal) x g e w (ix3 b t ⟨8192 + (s.val * 8 + h.val), by omega⟩) + d (ix3 0 s h) := by
  unfold val_main_v116 val_main_v113 val_main_v112
  generalize val_main_v63 (F := Ideal) x g e w = y
  pointwise [val_main_v115, val_main_v114, val_main_v109, val_main_v108]

/-- The softplus of the latent rows. -/
theorem ref_softplus_latent (i : Cert.ProjeRefIdeal.S4x2048x2x8.Idx) (z : EReal) (hz : val_main_v116 (F := Ideal) x g e w d i = z) :
    val_main_v117 (F := Ideal) x g e w d i = max z 0 + Ideal.log (1 + Ideal.exp (0 - FloatOps.absf (F := Ideal) (φ := .f32) z)) := by
  unfold val_main_v117 val_main_call3_v11 val_main_call3_v10 val_main_call3_v9 val_main_call3_v8 val_main_call3_v7 val_main_call3_v6 val_main_call3_v4
    val_main_call3_v3 val_main_call3_v1
  generalize val_main_v116 (F := Ideal) x g e w d = y at hz ⊢
  subst hz
  pointwise [val_main_call3_v5, val_main_call3_v2, val_main_call3_v0, val_main_call3_cst]
  exact softplus_eq (y i)

/-- The rates in the latent rows. -/
theorem ref_rate_latent (b : Fin 4) (t : Fin 2048) (s : Fin 2) (h : Fin 8) :
    val_main_v119 (F := Ideal) a (ix4 b t s h) = 0 - Ideal.exp (a (ix3 0 s h)) := by
  rw [zero_sub]
  pointwise [val_main_v119, val_main_v118, val_main_v111, val_main_v110, val_main_v107, val_main_v106]

/-- The decays of the latent rows. -/
theorem ref_decay_latent (b : Fin 4) (t : Fin 2048) (s : Fin 2) (h : Fin 8) (l : Fin 128) (hl : l.val = s.val * 8 + h.val) :
    val_main_v120 (F := Ideal) x g e w a d (ix4 b t s h) = decay x g e w a d ⟨8192 + (b.val * 2048 + t.val), by omega⟩ l := by
  have hs : (⟨l.val / 8, by omega⟩ : Fin 2) = s := Fin.ext (show l.val / 8 = s.val by omega)
  have hh : (⟨l.val % 8, by omega⟩ : Fin 8) = h := Fin.ext (show l.val % 8 = h.val by omega)
  have hc : (⟨8192 + l.val, by omega⟩ : Fin 8224) = ⟨8192 + (s.val * 8 + h.val), by omega⟩ := Fin.ext (show 8192 + l.val = 8192 + (s.val * 8 + h.val) by omega)
  have hL : logit x g e w ⟨8192 + (b.val * 2048 + t.val), by omega⟩ l = proj x g e w ⟨8192 + (b.val * 2048 + t.val), by omega⟩ ⟨8192 + (s.val * 8 + h.val), by omega⟩ :=
    (dif_pos (show l.val < 32 by omega)).trans (congrArg _ hc)
  have hP : ∀ f : Cert.ProjeRefIdeal.S2x2x8.Idx → EReal, lanes f l = f (ix3 0 s h) := fun f =>
    (dif_pos (show l.val < 16 by omega)).trans (by rw [hs, hh])
  unfold decay decayOf
  rw [hL, hP, hP, ← ref_dot_latent]
  exact congrArg₂ (fun u v : EReal => u * v) (ref_rate_latent a b t s h) (ref_softplus_latent x g e w d _ _ (ref_arg_latent x g e w d b t s h))

/-- The forward decays in chunks of the latent rows. -/
theorem ref_forward_chunk_latent (b : Fin 4) (c : Fin 16) (p : Fin 128) (h : Fin 8) :
    val_main_v130 (F := Ideal) x g e w a d (ix4 b c p h) = val_main_v120 (F := Ideal) x g e w a d (ix4 b ⟨c.val * 128 + p.val, by omega⟩ 0 h) := by
  unfold val_main_v130 val_main_v129 val_main_v128
  generalize val_main_v120 (F := Ideal) x g e w a d = y
  pointwise []

/-- The forward running sums of the latent rows. -/
theorem ref_forward_latent (b : Fin 4) (t : Fin 2048) (h : Fin 8) :
    val_main_v132 (F := Ideal) x g e w a d (ix3 b t h) = ∑ y : Fin 128, if y.val ≤ t.val % 128 then
      decay x g e w a d ⟨8192 + (b.val * 2048 + (t.val / 128 * 128 + y.val)), by omega⟩ ⟨h.val, by omega⟩ else 0 := by
  refine Eq.trans (b := val_main_v131 (F := Ideal) x g e w a d (ix4 b ⟨t.val / 128, by omega⟩ ⟨t.val % 128, by omega⟩ h)) ?_ ?_
  · unfold val_main_v132
    generalize val_main_v131 (F := Ideal) x g e w a d = y
    pointwise []
  · unfold val_main_v131
    refine (running 4 16 8 _ _ (fun i => ?_) _ _ b _ _ h).trans ?_
    · pointwise [val_main_call4_call0_v0, val_main_call4_call0_cst]
    · refine Finset.sum_congr rfl fun y _ => ?_
      by_cases hy : y.val ≤ t.val % 128
      · rw [if_pos hy, if_pos hy, ref_forward_chunk_latent]
        exact ref_decay_latent x g e w a d b _ 0 h _ (show h.val = 0 * 8 + h.val by omega)
      · rw [if_neg hy, if_neg hy]

/-- The backward decays in chunks of the latent rows. -/
theorem ref_backward_chunk_latent (b : Fin 4) (c : Fin 16) (p : Fin 128) (h : Fin 8) :
    val_main_v136 (F := Ideal) x g e w a d (ix4 b c p h) = val_main_v120 (F := Ideal) x g e w a d (ix4 b ⟨2047 - (c.val * 128 + p.val), by omega⟩ 1 h) := by
  refine Eq.trans (b := val_main_v134 (F := Ideal) x g e w a d (ix4 b ⟨c.val * 128 + p.val, by omega⟩ 0 h)) ?_ ?_
  · unfold val_main_v136 val_main_v135
    generalize val_main_v134 (F := Ideal) x g e w a d = y
    pointwise []
  · refine Eq.trans (b := val_main_v133 (F := Ideal) x g e w a d (ix4 b ⟨2047 - (c.val * 128 + p.val), by omega⟩ 0 h)) ?_ ?_
    · have hv : (⟨c.val * 128 + p.val, by omega⟩ : Fin 2048).rev = ⟨2047 - (c.val * 128 + p.val), by omega⟩ := Fin.ext (by
        rw [Fin.val_rev]
        show 2048 - (c.val * 128 + p.val + 1) = 2047 - (c.val * 128 + p.val)
        omega)
      unfold val_main_v134
      generalize val_main_v133 (F := Ideal) x g e w a d = y
      pointwise []
      exact congrArg (fun r => y (ix4 b r 0 h)) hv
    · unfold val_main_v133
      generalize val_main_v120 (F := Ideal) x g e w a d = y
      pointwise []

/-- The backward running sums of the latent rows. -/
theorem ref_backward_latent (b : Fin 4) (t : Fin 2048) (h : Fin 8) :
    val_main_v139 (F := Ideal) x g e w a d (ix3 b t h) = ∑ y : Fin 128, if t.val % 128 ≤ y.val then
      decay x g e w a d ⟨8192 + (b.val * 2048 + (t.val / 128 * 128 + y.val)), by omega⟩ ⟨8 + h.val, by omega⟩ else 0 := by
  refine Eq.trans (b := val_main_v138 (F := Ideal) x g e w a d (ix3 b ⟨2047 - t.val, by omega⟩ h)) ?_ ?_
  · have hv : t.rev = ⟨2047 - t.val, by omega⟩ := Fin.ext (by
      rw [Fin.val_rev]
      show 2048 - (t.val + 1) = 2047 - t.val
      omega)
    unfold val_main_v139
    generalize val_main_v138 (F := Ideal) x g e w a d = y
    pointwise []
    exact congrArg (fun r => y (ix3 b r h)) hv
  refine Eq.trans (b := val_main_v137 (F := Ideal) x g e w a d (ix4 b ⟨(2047 - t.val) / 128, by omega⟩ ⟨(2047 - t.val) % 128, by omega⟩ h)) ?_ ?_
  · unfold val_main_v138
    generalize val_main_v137 (F := Ideal) x g e w a d = y
    pointwise []
  · unfold val_main_v137
    refine (running 4 16 8 _ _ (fun i => ?_) _ _ b _ _ h).trans ?_
    · pointwise [val_main_call5_call0_v0, val_main_call5_call0_cst]
    · rw [← Equiv.sum_comp Fin.revPerm]
      refine Finset.sum_congr rfl fun y _ => ?_
      have hv : (Fin.revPerm y).val = 127 - y.val := by
        show (Fin.rev y).val = _
        rw [Fin.val_rev]
        omega
      have hlt := y.isLt
      have ht := t.isLt
      by_cases hy : t.val % 128 ≤ y.val
      · rw [if_pos hy, if_pos (show (Fin.revPerm y).val ≤ (2047 - t.val) % 128 by omega), ref_backward_chunk_latent]
        refine (ref_decay_latent x g e w a d b _ 1 h ⟨8 + h.val, by omega⟩ (show 8 + h.val = 1 * 8 + h.val by omega)).trans ?_
        refine congrArg (fun r => decay x g e w a d r ⟨8 + h.val, by omega⟩) (Fin.ext ?_)
        show 8192 + (b.val * 2048 + (2047 - ((2047 - t.val) / 128 * 128 + (Fin.revPerm y).val))) = 8192 + (b.val * 2048 + (t.val / 128 * 128 + y.val))
        omega
      · rw [if_neg hy, if_neg (show ¬(Fin.revPerm y).val ≤ (2047 - t.val) % 128 by omega)]

/-- The logistic of the latent rows. -/
theorem ref_logistic_latent (b : Fin 4) (t : Fin 2048) (k : Fin 16) :
    val_main_v127 (F := Ideal) x g e w (ix3 b t k) = Ideal.div 1 (1 + Ideal.exp (0 - proj x g e w ⟨8192 + (b.val * 2048 + t.val), by omega⟩ ⟨8208 + k.val, by omega⟩)) := by
  rw [← ref_dot_latent, zero_sub]
  unfold val_main_v127 val_main_v125 val_main_v123 val_main_v122 val_main_v121
  generalize val_main_v63 (F := Ideal) x g e w = y
  pointwise [val_main_v124, val_main_v126, val_main_cst_10, val_main_cst_11]

/-- The noughts after the gates in the latent rows. -/
theorem ref_noughts_latent (i : Cert.ProjeRefIdeal.S4x2048x96.Idx) : val_main_v140 (F := Ideal) i = 0 := by
  pointwise [val_main_v140, val_main_cst_12]

/-- The latent rows' gates, lane group by lane group. -/
theorem ref_gates_latent (b : Fin 4) (t : Fin 2048) (l : Fin 128) :
    val_main_v141 (F := Ideal) x g e w a d (ix3 b t l) = gates x g e w a d ⟨8192 + (b.val * 2048 + t.val), by omega⟩ l := by
  have hr : (8192 + (b.val * 2048 + t.val)) % 128 = t.val % 128 := by omega
  have hd : ∀ k : Fin 128, (⟨(8192 + (b.val * 2048 + t.val)) / 128 * 128 + k.val, by omega⟩ : Fin 16384) = ⟨8192 + (b.val * 2048 + (t.val / 128 * 128 + k.val)), by omega⟩ := fun k =>
    Fin.ext (show (8192 + (b.val * 2048 + t.val)) / 128 * 128 + k.val = 8192 + (b.val * 2048 + (t.val / 128 * 128 + k.val)) by omega)
  unfold gates gateOf
  simp only [hr, hd]
  by_cases h1 : l.val < 8
  · rw [if_pos h1]
    refine Eq.trans (b := val_main_v132 (F := Ideal) x g e w a d (ix3 b t ⟨l.val, h1⟩)) ?_ (ref_forward_latent x g e w a d b t ⟨l.val, h1⟩)
    unfold val_main_v141
    generalize val_main_v132 (F := Ideal) x g e w a d = y1
    generalize val_main_v139 (F := Ideal) x g e w a d = y2
    generalize val_main_v127 (F := Ideal) x g e w = y3
    generalize val_main_v140 (F := Ideal) = y4
    pointwise []
    exact dif_pos h1
  rw [if_neg h1]
  by_cases h2 : l.val < 16
  · rw [if_pos h2]
    have hl : (⟨8 + (l.val - 8), by omega⟩ : Fin 128) = l := Fin.ext (show 8 + (l.val - 8) = l.val by omega)
    have hb := ref_backward_latent x g e w a d b t ⟨l.val - 8, by omega⟩
    simp only [hl] at hb
    refine Eq.trans (b := val_main_v139 (F := Ideal) x g e w a d (ix3 b t ⟨l.val - 8, by omega⟩)) ?_ hb
    unfold val_main_v141
    generalize val_main_v132 (F := Ideal) x g e w a d = y1
    generalize val_main_v139 (F := Ideal) x g e w a d = y2
    generalize val_main_v127 (F := Ideal) x g e w = y3
    generalize val_main_v140 (F := Ideal) = y4
    pointwise []
    exact (dif_neg h1).trans (dif_pos (by omega))
  rw [if_neg h2]
  by_cases h3 : l.val < 32
  · rw [if_pos h3]
    have hL : logit x g e w ⟨8192 + (b.val * 2048 + t.val), by omega⟩ l = proj x g e w ⟨8192 + (b.val * 2048 + t.val), by omega⟩ ⟨8208 + (l.val - 16), by omega⟩ :=
      (dif_pos h3).trans (congrArg _ (Fin.ext (show 8192 + l.val = 8208 + (l.val - 16) by omega)))
    rw [hL]
    refine Eq.trans (b := val_main_v127 (F := Ideal) x g e w (ix3 b t ⟨l.val - 16, by omega⟩)) ?_ (ref_logistic_latent x g e w b t ⟨l.val - 16, by omega⟩)
    unfold val_main_v141
    generalize val_main_v132 (F := Ideal) x g e w a d = y1
    generalize val_main_v139 (F := Ideal) x g e w a d = y2
    generalize val_main_v127 (F := Ideal) x g e w = y3
    generalize val_main_v140 (F := Ideal) = y4
    pointwise []
    exact (dif_neg h1).trans ((dif_neg (by omega)).trans (dif_pos (by omega)))
  rw [if_neg h3]
  refine Eq.trans (b := val_main_v140 (F := Ideal) (ix3 b t ⟨l.val - 32, by omega⟩)) ?_ (ref_noughts_latent _)
  unfold val_main_v141
  generalize val_main_v132 (F := Ideal) x g e w a d = y1
  generalize val_main_v139 (F := Ideal) x g e w a d = y2
  generalize val_main_v127 (F := Ideal) x g e w = y3
  generalize val_main_v140 (F := Ideal) = y4
  pointwise []
  refine (dif_neg h1).trans ((dif_neg (by omega)).trans ((dif_neg (by omega)).trans ?_))
  exact congrArg (fun k => y4 (ix3 b t k)) (Fin.ext (show l.val - 8 - 8 - 16 = l.val - 32 by omega))

end Cert.Proof.Proje
-- ==== Proof.Proje.RefGates.lean ====
module

public import proofs.«01_k».proof.Proof.Proje.RefContext
public import proofs.«01_k».proof.Proof.Proje.RefLatent

@[expose] public section

set_option maxRecDepth 16384

noncomputable section

open Idealize.ShloMosaic Idealize.ShloMosaic.TcCoe Idealize.SL.Sem

namespace Cert.Proof.Proje

open Cert.ProjeRefIdeal Cert.ProjeRefIdeal.Gen Cert.ProjeRefIdeal.Read

/-- The reference's second result at an element: the context's gates over the latents'. -/
theorem ref_gates_eq (x : Cert.ProjeRefIdeal.S16384x2048.Idx → EReal) (g : Cert.ProjeRefIdeal.S4x2x2048.Idx → EReal)
    (e : Cert.ProjeRefIdeal.S4x8x6x2048.Idx → EReal) (w : Cert.ProjeRefIdeal.S2x2048x8224.Idx → EReal) (a d : Cert.ProjeRefIdeal.S2x2x8.Idx → EReal) :
    val_main_v143 (F := Ideal) x g e w a d = fun i : Cert.ProjeRefIdeal.S16384x128.Idx => gates x g e w a d (i 0) (i 1) := by
  funext i
  idx_vars i
  show _ = gates x g e w a d i0 i1
  unfold val_main_v143 val_main_v105 val_main_v142
  have hc := fun b r => ref_gates_context x g e w a d b r i1
  have hl := fun b r => ref_gates_latent x g e w a d b r i1
  generalize val_main_v104 (F := Ideal) x g e w a d = y at hc ⊢
  generalize val_main_v141 (F := Ideal) x g e w a d = z at hl ⊢
  by_cases h : i0.val < 8192
  · have hd := Nat.div_add_mod i0.val 256
    refine Eq.trans (b := y (ix3 ⟨i0.val / 256, by omega⟩ ⟨i0.val % 256, by omega⟩ i1)) ?_
      ((hc _ _).trans (congrArg (fun r => gates x g e w a d r i1) (Fin.ext (show i0.val / 256 * 256 + i0.val % 256 = i0.val by omega))))
    pointwise []
    exact dif_pos h
  · have hd := Nat.div_add_mod (i0.val - 8192) 2048
    refine Eq.trans (b := z (ix3 ⟨(i0.val - 8192) / 2048, by omega⟩ ⟨(i0.val - 8192) % 2048, by omega⟩ i1)) ?_
      ((hl _ _).trans (congrArg (fun r => gates x g e w a d r i1)
        (Fin.ext (show 8192 + ((i0.val - 8192) / 2048 * 2048 + (i0.val - 8192) % 2048) = i0.val by omega))))
    pointwise []
    exact dif_neg h

end Cert.Proof.Proje
-- ==== Proof.Proje.Finite.lean ====
module

public import proofs.«01_k».proof.Proof.Proje.Spec
public import proofs.«01_k».proof.Proof.Reals

@[expose] public section

noncomputable section

open Idealize.ShloMosaic

namespace Cert.Proof.Proje

open Cert.ProjeIdeal Cert.Proof.Norm

/-- An extended real that is a real number. -/
def IsReal (v : EReal) : Prop := ∃ r : ℝ, (r : EReal) = v

theorem IsReal.coe (r : ℝ) : IsReal (r : EReal) := ⟨r, rfl⟩

theorem IsReal.zero : IsReal 0 := ⟨0, rfl⟩

theorem IsReal.one : IsReal 1 := ⟨1, rfl⟩

theorem IsReal.add {u v : EReal} : IsReal u → IsReal v → IsReal (u + v) := by
  rintro ⟨r, rfl⟩ ⟨q, rfl⟩
  exact ⟨r + q, EReal.coe_add r q⟩

theorem IsReal.mul {u v : EReal} : IsReal u → IsReal v → IsReal (u * v) := by
  rintro ⟨r, rfl⟩ ⟨q, rfl⟩
  exact ⟨r * q, EReal.coe_mul r q⟩

theorem IsReal.sub {u v : EReal} : IsReal u → IsReal v → IsReal (u - v) := by
  rintro ⟨r, rfl⟩ ⟨q, rfl⟩
  exact ⟨r - q, EReal.coe_sub r q⟩

theorem IsReal.max {u v : EReal} : IsReal u → IsReal v → IsReal (max u v) := fun hu hv => by
  rcases max_choice u v with h | h <;> rw [h]
  · exact hu
  · exact hv

theorem IsReal.neg {u : EReal} : IsReal u → IsReal (-u) := by
  rintro ⟨r, rfl⟩
  exact ⟨-r, EReal.coe_neg r⟩

theorem IsReal.sum {n : ℕ} {f : Fin n → EReal} (h : ∀ k, IsReal (f k)) : IsReal (∑ k, f k) := by
  choose r hr using h
  exact ⟨∑ k, r k, (Reals.coe_sum _ _).trans (Finset.sum_congr rfl fun k _ => hr k)⟩

/-- A real number less itself is nought. -/
theorem IsReal.sub_self {u : EReal} : IsReal u → u - u = 0 := by
  rintro ⟨r, rfl⟩
  rw [← EReal.coe_sub, _root_.sub_self]
  rfl

/-- The exponential of a real is a positive real. -/
theorem exp_real {u : EReal} : IsReal u → ∃ r : ℝ, 0 < r ∧ (r : EReal) = Ideal.exp u := by
  rintro ⟨r, rfl⟩
  exact ⟨Real.exp r, Real.exp_pos r, rfl⟩

/-- The logarithm of a positive real is a real. -/
theorem log_real (r : ℝ) (h : 0 < r) : IsReal (Ideal.log (r : EReal)) := by
  refine ⟨Real.log r, ?_⟩
  show _ = if r ≤ 0 then (⊥ : EReal) else (Real.log r : EReal)
  rw [if_neg (not_le.2 h)]

/-- The reciprocal root of a positive real is a real. -/
theorem rsqrt_real (r : ℝ) (h : 0 < r) : IsReal (Ideal.rsqrt (r : EReal)) := by
  refine ⟨(Real.sqrt r)⁻¹, ?_⟩
  show _ = if r < 0 then (⊥ : EReal) else if r = 0 then ⊤ else (((Real.sqrt r)⁻¹ : ℝ) : EReal)
  rw [if_neg (not_lt.2 h.le), if_neg h.ne']

/-- The decay of real logit, rate and bias is a real. -/
theorem decayOf_real {z a d : EReal} (hz : IsReal z) (ha : IsReal a) (hd : IsReal d) : IsReal (decayOf z a d) := by
  obtain ⟨p, _, hp⟩ := exp_real ha
  have hu : IsReal (z + d) := hz.add hd
  have hA : IsReal (FloatOps.absf (F := Ideal) (φ := .f32) (z + d)) := hu.max hu.neg
  obtain ⟨q, hq0, hq⟩ := exp_real (IsReal.zero.sub hA)
  unfold decayOf
  rw [← hp, ← hq]
  refine (IsReal.zero.sub ⟨p, rfl⟩).mul ((hu.max .zero).add ?_)
  have h1 : (1 : EReal) + (q : EReal) = ((1 + q : ℝ) : EReal) := by rw [EReal.coe_add]; rfl
  rw [h1]
  exact log_real _ (by linarith)

/-- The reciprocal root mean square of a row of reals is a real. -/
theorem root_real (f : Fin 2048 → EReal) (h : ∀ k, IsReal (f k)) :
    IsReal (Ideal.rsqrt (Ideal.div (∑ k : Fin 2048, f k * f k) (Ideal.ofBits .f32 0x45000000#32) + Ideal.ofBits .f32 0x358637BD#32)) := by
  choose r hr using h
  have hs : (∑ k : Fin 2048, f k * f k) = ((∑ k : Fin 2048, r k * r k : ℝ) : EReal) := by
    rw [Reals.coe_sum]
    exact Finset.sum_congr rfl fun k _ => by rw [EReal.coe_mul, hr]
  have hd : ∃ c : ℝ, 0 < c ∧ Ideal.ofBits .f32 0x45000000#32 = (c : EReal) := by
    refine ⟨2048, by norm_num, ?_⟩
    simp [Ideal.ofBits, Ideal.ieee]
    rw [← EReal.coe_mul]
    norm_num
  have he : ∃ c : ℝ, 0 < c ∧ Ideal.ofBits .f32 0x358637BD#32 = (c : EReal) := by
    refine ⟨8796093 * (2 : ℝ) ^ (-43 : ℤ), by positivity, ?_⟩
    simp [Ideal.ofBits, Ideal.ieee]
  obtain ⟨c, hc0, hc⟩ := hd
  obtain ⟨q, hq0, hq⟩ := he
  rw [hs, hc, hq, Reals.div_real _ _ hc0.ne', ← EReal.coe_add]
  refine rsqrt_real _ (add_pos_of_nonneg_of_pos (mul_nonneg (Finset.sum_nonneg fun k _ => mul_self_nonneg _) (inv_nonneg.2 hc0.le)) hq0)

/-- The projection of reals is a real. -/
theorem proj_real (x : S16384x2048.Idx → EReal) (g : S4x2x2048.Idx → EReal) (e : S4x8x6x2048.Idx → EReal) (w : S2x2048x8224.Idx → EReal)
    (hx : ∀ i, IsReal (x i)) (hg : ∀ i, IsReal (g i)) (he : ∀ i, IsReal (e i)) (hw : ∀ i, IsReal (w i)) (r : Fin 16384) (l : Fin 8224) :
    IsReal (proj x g e w r l) :=
  IsReal.sum fun _ => ((((hx _).mul (root_real _ fun _ => hx _)).mul (hg _)).mul (IsReal.one.add (he _))).add (he _) |>.mul (hw _)

/-- The decay of real arrays, less itself, is nought. -/
theorem decay_sub_self (x : S16384x2048.Idx → EReal) (g : S4x2x2048.Idx → EReal) (e : S4x8x6x2048.Idx → EReal) (w : S2x2048x8224.Idx → EReal)
    (a d : S2x2x8.Idx → EReal) (hx : ∀ i, IsReal (x i)) (hg : ∀ i, IsReal (g i)) (he : ∀ i, IsReal (e i)) (hw : ∀ i, IsReal (w i))
    (ha : ∀ i, IsReal (a i)) (hd : ∀ i, IsReal (d i)) (r : Fin 16384) (l : Fin 128) (hl : l.val < 16) :
    decay x g e w a d r l - decay x g e w a d r l = 0 := by
  refine IsReal.sub_self ?_
  unfold decay logit lanes
  rw [dif_pos (by omega), dif_pos hl, dif_pos hl]
  exact decayOf_real (proj_real x g e w hx hg he hw _ _) (ha _) (hd _)

end Cert.Proof.Proje
-- ==== Proof.Proje.Claim.lean ====
module

public import proofs.«01_k».proof.Proof.Proje.Kernel
public import proofs.«01_k».proof.Proof.Proje.KernelGates
public import proofs.«01_k».proof.Proof.Proje.RefGates
public import proofs.«01_k».proof.Proof.Proje.Finite
public import proofs.«01_k».proof.Proof.Gen.ProjeRefIdeal.Run
public import Idealize.ShloMosaic.Lib.ReduceAll

@[expose] public section

set_option maxRecDepth 16384

noncomputable section

open Idealize.ShloMosaic Idealize.ShloMosaic.TcCoe Idealize.SL.Sem

namespace Cert.Proof.Proje

open Cert.ProjeRefIdeal.Read

/-- The shape relations of the printed precondition. -/
instance preFacts : Cert.Pre_finite_gates.Facts :=
  ⟨by decide, by decide, by decide, by decide, by decide, by decide, by decide, by decide, by decide, by decide, by decide⟩

/-- Two one-bit words whose conjunction is one are both one. -/
theorem and_one (a b : BitVec 1) (h : a &&& b = 1#1) : a = 1#1 ∧ b = 1#1 := by
  rcases BitVec.eq_zero_or_eq_one a with rfl | rfl <;> rcases BitVec.eq_zero_or_eq_one b with rfl | rfl <;> first | exact ⟨rfl, rfl⟩ | exact absurd h (by decide)

/-- A value the precondition's comparison admits is a real. -/
theorem real_of_word (v : EReal) (h : BitVec.ofBool (decide (max v (-v) < Ideal.ofBits .f32 0x7F800000#32)) = 1#1) : IsReal v := by
  refine Reals.real_of_abs_lt v ?_
  rw [← Reals.pos_inf]
  by_contra hn
  rw [decide_eq_false hn] at h
  exact absurd h (by decide)

/-- Arrays on which the precondition holds are arrays of reals. -/
theorem reals_of_pre (x : Cert.Pre_finite_gates.S16384x2048.Idx → EReal) (g : Cert.Pre_finite_gates.S4x2x2048.Idx → EReal)
    (e : Cert.Pre_finite_gates.S4x8x6x2048.Idx → EReal) (w : Cert.Pre_finite_gates.S2x2048x8224.Idx → EReal)
    (a d : Cert.Pre_finite_gates.S2x2x8.Idx → EReal) (h : Cert.Pre_finite_gates.fn (F := Ideal) x g e w a d = fun _ => 1#1) :
    (∀ i, IsReal (x i)) ∧ (∀ i, IsReal (g i)) ∧ (∀ i, IsReal (e i)) ∧ (∀ i, IsReal (w i)) ∧ (∀ i, IsReal (a i)) ∧ (∀ i, IsReal (d i)) := by
  have h0 := congrFun h (Shape.Idx.first Cert.Pre_finite_gates.Facts.h_S_)
  unfold Cert.Pre_finite_gates.fn Cert.Pre_finite_gates.fn_part1 at h0
  haveI : Subsingleton Cert.Pre_finite_gates.S_.Idx := ⟨fun a b => funext fun k => k.elim0⟩
  obtain ⟨h1, hd⟩ := and_one _ _ h0
  obtain ⟨h2, ha⟩ := and_one _ _ h1
  obtain ⟨h3, hw⟩ := and_one _ _ h2
  obtain ⟨h4, he⟩ := and_one _ _ h3
  obtain ⟨hx, hg⟩ := and_one _ _ h4
  exact ⟨fun i => real_of_word _ (Host.reduce_andi_all _ _ _ _ _ hx i), fun i => real_of_word _ (Host.reduce_andi_all _ _ _ _ _ hg i),
    fun i => real_of_word _ (Host.reduce_andi_all _ _ _ _ _ he i), fun i => real_of_word _ (Host.reduce_andi_all _ _ _ _ _ hw i),
    fun i => real_of_word _ (Host.reduce_andi_all _ _ _ _ _ ha i), fun i => real_of_word _ (Host.reduce_andi_all _ _ _ _ _ hd i)⟩

/-- The reference's first result on equal arrays. -/
theorem columns_congr (x x' : Cert.ProjeRefIdeal.S16384x2048.Idx → EReal)
    (g g' : Cert.ProjeRefIdeal.S4x2x2048.Idx → EReal)
    (e e' : Cert.ProjeRefIdeal.S4x8x6x2048.Idx → EReal)
    (w w' : Cert.ProjeRefIdeal.S2x2048x8224.Idx → EReal)
    (hx : x = x') (hg : g = g') (he : e = e') (hw : w = w') :
    val_main_v68 (F := Ideal) x g e w = fun i : Cert.ProjeRefIdeal.S16384x8192.Idx => columns x' g' e' w' (i 0) (i 1) := by
  subst hx hg he hw
  exact ref_eq _ _ _ _

/-- The reference's second result on equal arrays. -/
theorem gates_congr (x x' : Cert.ProjeRefIdeal.S16384x2048.Idx → EReal)
    (g g' : Cert.ProjeRefIdeal.S4x2x2048.Idx → EReal)
    (e e' : Cert.ProjeRefIdeal.S4x8x6x2048.Idx → EReal)
    (w w' : Cert.ProjeRefIdeal.S2x2048x8224.Idx → EReal)
    (a a' : Cert.ProjeRefIdeal.S2x2x8.Idx → EReal)
    (d d' : Cert.ProjeRefIdeal.S2x2x8.Idx → EReal)
    (hx : x = x') (hg : g = g') (he : e = e') (hw : w = w') (ha : a = a') (hd : d = d') :
    val_main_v143 (F := Ideal) x g e w a d = fun i : Cert.ProjeRefIdeal.S16384x128.Idx => gates x' g' e' w' a' d' (i 0) (i 1) := by
  subst hx hg he hw ha hd
  exact ref_gates_eq _ _ _ _ _ _

/-- The even projection call at the ideal instance computes the reference's projection and its gates. -/
theorem value : Cert.algebraic_ProjeIdeal_ProjeRefIdeal_pre_finite_gates := by
  intro m ρ m' ρ' hpre hagree
  refine ⟨fun c => fun i : Cert.ProjeIdeal.S16384x8192.Idx => columns (m ((c.tc : Thread Cert.ProjeIdeal.nD Cert.ProjeIdeal.τ).loc Cert.ProjeIdeal.main_arg0))
    (m ((c.tc : Thread Cert.ProjeIdeal.nD Cert.ProjeIdeal.τ).loc Cert.ProjeIdeal.main_arg1)) (m ((c.tc : Thread Cert.ProjeIdeal.nD Cert.ProjeIdeal.τ).loc Cert.ProjeIdeal.main_arg2))
    (m ((c.tc : Thread Cert.ProjeIdeal.nD Cert.ProjeIdeal.τ).loc Cert.ProjeIdeal.main_arg3)) (i 0) (i 1),
    fun c => fun i : Cert.ProjeIdeal.S16384x128.Idx => gates (m ((c.tc : Thread Cert.ProjeIdeal.nD Cert.ProjeIdeal.τ).loc Cert.ProjeIdeal.main_arg0))
    (m ((c.tc : Thread Cert.ProjeIdeal.nD Cert.ProjeIdeal.τ).loc Cert.ProjeIdeal.main_arg1)) (m ((c.tc : Thread Cert.ProjeIdeal.nD Cert.ProjeIdeal.τ).loc Cert.ProjeIdeal.main_arg2))
    (m ((c.tc : Thread Cert.ProjeIdeal.nD Cert.ProjeIdeal.τ).loc Cert.ProjeIdeal.main_arg3)) (m ((c.tc : Thread Cert.ProjeIdeal.nD Cert.ProjeIdeal.τ).loc Cert.ProjeIdeal.main_arg4))
    (m ((c.tc : Thread Cert.ProjeIdeal.nD Cert.ProjeIdeal.τ).loc Cert.ProjeIdeal.main_arg5)) (i 0) (i 1), ?_, ?_⟩
  · refine (θ_run Cert.ProjeIdeal.defs _ _).mono (fun r h c => ?_)
      (θ_run_and (Cert.ProjeIdeal.Run.run_main (F := Ideal) m ρ) (Cert.ProjeIdeal.Run.frame (F := Ideal) m ρ))
    obtain ⟨hx, hg, he, hw, ha, hd⟩ := reals_of_pre _ _ _ _ _ _ (hpre c)
    exact ⟨((h.1 c).1 6).trans (out_eq m c), ((h.1 c).1 7).trans (gates_out_eq m c (decay_sub_self _ _ _ _ _ _ hx hg he hw ha hd)), h.2.1 c⟩
  · refine (θ_run Cert.ProjeRefIdeal.defs _ _).mono (fun _ h c => ⟨(h c).1.trans ?_, (h c).2.1.trans ?_, (h c).2.2⟩) (Cert.ProjeRefIdeal.Value.run (F := Ideal) m' ρ')
    · exact (val_main_v68_eq (StableHlo.launchContents m' c)).trans
        (columns_congr _ _ _ _ _ _ _ _ (hagree c).1 (hagree c).2.1 (hagree c).2.2.1 (hagree c).2.2.2.1)
    · exact (val_main_v143_eq (StableHlo.launchContents m' c)).trans
        (gates_congr _ _ _ _ _ _ _ _ _ _ _ _ (hagree c).1 (hagree c).2.1 (hagree c).2.2.1 (hagree c).2.2.2.1 (hagree c).2.2.2.2.1 (hagree c).2.2.2.2.2)

/-- The reference runs and leaves its arguments. -/
theorem ref_quiescent : Cert.quiescent_ProjeRefIdeal := fun m ρ _ =>
  (θ_run Cert.ProjeRefIdeal.defs _ _).mono (fun r h => ⟨fun c => (h c).2.2, Idealize.ShloMosaic.sem_eq_zero_of_no_sems (by decide) r.2⟩)
    (Cert.ProjeRefIdeal.Value.run (F := Ideal) m ρ)

end Cert.Proof.Proje
-- ==== Proof.Oproj.Kernel.lean ====
module

public import proofs.«01_k».proof.Defs
public import proofs.«01_k».proof.Proof.Gen.OprojIdeal.Value
public import proofs.«01_k».proof.Proof.Norm.Modulated
public import proofs.«01_k».proof.Proof.Loads
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Oproj

open Cert.OprojIdeal Cert.OprojIdeal.Gen Cert.Proof.Norm

/-- The output projection at a row and lane: rows below `8192` come from the first operand, the rest from the second. -/
def dot (p s : S8192x2048.Idx → EReal) (w : S2x2048x2048.Idx → EReal) (r : Fin 16384) (l : Fin 2048) : EReal :=
  if h : r.val < 8192 then ∑ k : Fin 2048, p (ix2 ⟨r.val, h⟩ k) * w (ix3 0 k l)
  else ∑ k : Fin 2048, s (ix2 ⟨r.val - 8192, by omega⟩ k) * w (ix3 0 k l)

/-- The residual row plus its gate times its projection. -/
def gated (p s : S8192x2048.Idx → EReal) (w : S2x2048x2048.Idx → EReal) (x : S16384x2048.Idx → EReal) (e : S4x8x6x2048.Idx → EReal)
    (r : Fin 16384) (l : Fin 2048) : EReal :=
  x (ix2 r l) + e (ix4 1 (condRow r) 2 l) * dot p s w r l

variable (m : (ℓ : Loc nD τ sig) → Buf (Elt Ideal) ℓ)

/-- The blocks the windows take at an instance. -/
theorem idx : ∀ t : Fin grid0.N, win0_0.index t = ![min t.val 15, 0] ∧ win0_1.index t = ![t.val - 16, 0]
    ∧ win0_2.index t = ![0, 0, 0] ∧ win0_3.index t = ![t.val, 0]
    ∧ win0_4.index t = ![1, if t.val < 16 then 0 else 1 + (t.val - 16) / 4, 0, 0] ∧ win0_5.index t = ![t.val, 0] := by
  decide +kernel

/-- The block of the first operand an early instance loads. -/
theorem block0 (c : Dev nD) (t : Fin cfg0.N) (h : t.val < 16) (r : Fin 512) (l : Fin 2048) :
    iblk m c 0 t (ix2 r l) = m ((c : Thread nD τ).loc main_arg0) (ix2 ⟨t.val * 512 + r.val, by omega⟩ l) := by
  have e : min t.val 15 = t.val := by omega
  blk_point [iblk, V, idx t, e]

/-- The block of the second operand a late instance loads. -/
theorem block1 (c : Dev nD) (t : Fin cfg0.N) (r : Fin 512) (l : Fin 2048) :
    iblk m c 1 t (ix2 r l) = m ((c : Thread nD τ).loc main_arg1) (ix2 ⟨(t.val - 16) * 512 + r.val, by have : t.val < 32 := t.isLt; omega⟩ l) := by
  blk_point [iblk, V, idx t]

/-- The weight an instance loads. -/
theorem block2 (c : Dev nD) (t : Fin cfg0.N) (k l : Fin 2048) :
    iblk m c 2 t (ix3 0 k l) = m ((c : Thread nD τ).loc main_arg2) (ix3 0 k l) := by
  blk_point [iblk, idx t]

/-- The residual rows an instance loads. -/
theorem block3 (c : Dev nD) (t : Fin cfg0.N) (r : Fin 512) (l : Fin 2048) :
    iblk m c 3 t (ix2 r l) = m ((c : Thread nD τ).loc main_arg3) (ix2 ⟨t.val * 512 + r.val, by have : t.val < 32 := t.isLt; omega⟩ l) := by
  blk_point [iblk, V, idx t]

/-- The conditioning of an instance's rows. -/
theorem block4 (c : Dev nD) (t : Fin cfg0.N) (r : Fin 512) (s : Fin 6) (l : Fin 2048) :
    iblk m c 4 t (ix4 0 0 s l) = m ((c : Thread nD τ).loc main_arg4)
      (ix4 1 (condRow ⟨t.val * 512 + r.val, by have : t.val < 32 := t.isLt; omega⟩) s l) := by
  have ht : t.val < 32 := t.isLt
  have e : (((cfg0.win 4).blk t).view.emb (ix4 0 0 s l))
      = (ix4 1 (condRow ⟨t.val * 512 + r.val, by omega⟩) s l : S4x8x6x2048.Idx) := by
    funext a
    fin_cases a
    · exact Fin.ext (by blk_simp [idx t] <;> rfl)
    · refine Fin.ext ?_
      blk_simp [idx t]
      show (if t.val < 16 then 0 else 1 + (t.val - 16) / 4)
        = if t.val * 512 + r.val < 8192 then 0 else 1 + (t.val * 512 + r.val - 8192) / 2048
      split_ifs <;> omega
    · exact Fin.ext (by blk_simp [idx t] <;> rfl)
    · exact Fin.ext (by blk_simp [idx t] <;> rfl)
  have h : iblk m c 4 t (ix4 0 0 s l) = V m c main_arg4 (((cfg0.win 4).blk t).view.emb (ix4 0 0 s l)) := rfl
  rw [h, e]
  rfl

/-- What an instance stores, element by element. -/
theorem stored (c : Dev nD) (t : Fin cfg0.N) (r : Fin 512) (l : Fin 2048) :
    outsAt0 m c t.val t.isLt (ix2 r l) = gated (m ((c : Thread nD τ).loc main_arg0)) (m ((c : Thread nD τ).loc main_arg1))
      (m ((c : Thread nD τ).loc main_arg2)) (m ((c : Thread nD τ).loc main_arg3)) (m ((c : Thread nD τ).loc main_arg4))
      ⟨t.val * 512 + r.val, by have : t.val < 32 := t.isLt; omega⟩ l := by
  have ht : t.val < 32 := t.isLt
  unfold gated dot
  rw [← block3 m c t r l, ← block4 m c t r 2 l]
  by_cases h : t.val < 16
  · rw [outsAt0_A m c t h (by omega), dif_pos (show t.val * 512 + r.val < 8192 by omega)]
    simp only [← block0 m c t h, ← block2 m c t]
    frame_out
    pointwise [k0_pay1]
  · rw [outsAt0_B m c t h (by omega), dif_neg (show ¬t.val * 512 + r.val < 8192 by omega)]
    have q : t.val * 512 + r.val - 8192 = (t.val - 16) * 512 + r.val := by omega
    have e : ∀ k : Fin 2048, m ((c : Thread nD τ).loc main_arg1) (ix2 ⟨t.val * 512 + r.val - 8192, by omega⟩ k) = iblk m c 1 t (ix2 r k) := by
      intro k
      rw [block1 m c t r k]
      simp only [q]
    simp only [e, ← block2 m c t]
    frame_out
    pointwise [k0_pay2]

/-- The result array after the run. -/
theorem out_eq (c : Dev nD) : (dats m 0 c).arrAt 5 cfg0.N
    = fun i : S16384x2048.Idx => gated (m ((c : Thread nD τ).loc main_arg0)) (m ((c : Thread nD τ).loc main_arg1))
      (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  idx_vars y
  have ht : t.val < 32 := t.isLt
  have e0 : ((((View.whole main_v1).slice (win0_5.rect t)).emb (ix2 y0 y1) 0 : Fin 16384) : ℕ) = t.val * 512 + y0.val := by
    blk_point [idx t]
  have e1 : ((((View.whole main_v1).slice (win0_5.rect t)).emb (ix2 y0 y1) 1 : Fin 2048) : ℕ) = y1.val := by
    blk_point [idx t]
  rw [stored]
  exact (Loads.at_coords (gated (m ((c : Thread nD τ).loc main_arg0)) (m ((c : Thread nD τ).loc main_arg1))
      (m ((c : Thread nD τ).loc main_arg2)) (m ((c : Thread nD τ).loc main_arg3)) (m ((c : Thread nD τ).loc main_arg4))) _ ⟨t.val * 512 + y0.val, by omega⟩
    _ y1 e0 e1).symm

end Cert.Proof.Oproj
-- ==== Proof.Oproj.Claim.lean ====
module

public import proofs.«01_k».proof.Proof.Oproj.Kernel
public import proofs.«01_k».proof.Proof.Gen.OprojRefIdeal.Read
public import proofs.«01_k».proof.Proof.Gen.OprojRefIdeal.Run

@[expose] public section

set_option maxRecDepth 16384

noncomputable section

open Idealize.ShloMosaic Idealize.ShloMosaic.TcCoe Idealize.SL.Sem

namespace Cert.Proof.Oproj

open Cert.OprojRefIdeal Cert.OprojRefIdeal.Gen Cert.OprojRefIdeal.Read Cert.Proof.Norm

/-- The reference's gated context rows. -/
theorem ref_context (p s : S8192x2048.Idx → EReal) (w : S2x2048x2048.Idx → EReal) (x : S16384x2048.Idx → EReal) (e : S4x8x6x2048.Idx → EReal)
    (b : Fin 32) (r : Fin 256) (l : Fin 2048) :
    val_main_v24 (F := Ideal) p w x e (ix3 b r l) = gated p s w x e ⟨b.val * 256 + r.val, by omega⟩ l := by
  have hc : condRow ⟨b.val * 256 + r.val, by omega⟩ = 0 := Fin.ext (if_pos (show b.val * 256 + r.val < 8192 by omega))
  unfold gated dot
  rw [hc, dif_pos (show b.val * 256 + r.val < 8192 by omega)]
  pointwise [val_main_v24, val_main_v23, val_main_v22, val_main_v21, val_main_v20, val_main_v17, val_main_v16, val_main_v13, val_main_v12, val_main_v11, val_main_v10, val_main_v4, val_main_v3, val_main_v2, val_main_v1, val_main_v0]

/-- The projection of a row of the second operand. -/
theorem dot_high (p s : S8192x2048.Idx → EReal) (w : S2x2048x2048.Idx → EReal) (r : Fin 16384) (n : Fin 8192) (l : Fin 2048)
    (h : r.val = 8192 + n.val) : dot p s w r l = ∑ k : Fin 2048, s (ix2 n k) * w (ix3 0 k l) := by
  have q0 : r.val - 8192 = n.val := by omega
  have q : (⟨r.val - 8192, by omega⟩ : Fin 8192) = n := by simp only [q0, Fin.eta]
  unfold dot
  rw [dif_neg (by omega), q]

/-- The reference's gated latent rows. -/
theorem ref_latent (p s : S8192x2048.Idx → EReal) (w : S2x2048x2048.Idx → EReal) (x : S16384x2048.Idx → EReal) (e : S4x8x6x2048.Idx → EReal)
    (b : Fin 4) (r : Fin 2048) (l : Fin 2048) :
    val_main_v29 (F := Ideal) s w x e (ix3 b r l) = gated p s w x e ⟨8192 + (b.val * 2048 + r.val), by omega⟩ l := by
  have hc : condRow ⟨8192 + (b.val * 2048 + r.val), by omega⟩ = ⟨1 + b.val, by omega⟩ := Fin.ext
    ((if_neg (show ¬8192 + (b.val * 2048 + r.val) < 8192 by omega)).trans (show 1 + (8192 + (b.val * 2048 + r.val) - 8192) / 2048 = 1 + b.val by omega))
  unfold gated
  rw [hc, dot_high p s w _ ⟨b.val * 2048 + r.val, by omega⟩ l rfl]
  pointwise [val_main_v29, val_main_v28, val_main_v27, val_main_v26, val_main_v25, val_main_v19, val_main_v18, val_main_v15, val_main_v14, val_main_v11, val_main_v10, val_main_v9, val_main_v8, val_main_v7, val_main_v6, val_main_v5]

/-- The reference's result at an element. -/
theorem ref_eq (p s : S8192x2048.Idx → EReal) (w : S2x2048x2048.Idx → EReal) (x : S16384x2048.Idx → EReal) (e : S4x8x6x2048.Idx → EReal) :
    val_main_v32 (F := Ideal) p s w x e = fun i : S16384x2048.Idx => gated p s w x e (i 0) (i 1) := by
  funext i
  idx_vars i
  show _ = gated p s w x e i0 i1
  unfold val_main_v32 val_main_v30 val_main_v31
  have hc := fun b r => ref_context p s w x e b r i1
  have hl := fun b r => ref_latent p s w x e b r i1
  generalize val_main_v24 (F := Ideal) p w x e = y at hc ⊢
  generalize val_main_v29 (F := Ideal) s w x e = z at hl ⊢
  by_cases h : i0.val < 8192
  · have hd := Nat.div_add_mod i0.val 256
    refine Eq.trans (b := y (ix3 ⟨i0.val / 256, by omega⟩ ⟨i0.val % 256, by omega⟩ i1)) ?_ ((hc _ _).trans (congrArg (fun r => gated p s w x e r i1) (Fin.ext (show i0.val / 256 * 256 + i0.val % 256 = i0.val by omega))))
    pointwise []
    exact dif_pos h
  · have hd := Nat.div_add_mod (i0.val - 8192) 2048
    refine Eq.trans (b := z (ix3 ⟨(i0.val - 8192) / 2048, by omega⟩ ⟨(i0.val - 8192) % 2048, by omega⟩ i1)) ?_
      ((hl _ _).trans (congrArg (fun r => gated p s w x e r i1) (Fin.ext (show 8192 + ((i0.val - 8192) / 2048 * 2048 + (i0.val - 8192) % 2048) = i0.val by omega))))
    pointwise []
    exact dif_neg h

/-- The output projection call at the ideal instance computes the reference's. -/
theorem value : Cert.algebraic_OprojIdeal_OprojRefIdeal := by
  intro m ρ m' ρ' _ hagree
  refine ⟨fun c => fun i : Cert.OprojIdeal.S16384x2048.Idx => gated (m ((c.tc : Thread Cert.OprojIdeal.nD Cert.OprojIdeal.τ).loc Cert.OprojIdeal.main_arg0))
    (m ((c.tc : Thread Cert.OprojIdeal.nD Cert.OprojIdeal.τ).loc Cert.OprojIdeal.main_arg1)) (m ((c.tc : Thread Cert.OprojIdeal.nD Cert.OprojIdeal.τ).loc Cert.OprojIdeal.main_arg2))
    (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (i 0) (i 1), ?_, ?_⟩
  · exact (θ_run Cert.OprojIdeal.defs _ _).mono (fun r h c => ⟨(h c).1.trans (out_eq m c), (h c).2⟩) (Cert.OprojIdeal.Value.run_blocks (F := Ideal) m ρ)
  · refine (θ_run Cert.OprojRefIdeal.defs _ _).mono (fun _ h c => ⟨(h c).1.trans ?_, (h c).2⟩) (Cert.OprojRefIdeal.Value.run (F := Ideal) m' ρ')
    refine (val_main_v32_eq _ _ _ _ _).trans ((ref_eq _ _ _ _ _).trans ?_)
    rw [(hagree c).1, (hagree c).2.1, (hagree c).2.2.1, (hagree c).2.2.2.1, (hagree c).2.2.2.2]

/-- The reference runs and leaves its arguments. -/
theorem ref_quiescent : Cert.quiescent_OprojRefIdeal := fun m ρ _ =>
  (θ_run Cert.OprojRefIdeal.defs _ _).mono (fun r h => ⟨fun c => (h c).2, Idealize.ShloMosaic.sem_eq_zero_of_no_sems (by decide) r.2⟩)
    (Cert.OprojRefIdeal.Value.run (F := Ideal) m ρ)

end Cert.Proof.Oproj
-- ==== Proof.Oprojt.Kernel.lean ====
module

public import proofs.«01_k».proof.Defs
public import proofs.«01_k».proof.Proof.Gen.OprojtIdeal.Value
public import proofs.«01_k».proof.Proof.Norm.Modulated
public import proofs.«01_k».proof.Proof.Loads
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Oprojt

open Cert.OprojtIdeal Cert.OprojtIdeal.Gen Cert.Proof.Norm

/-- Two operands side by side times the weight, at a row and lane. -/
def halves (a b : S8192x1024.Idx → EReal) (w : S2x2048x2048.Idx → EReal) (r : Fin 8192) (l : Fin 2048) : EReal :=
  (∑ k : Fin 1024, a (ix2 r k) * w (ix3 0 ⟨k.val, by omega⟩ l)) + ∑ k : Fin 1024, b (ix2 r k) * w (ix3 0 ⟨1024 + k.val, by omega⟩ l)

/-- The output projection at a row and lane: rows below `8192` come from the first pair of operands, the rest from the second. -/
def dot (p q s u : S8192x1024.Idx → EReal) (w : S2x2048x2048.Idx → EReal) (r : Fin 16384) (l : Fin 2048) : EReal :=
  if h : r.val < 8192 then halves p q w ⟨r.val, h⟩ l else halves s u w ⟨r.val - 8192, by omega⟩ l

/-- The residual row plus its gate times its projection. -/
def gated (p q s u : S8192x1024.Idx → EReal) (w : S2x2048x2048.Idx → EReal) (x : S16384x2048.Idx → EReal) (e : S4x8x6x2048.Idx → EReal)
    (r : Fin 16384) (l : Fin 2048) : EReal :=
  x (ix2 r l) + e (ix4 0 (condRow r) 2 l) * dot p q s u w r l

variable (m : (ℓ : Loc nD τ sig) → Buf (Elt Ideal) ℓ)

/-- The blocks the windows take at an instance. -/
theorem idx : ∀ t : Fin grid0.N, win0_0.index t = ![min t.val 15, 0] ∧ win0_1.index t = ![min t.val 15, 0]
    ∧ win0_2.index t = ![t.val - 16, 0] ∧ win0_3.index t = ![t.val - 16, 0]
    ∧ win0_4.index t = ![0, 0, 0] ∧ win0_5.index t = ![0, 1, 0] ∧ win0_6.index t = ![t.val, 0]
    ∧ win0_7.index t = ![0, if t.val < 16 then 0 else 1 + (t.val - 16) / 4, 0, 0] ∧ win0_8.index t = ![t.val, 0] := by
  decide +kernel

/-- Operand 0 as an early instance loads it. -/
theorem block0 (c : Dev nD) (t : Fin cfg0.N) (h : t.val < 16) (r : Fin 512) (l : Fin 1024) :
    iblk m c 0 t (ix2 r l) = m ((c : Thread nD τ).loc main_arg0) (ix2 ⟨t.val * 512 + r.val, by omega⟩ l) := by
  have e : min t.val 15 = t.val := by omega
  blk_point [iblk, V, idx t, e]

/-- Operand 1 as an early instance loads it. -/
theorem block1 (c : Dev nD) (t : Fin cfg0.N) (h : t.val < 16) (r : Fin 512) (l : Fin 1024) :
    iblk m c 1 t (ix2 r l) = m ((c : Thread nD τ).loc main_arg1) (ix2 ⟨t.val * 512 + r.val, by omega⟩ l) := by
  have e : min t.val 15 = t.val := by omega
  blk_point [iblk, V, idx t, e]

/-- Operand 2 as a late instance loads it. -/
theorem block2 (c : Dev nD) (t : Fin cfg0.N) (r : Fin 512) (l : Fin 1024) :
    iblk m c 2 t (ix2 r l) = m ((c : Thread nD τ).loc main_arg2) (ix2 ⟨(t.val - 16) * 512 + r.val, by have : t.val < 32 := t.isLt; omega⟩ l) := by
  blk_point [iblk, V, idx t]

/-- Operand 3 as a late instance loads it. -/
theorem block3 (c : Dev nD) (t : Fin cfg0.N) (r : Fin 512) (l : Fin 1024) :
    iblk m c 3 t (ix2 r l) = m ((c : Thread nD τ).loc main_arg3) (ix2 ⟨(t.val - 16) * 512 + r.val, by have : t.val < 32 := t.isLt; omega⟩ l) := by
  blk_point [iblk, V, idx t]

/-- The upper half of the weight an instance loads. -/
theorem block4 (c : Dev nD) (t : Fin cfg0.N) (k : Fin 1024) (l : Fin 2048) :
    iblk m c 4 t (ix3 0 k l) = m ((c : Thread nD τ).loc main_arg4) (ix3 0 ⟨k.val, by omega⟩ l) := by
  blk_point [iblk, idx t]

/-- The lower half of the weight an instance loads. -/
theorem block5 (c : Dev nD) (t : Fin cfg0.N) (k : Fin 1024) (l : Fin 2048) :
    iblk m c 5 t (ix3 0 k l) = m ((c : Thread nD τ).loc main_arg4) (ix3 0 ⟨1024 + k.val, by omega⟩ l) := by
  blk_point [iblk, idx t]

/-- The residual rows an instance loads. -/
theorem block6 (c : Dev nD) (t : Fin cfg0.N) (r : Fin 512) (l : Fin 2048) :
    iblk m c 6 t (ix2 r l) = m ((c : Thread nD τ).loc main_arg5) (ix2 ⟨t.val * 512 + r.val, by have : t.val < 32 := t.isLt; omega⟩ l) := by
  blk_point [iblk, V, idx t]

/-- The conditioning of an instance's rows. -/
theorem block7 (c : Dev nD) (t : Fin cfg0.N) (r : Fin 512) (s : Fin 6) (l : Fin 2048) :
    iblk m c 7 t (ix4 0 0 s l) = m ((c : Thread nD τ).loc main_arg6)
      (ix4 0 (condRow ⟨t.val * 512 + r.val, by have : t.val < 32 := t.isLt; omega⟩) s l) := by
  have ht : t.val < 32 := t.isLt
  have e : (((cfg0.win 7).blk t).view.emb (ix4 0 0 s l))
      = (ix4 0 (condRow ⟨t.val * 512 + r.val, by omega⟩) s l : S4x8x6x2048.Idx) := by
    funext a
    fin_cases a
    · exact Fin.ext (by blk_simp [idx t] <;> rfl)
    · refine Fin.ext ?_
      blk_simp [idx t]
      show (if t.val < 16 then 0 else 1 + (t.val - 16) / 4)
        = if t.val * 512 + r.val < 8192 then 0 else 1 + (t.val * 512 + r.val - 8192) / 2048
      split_ifs <;> omega
    · exact Fin.ext (by blk_simp [idx t] <;> rfl)
    · exact Fin.ext (by blk_simp [idx t] <;> rfl)
  have h : iblk m c 7 t (ix4 0 0 s l) = V m c main_arg6 (((cfg0.win 7).blk t).view.emb (ix4 0 0 s l)) := rfl
  rw [h, e]
  rfl

/-- What an instance stores, element by element. -/
theorem stored (c : Dev nD) (t : Fin cfg0.N) (r : Fin 512) (l : Fin 2048) :
    outsAt0 m c t.val t.isLt (ix2 r l) = gated (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))
      ⟨t.val * 512 + r.val, by have : t.val < 32 := t.isLt; omega⟩ l := by
  have ht : t.val < 32 := t.isLt
  unfold gated dot halves
  rw [← block6 m c t r l, ← block7 m c t r 2 l]
  by_cases h : t.val < 16
  · rw [outsAt0_A m c t h (by omega), dif_pos (show t.val * 512 + r.val < 8192 by omega)]
    simp only [← block0 m c t h, ← block1 m c t h, ← block4 m c t, ← block5 m c t]
    frame_out
    pointwise [k0_pay1]
  · rw [outsAt0_B m c t h (by omega), dif_neg (show ¬t.val * 512 + r.val < 8192 by omega)]
    have q : t.val * 512 + r.val - 8192 = (t.val - 16) * 512 + r.val := by omega
    simp only [q, ← block2 m c t, ← block3 m c t, ← block4 m c t, ← block5 m c t]
    frame_out
    pointwise [k0_pay2]

/-- The result array after the run. -/
theorem out_eq (c : Dev nD) : (dats m 0 c).arrAt 8 cfg0.N
    = fun i : S16384x2048.Idx => gated (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (i 0) (i 1) := by
  refine (dats m 0 c).arrAt_eq_of_covers 8 _ (by decide +kernel) fun t hf y => ?_
  blk_simp
  rw [after0_8]
  idx_vars y
  have ht : t.val < 32 := t.isLt
  have e0 : ((((View.whole main_v1).slice (win0_8.rect t)).emb (ix2 y0 y1) 0 : Fin 16384) : ℕ) = t.val * 512 + y0.val := by
    blk_point [idx t]
  have e1 : ((((View.whole main_v1).slice (win0_8.rect t)).emb (ix2 y0 y1) 1 : Fin 2048) : ℕ) = y1.val := by
    blk_point [idx t]
  rw [stored]
  exact (Loads.at_coords (gated (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6))) _ ⟨t.val * 512 + y0.val, by omega⟩ _ y1 e0 e1).symm

end Cert.Proof.Oprojt
-- ==== Proof.Oprojt.Claim.lean ====
module

public import proofs.«01_k».proof.Proof.Oprojt.Kernel
public import proofs.«01_k».proof.Proof.Gen.OprojtRefIdeal.Read
public import proofs.«01_k».proof.Proof.Gen.OprojtRefIdeal.Run

@[expose] public section

set_option maxRecDepth 16384

noncomputable section

open Idealize.ShloMosaic Idealize.ShloMosaic.TcCoe Idealize.SL.Sem

namespace Cert.Proof.Oprojt

open Cert.OprojtRefIdeal Cert.OprojtRefIdeal.Gen Cert.OprojtRefIdeal.Read Cert.Proof.Norm

/-- A sum over the two halves of the joined lanes. -/
theorem sum_joined (f : Fin 2048 → EReal) :
    ∑ k, f k = (∑ k : Fin 1024, f ⟨k.val, by omega⟩) + ∑ k : Fin 1024, f ⟨1024 + k.val, by omega⟩ :=
  Fin.sum_univ_add (a := 1024) (b := 1024) f

/-- The projection of a row of the second pair of operands. -/
theorem dot_high (p q s u : S8192x1024.Idx → EReal) (w : S2x2048x2048.Idx → EReal) (r : Fin 16384) (n : Fin 8192) (l : Fin 2048)
    (h : r.val = 8192 + n.val) : dot p q s u w r l = halves s u w n l := by
  have q0 : r.val - 8192 = n.val := by omega
  have e : (⟨r.val - 8192, by omega⟩ : Fin 8192) = n := by simp only [q0, Fin.eta]
  unfold dot
  rw [dif_neg (by omega), e]

/-- The joined operands of the context at a lane of the first. -/
theorem joined_low (p q : S8192x1024.Idx → EReal) (r : Fin 8192) (k : Fin 1024) :
    val_main_v2 (F := Ideal) p q (ix2 r ⟨k.val, by omega⟩) = p (ix2 r k) := by
  unfold val_main_v2
  pointwise [val_main_v0, val_main_v1]

/-- The joined operands of the context at a lane of the second. -/
theorem joined_high (p q : S8192x1024.Idx → EReal) (r : Fin 8192) (k : Fin 1024) :
    val_main_v2 (F := Ideal) p q (ix2 r ⟨1024 + k.val, by omega⟩) = q (ix2 r k) := by
  unfold val_main_v2
  pointwise [val_main_v0, val_main_v1]

/-- The latent operands are joined as the context's are. -/
theorem joined_same (p q : S8192x1024.Idx → EReal) : val_main_v9 (F := Ideal) p q = val_main_v2 (F := Ideal) p q := rfl

/-- The reference's context product. -/
theorem ref_dot_context (p q : S8192x1024.Idx → EReal) (w : S2x2048x2048.Idx → EReal) (b : Fin 32) (r : Fin 256) (l : Fin 2048) :
    val_main_v6 (F := Ideal) p q w (ix3 b r l) = halves p q w ⟨b.val * 256 + r.val, by omega⟩ l := by
  unfold halves
  simp only [← joined_low p q, ← joined_high p q]
  rw [← sum_joined (fun k => val_main_v2 (F := Ideal) p q (ix2 ⟨b.val * 256 + r.val, by omega⟩ k) * w (ix3 0 k l))]
  unfold val_main_v6 val_main_v3
  generalize val_main_v2 (F := Ideal) p q = y
  pointwise [val_main_v5, val_main_v4]

/-- The reference's latent product. -/
theorem ref_dot_latent (p q : S8192x1024.Idx → EReal) (w : S2x2048x2048.Idx → EReal) (b : Fin 4) (r : Fin 2048) (l : Fin 2048) :
    val_main_v13 (F := Ideal) p q w (ix3 b r l) = halves p q w ⟨b.val * 2048 + r.val, by omega⟩ l := by
  unfold halves
  simp only [← joined_low p q, ← joined_high p q]
  rw [← sum_joined (fun k => val_main_v2 (F := Ideal) p q (ix2 ⟨b.val * 2048 + r.val, by omega⟩ k) * w (ix3 0 k l))]
  unfold val_main_v13 val_main_v10
  rw [joined_same]
  generalize val_main_v2 (F := Ideal) p q = y
  pointwise [val_main_v12, val_main_v11]

/-- The reference's gated context rows. -/
theorem ref_context (p q s u : S8192x1024.Idx → EReal) (w : S2x2048x2048.Idx → EReal) (x : S16384x2048.Idx → EReal) (e : S4x8x6x2048.Idx → EReal)
    (b : Fin 32) (r : Fin 256) (l : Fin 2048) :
    val_main_v28 (F := Ideal) p q w x e (ix3 b r l) = gated p q s u w x e ⟨b.val * 256 + r.val, by omega⟩ l := by
  have hc : condRow ⟨b.val * 256 + r.val, by omega⟩ = 0 := Fin.ext (if_pos (show b.val * 256 + r.val < 8192 by omega))
  unfold gated dot
  rw [hc, dif_pos (show b.val * 256 + r.val < 8192 by omega), ← ref_dot_context]
  unfold val_main_v28 val_main_v27
  generalize val_main_v6 (F := Ideal) p q w = y
  pointwise [val_main_v26, val_main_v25, val_main_v24, val_main_v21, val_main_v20, val_main_v17, val_main_v16, val_main_v15, val_main_v14]

/-- The reference's gated latent rows. -/
theorem ref_latent (p q s u : S8192x1024.Idx → EReal) (w : S2x2048x2048.Idx → EReal) (x : S16384x2048.Idx → EReal) (e : S4x8x6x2048.Idx → EReal)
    (b : Fin 4) (r : Fin 2048) (l : Fin 2048) :
    val_main_v33 (F := Ideal) s u w x e (ix3 b r l) = gated p q s u w x e ⟨8192 + (b.val * 2048 + r.val), by omega⟩ l := by
  have hc : condRow ⟨8192 + (b.val * 2048 + r.val), by omega⟩ = ⟨1 + b.val, by omega⟩ := Fin.ext
    ((if_neg (show ¬8192 + (b.val * 2048 + r.val) < 8192 by omega)).trans (show 1 + (8192 + (b.val * 2048 + r.val) - 8192) / 2048 = 1 + b.val by omega))
  unfold gated
  rw [hc, dot_high p q s u w _ ⟨b.val * 2048 + r.val, by omega⟩ l rfl, ← ref_dot_latent]
  unfold val_main_v33 val_main_v32
  generalize val_main_v13 (F := Ideal) s u w = y
  pointwise [val_main_v31, val_main_v30, val_main_v29, val_main_v23, val_main_v22, val_main_v19, val_main_v18, val_main_v15, val_main_v14]

/-- The reference's result at an element. -/
theorem ref_eq (p q s u : S8192x1024.Idx → EReal) (w : S2x2048x2048.Idx → EReal) (x : S16384x2048.Idx → EReal) (e : S4x8x6x2048.Idx → EReal) :
    val_main_v36 (F := Ideal) p q s u w x e = fun i : S16384x2048.Idx => gated p q s u w x e (i 0) (i 1) := by
  funext i
  idx_vars i
  show _ = gated p q s u w x e i0 i1
  unfold val_main_v36 val_main_v34 val_main_v35
  have hc := fun b r => ref_context p q s u w x e b r i1
  have hl := fun b r => ref_latent p q s u w x e b r i1
  generalize val_main_v28 (F := Ideal) p q w x e = y at hc ⊢
  generalize val_main_v33 (F := Ideal) s u w x e = z at hl ⊢
  by_cases h : i0.val < 8192
  · have hd := Nat.div_add_mod i0.val 256
    refine Eq.trans (b := y (ix3 ⟨i0.val / 256, by omega⟩ ⟨i0.val % 256, by omega⟩ i1)) ?_ ((hc _ _).trans (congrArg (fun r => gated p q s u w x e r i1) (Fin.ext (show i0.val / 256 * 256 + i0.val % 256 = i0.val by omega))))
    pointwise []
    exact dif_pos h
  · have hd := Nat.div_add_mod (i0.val - 8192) 2048
    refine Eq.trans (b := z (ix3 ⟨(i0.val - 8192) / 2048, by omega⟩ ⟨(i0.val - 8192) % 2048, by omega⟩ i1)) ?_
      ((hl _ _).trans (congrArg (fun r => gated p q s u w x e r i1) (Fin.ext (show 8192 + ((i0.val - 8192) / 2048 * 2048 + (i0.val - 8192) % 2048) = i0.val by omega))))
    pointwise []
    exact dif_neg h

/-- The output projection call at the ideal instance computes the reference's. -/
theorem value : Cert.algebraic_OprojtIdeal_OprojtRefIdeal := by
  intro m ρ m' ρ' _ hagree
  refine ⟨fun c => fun i : Cert.OprojtIdeal.S16384x2048.Idx => gated (m ((c.tc : Thread Cert.OprojtIdeal.nD Cert.OprojtIdeal.τ).loc Cert.OprojtIdeal.main_arg0))
    (m ((c.tc : Thread Cert.OprojtIdeal.nD Cert.OprojtIdeal.τ).loc Cert.OprojtIdeal.main_arg1)) (m ((c.tc : Thread Cert.OprojtIdeal.nD Cert.OprojtIdeal.τ).loc Cert.OprojtIdeal.main_arg2))
    (m ((c.tc : Thread Cert.OprojtIdeal.nD Cert.OprojtIdeal.τ).loc Cert.OprojtIdeal.main_arg3)) (m ((c.tc : Thread Cert.OprojtIdeal.nD Cert.OprojtIdeal.τ).loc Cert.OprojtIdeal.main_arg4)) (m ((c.tc : Thread Cert.OprojtIdeal.nD Cert.OprojtIdeal.τ).loc Cert.OprojtIdeal.main_arg5)) (m ((c.tc : Thread Cert.OprojtIdeal.nD Cert.OprojtIdeal.τ).loc Cert.OprojtIdeal.main_arg6)) (i 0) (i 1), ?_, ?_⟩
  · exact (θ_run Cert.OprojtIdeal.defs _ _).mono (fun r h c => ⟨(h c).1.trans (out_eq m c), (h c).2⟩) (Cert.OprojtIdeal.Value.run_blocks (F := Ideal) m ρ)
  · refine (θ_run Cert.OprojtRefIdeal.defs _ _).mono (fun _ h c => ⟨(h c).1.trans ?_, (h c).2⟩) (Cert.OprojtRefIdeal.Value.run (F := Ideal) m' ρ')
    refine (val_main_v36_eq _ _ _ _ _ _ _).trans ((ref_eq _ _ _ _ _ _ _).trans ?_)
    rw [(hagree c).1, (hagree c).2.1, (hagree c).2.2.1, (hagree c).2.2.2.1, (hagree c).2.2.2.2.1, (hagree c).2.2.2.2.2.1, (hagree c).2.2.2.2.2.2]

/-- The reference runs and leaves its arguments. -/
theorem ref_quiescent : Cert.quiescent_OprojtRefIdeal := fun m ρ _ =>
  (θ_run Cert.OprojtRefIdeal.defs _ _).mono (fun r h => ⟨fun c => (h c).2, Idealize.ShloMosaic.sem_eq_zero_of_no_sems (by decide) r.2⟩)
    (Cert.OprojtRefIdeal.Value.run (F := Ideal) m ρ)

end Cert.Proof.Oprojt
-- ==== Proof.Exp.Spec.lean ====
module

public import proofs.«01_k».proof.Defs
public import proofs.«01_k».proof.Proof.Norm.Modulated
public import proofs.«01_k».proof.Proof.Loads
public import Idealize.ShloMosaic.Lib.Pointwise
public import Idealize.ShloMosaic.Lib.IdealHost
public import Idealize.ShloMosaic.Lib.Tactic

@[expose] public section

noncomputable section

open Idealize.ShloMosaic

namespace Cert.Proof.Exp

open Cert.ExpIdeal Cert.Proof.Norm

/-- A number times its logistic. -/
def silu (v : EReal) : EReal := Ideal.div v (1 + Ideal.exp (-v))

/-- The expert of a block: its entry in the table. -/
def expert (T : S160.Idx → BitVec 32) (b : Fin 160) : Fin 32 := ⟨min (T (ix1 b)).toNat 31, by omega⟩

/-- A block's row of 2048 numbers, laid out as sixteen rows of 128. -/
def row (x : S655360x128.Idx → EReal) (b : Fin 160) (r : Fin 256) (k : Fin 2048) : EReal :=
  x (ix2 ⟨(b.val * 256 + r.val) * 16 + k.val / 128, by omega⟩ ⟨k.val % 128, by omega⟩)

/-- A row through one of an expert's two first matrices. -/
def inner (x : S655360x128.Idx → EReal) (w : S4x32x2048x512.Idx → EReal) (e : Fin 32) (b : Fin 160) (r : Fin 256) (n : Fin 512) : EReal :=
  ∑ k : Fin 2048, row x b r k * w (ix4 0 e k n)

/-- A row through its expert. -/
def outer (x : S655360x128.Idx → EReal) (w1 w3 : S4x32x2048x512.Idx → EReal) (w2 : S4x32x512x2048.Idx → EReal) (e : Fin 32)
    (b : Fin 160) (r : Fin 256) (l : Fin 2048) : EReal :=
  ∑ n : Fin 512, silu (inner x w1 e b r n) * inner x w3 e b r n * w2 (ix4 0 e n l)

/-- A block's rows through its expert where the block is in use, nought elsewhere. -/
def answer (T : S160.Idx → BitVec 32) (u : BitVec 32) (x : S655360x128.Idx → EReal) (w1 w3 : S4x32x2048x512.Idx → EReal)
    (w2 : S4x32x512x2048.Idx → EReal) (b : Fin 160) (r : Fin 256) (l : Fin 2048) : EReal :=
  if (b.val : ℤ) < u.toInt then outer x w1 w3 w2 (expert T b) b r l else 0

/-- The result, laid out as the operand. -/
def flat (T : S160.Idx → BitVec 32) (u : BitVec 32) (x : S655360x128.Idx → EReal) (w1 w3 : S4x32x2048x512.Idx → EReal)
    (w2 : S4x32x512x2048.Idx → EReal) (i : Fin 655360) (j : Fin 128) : EReal :=
  answer T u x w1 w3 w2 ⟨i.val / 4096, by omega⟩ ⟨i.val % 4096 / 16, by omega⟩ ⟨128 * (i.val % 16) + j.val, by omega⟩

/-- An exponential is not negative. -/
theorem exp_nonneg (v : EReal) : 0 ≤ Ideal.exp v := by
  induction v using EReal.rec with
  | bot => exact le_refl _
  | top => exact le_top
  | coe r => exact EReal.coe_nonneg.mpr (Real.exp_pos r).le

/-- The logistic's divisor is not nought. -/
theorem divisor_ne (v : EReal) : 1 + Ideal.exp v ≠ 0 := by
  have h : (1 : EReal) ≤ 1 + Ideal.exp v := le_add_of_nonneg_right (exp_nonneg v)
  intro e
  rw [e] at h
  exact absurd h (not_le.mpr zero_lt_one)

/-- The quotient is the number times the logistic. -/
theorem silu_eq (v : EReal) : silu v = v * Ideal.div 1 (1 + Ideal.exp (-v)) := by
  unfold silu Ideal.div
  rw [if_neg (divisor_ne _), if_neg (divisor_ne _), one_mul]

end Cert.Proof.Exp
-- ==== Proof.Exp.Ref.lean ====
module

public import proofs.«01_k».proof.Proof.Exp.Spec
public import proofs.«01_k».proof.Proof.Gen.ExpRefIdeal.Read

@[expose] public section

set_option maxRecDepth 16384

noncomputable section

open Idealize.ShloMosaic Idealize.ShloMosaic.TcCoe

namespace Cert.Proof.Exp

open Cert.ExpRefIdeal Cert.ExpRefIdeal.Gen Cert.ExpRefIdeal.Read Cert.Proof.Norm

/-- A word below 32 is its signed value. -/
theorem small_word (v : BitVec 32) (h : v.toNat < 32) : v.toInt = (v.toNat : ℤ) := by
  rw [BitVec.toInt_eq_toNat_cond, if_pos (by omega)]

/-- A word below 32 is not counted from the end. -/
theorem wrapped (v : BitVec 32) (h : v.toNat < 32) : Scalar.select (IntOp.cmpi .slt v 0#32) (IntOp.addi v 32#32) v = v := by
  have hs := small_word v h
  have h0 : IntOp.cmpi .slt v 0#32 = 0#1 := by
    refine (BitVec.eq_zero_or_eq_one _).resolve_right fun e => ?_
    have := IntOp.cmpi_slt.1 e
    rw [hs] at this
    exact absurd this (by simp)
  rw [h0]
  rfl

/-- How the reference picks a matrix for each block out of a stack of 32. -/
abbrev picks (A B : ℕ) (wf : GatherDims.WF ⟨3, ![32, A, B]⟩ ⟨2, ![160, 1]⟩ ⟨3, ![160, A, B]⟩ [1, 2] [0] [] [0] [] 1 ![1, A, B]) :
    GatherDims ⟨3, ![32, A, B]⟩ ⟨2, ![160, 1]⟩ ⟨3, ![160, A, B]⟩ where
  offsetDims := [1, 2]
  collapsedSliceDims := [0]
  operandBatchingDims := []
  startIndicesBatchingDims := []
  startIndexMap := [0]
  indexVectorDim := 1
  sliceSizes := ![1, A, B]
  wf := wf

/-- The matrix picked for a block whose number is below 32 is that of its number. -/
theorem picked {A B : ℕ} (wf : GatherDims.WF ⟨3, ![32, A, B]⟩ ⟨2, ![160, 1]⟩ ⟨3, ![160, A, B]⟩ [1, 2] [0] [] [0] [] 1 ![1, A, B])
    (x : (⟨3, ![32, A, B]⟩ : Shape).Idx → EReal) (T : IVec ⟨2, ![160, 1]⟩ 32)
    (b : Fin 160) (p : Fin A) (q : Fin B) (e : Fin 32) (h : (T (ix2 b 0)).toNat = e.val) :
    Host.gather (picks A B wf) x T (ix3 b p q) = x (ix3 e p q) := by
  have k0 : (0 : Fin 3) ∉ (picks A B wf).sKept := fun h => ((GatherDims.mem_sKept _ _).mp h).1 (List.mem_singleton.mpr rfl)
  have k1 : (1 : Fin 3) ∈ (picks A B wf).sKept := (GatherDims.mem_sKept _ _).mpr ⟨(by decide : (1 : Fin 3) ∉ ([0] : List (Fin 3))), List.not_mem_nil⟩
  have k2 : (2 : Fin 3) ∈ (picks A B wf).sKept := (GatherDims.mem_sKept _ _).mpr ⟨(by decide : (2 : Fin 3) ∉ ([0] : List (Fin 3))), List.not_mem_nil⟩
  have m0 : (0 : Fin 3) ∈ (picks A B wf).startIndexMap := List.mem_singleton.mpr rfl
  have m1 : (1 : Fin 3) ∉ (picks A B wf).startIndexMap := (by decide : (1 : Fin 3) ∉ ([0] : List (Fin 3)))
  have m2 : (2 : Fin 3) ∉ (picks A B wf).startIndexMap := (by decide : (2 : Fin 3) ∉ ([0] : List (Fin 3)))
  have hs : (picks A B wf).start (ix3 b p q) T (0 : Fin 3) = e.val := by
    unfold GatherDims.start
    rw [dif_pos m0]
    have hi : (picks A B wf).siIdx (ix3 b p q) ⟨List.idxOf (0 : Fin 3) (picks A B wf).startIndexMap, List.idxOf_lt_length_iff.2 m0⟩ = ix2 b 0 := by
      funext r
      match r with
      | ⟨0, _⟩ => rfl
      | ⟨1, _⟩ => rfl
    rw [hi, small_word _ (by omega), Int.toNat_natCast, h]
    show min e.val (32 - 1) = e.val
    omega
  unfold Host.gather
  refine congrArg x (funext fun a => Fin.ext ?_)
  match a with
  | ⟨0, _⟩ =>
    show (picks A B wf).start (ix3 b p q) T (0 : Fin 3) + (picks A B wf).batchCoord (ix3 b p q) (0 : Fin 3) + (picks A B wf).offCoord (ix3 b p q) (0 : Fin 3) = e.val
    rw [hs, GatherDims.batchCoord_eq_zero _ _ _ List.not_mem_nil, GatherDims.offCoord_eq_zero _ _ _ k0, Nat.add_zero]
  | ⟨1, _⟩ =>
    show (picks A B wf).start (ix3 b p q) T (1 : Fin 3) + (picks A B wf).batchCoord (ix3 b p q) (1 : Fin 3) + (picks A B wf).offCoord (ix3 b p q) (1 : Fin 3) = p.val
    rw [GatherDims.batchCoord_eq_zero _ _ _ List.not_mem_nil]
    unfold GatherDims.start GatherDims.offCoord
    rw [dif_neg m1, dif_pos k1, Nat.add_zero, Nat.zero_add]
    rfl
  | ⟨2, _⟩ =>
    show (picks A B wf).start (ix3 b p q) T (2 : Fin 3) + (picks A B wf).batchCoord (ix3 b p q) (2 : Fin 3) + (picks A B wf).offCoord (ix3 b p q) (2 : Fin 3) = q.val
    rw [GatherDims.batchCoord_eq_zero _ _ _ List.not_mem_nil]
    unfold GatherDims.start GatherDims.offCoord
    rw [dif_neg m2, dif_pos k2, Nat.add_zero, Nat.zero_add]
    rfl

/-- A block's row in the reference. -/
theorem ref_row (x : S655360x128.Idx → EReal) (b : Fin 160) (r : Fin 256) (k : Fin 2048) :
    val_main_v0 (F := Ideal) x (ix3 b r k) = row x b r k := by
  unfold row
  rw [val_main_v0_apply]
  refine congrArg x (funext fun a => ?_)
  match a with
  | ⟨0, _⟩ => exact Fin.ext (show ((b.val * 256 + r.val) * 2048 + k.val) / 128 = (b.val * 256 + r.val) * 16 + k.val / 128 by omega)
  | ⟨1, _⟩ => exact Fin.ext (show ((b.val * 256 + r.val) * 2048 + k.val) % 128 = k.val % 128 by omega)

/-- The reference's table. -/
theorem ref_table (T : S160.Idx → BitVec 32) (hb : ∀ y, (T y).toNat < 32) (b : Fin 160) : val_main_v8 (F := Ideal) T (ix2 b 0) = T (ix1 b) := by
  rw [val_main_v8_apply, val_main_v7_apply]
  refine (wrapped _ (hb _)).trans (congrArg T (funext fun a => ?_))
  match a with
  | ⟨0, _⟩ => rfl

/-- In range, a block's number in the reference's table is its expert's. -/
theorem table_at (T : S160.Idx → BitVec 32) (hb : ∀ y, (T y).toNat < 32) (b : Fin 160) :
    (val_main_v8 (F := Ideal) T (ix2 b 0)).toNat = (expert T b).val := by
  rw [ref_table T hb]
  have h := hb (ix1 b)
  show _ = min _ 31
  omega

/-- The first matrices the reference picks. -/
theorem ref_first (T : S160.Idx → BitVec 32) (hb : ∀ y, (T y).toNat < 32) (w : S4x32x2048x512.Idx → EReal) (b : Fin 160) (k : Fin 2048) (n : Fin 512) :
    val_main_v9 (F := Ideal) T w (ix3 b k n) = w (ix4 0 (expert T b) k n) := by
  refine (picked gather_S32x2048x512_S160x1_S160x2048x512_12_0_n_n_0_1_12048512.wf _ _ b k n (expert T b) (table_at T hb b)).trans ?_
  rw [val_main_v2_apply, val_main_v1_apply]
  have he := (expert T b).isLt
  refine congrArg w (funext fun a => ?_)
  match a with
  | ⟨0, _⟩ => rfl
  | ⟨1, _⟩ => exact Fin.ext (show (((expert T b).val * 2048 + k.val) * 512 + n.val) / 1048576 % 32 = (expert T b).val by omega)
  | ⟨2, _⟩ => exact Fin.ext (show (((expert T b).val * 2048 + k.val) * 512 + n.val) / 512 % 2048 = k.val by omega)
  | ⟨3, _⟩ => exact Fin.ext (show (((expert T b).val * 2048 + k.val) * 512 + n.val) % 512 = n.val by omega)

/-- The third. -/
theorem ref_third (T : S160.Idx → BitVec 32) (hb : ∀ y, (T y).toNat < 32) (w : S4x32x2048x512.Idx → EReal) (b : Fin 160) (k : Fin 2048) (n : Fin 512) :
    val_main_v20 (F := Ideal) T w (ix3 b k n) = w (ix4 0 (expert T b) k n) := by
  refine (picked gather_S32x2048x512_S160x1_S160x2048x512_12_0_n_n_0_1_12048512.wf _ _ b k n (expert T b) (table_at T hb b)).trans ?_
  rw [val_main_v13_apply, val_main_v12_apply]
  have he := (expert T b).isLt
  refine congrArg w (funext fun a => ?_)
  match a with
  | ⟨0, _⟩ => rfl
  | ⟨1, _⟩ => exact Fin.ext (show (((expert T b).val * 2048 + k.val) * 512 + n.val) / 1048576 % 32 = (expert T b).val by omega)
  | ⟨2, _⟩ => exact Fin.ext (show (((expert T b).val * 2048 + k.val) * 512 + n.val) / 512 % 2048 = k.val by omega)
  | ⟨3, _⟩ => exact Fin.ext (show (((expert T b).val * 2048 + k.val) * 512 + n.val) % 512 = n.val by omega)

/-- The second. -/
theorem ref_second (T : S160.Idx → BitVec 32) (hb : ∀ y, (T y).toNat < 32) (w : S4x32x512x2048.Idx → EReal) (b : Fin 160) (n : Fin 512) (l : Fin 2048) :
    val_main_v31 (F := Ideal) T w (ix3 b n l) = w (ix4 0 (expert T b) n l) := by
  refine (picked gather_S32x512x2048_S160x1_S160x512x2048_12_0_n_n_0_1_15122048.wf _ _ b n l (expert T b) (table_at T hb b)).trans ?_
  rw [val_main_v24_apply, val_main_v23_apply]
  have he := (expert T b).isLt
  refine congrArg w (funext fun a => ?_)
  match a with
  | ⟨0, _⟩ => rfl
  | ⟨1, _⟩ => exact Fin.ext (show (((expert T b).val * 512 + n.val) * 2048 + l.val) / 1048576 % 32 = (expert T b).val by omega)
  | ⟨2, _⟩ => exact Fin.ext (show (((expert T b).val * 512 + n.val) * 2048 + l.val) / 2048 % 512 = n.val by omega)
  | ⟨3, _⟩ => exact Fin.ext (show (((expert T b).val * 512 + n.val) * 2048 + l.val) % 2048 = l.val by omega)

/-- The reference's two inner products. -/
theorem ref_inner (T : S160.Idx → BitVec 32) (hb : ∀ y, (T y).toNat < 32) (x : S655360x128.Idx → EReal) (w : S4x32x2048x512.Idx → EReal)
    (b : Fin 160) (r : Fin 256) (n : Fin 512) : val_main_v10 (F := Ideal) T x w (ix3 b r n) = inner x w (expert T b) b r n := by
  rw [val_main_v10_apply]
  refine Finset.sum_congr rfl fun k _ => ?_
  have hl : lidx_main_v10 (ix3 b r n) k = ix3 b r k := funext fun a => match a with | ⟨0, _⟩ => rfl | ⟨1, _⟩ => rfl | ⟨2, _⟩ => rfl
  have hr : ridx_main_v10 (ix3 b r n) k = ix3 b k n := funext fun a => match a with | ⟨0, _⟩ => rfl | ⟨1, _⟩ => rfl | ⟨2, _⟩ => rfl
  rw [hl, hr, ref_row, ref_first T hb]

theorem ref_inner' (T : S160.Idx → BitVec 32) (hb : ∀ y, (T y).toNat < 32) (x : S655360x128.Idx → EReal) (w : S4x32x2048x512.Idx → EReal)
    (b : Fin 160) (r : Fin 256) (n : Fin 512) : val_main_v21 (F := Ideal) T x w (ix3 b r n) = inner x w (expert T b) b r n := by
  rw [val_main_v21_apply]
  refine Finset.sum_congr rfl fun k _ => ?_
  have hl : lidx_main_v21 (ix3 b r n) k = ix3 b r k := funext fun a => match a with | ⟨0, _⟩ => rfl | ⟨1, _⟩ => rfl | ⟨2, _⟩ => rfl
  have hr : ridx_main_v21 (ix3 b r n) k = ix3 b k n := funext fun a => match a with | ⟨0, _⟩ => rfl | ⟨1, _⟩ => rfl | ⟨2, _⟩ => rfl
  rw [hl, hr, ref_row, ref_third T hb]

/-- The reference's gated numbers. -/
theorem ref_gated (T : S160.Idx → BitVec 32) (hb : ∀ y, (T y).toNat < 32) (x : S655360x128.Idx → EReal) (w1 w3 : S4x32x2048x512.Idx → EReal)
    (b : Fin 160) (r : Fin 256) (n : Fin 512) :
    val_main_v22 (F := Ideal) T x w1 w3 (ix3 b r n) = silu (inner x w1 (expert T b) b r n) * inner x w3 (expert T b) b r n := by
  rw [val_main_v22_apply, val_main_v11_apply, val_main_call0_v5_apply, val_main_call0_v3_apply, val_main_call0_v1_apply, val_main_call0_v0_apply,
    val_main_call0_v4_apply, val_main_call0_v2_apply, val_main_call0_cst_apply, val_main_call0_cst_0_apply, ref_inner T hb, ref_inner' T hb, silu_eq]
  show inner x w1 (expert T b) b r n * Ideal.div (Ideal.ofBits .f32 0x3F800000#32) (Ideal.ofBits .f32 0x3F800000#32 + Ideal.exp (-inner x w1 (expert T b) b r n)) * _ = _
  rw [Ideal.ofBits_one_f32]

/-- The reference's rows through their experts. -/
theorem ref_outer (T : S160.Idx → BitVec 32) (hb : ∀ y, (T y).toNat < 32) (x : S655360x128.Idx → EReal) (w1 w3 : S4x32x2048x512.Idx → EReal)
    (w2 : S4x32x512x2048.Idx → EReal) (b : Fin 160) (r : Fin 256) (l : Fin 2048) :
    val_main_v32 (F := Ideal) T x w1 w3 w2 (ix3 b r l) = outer x w1 w3 w2 (expert T b) b r l := by
  rw [val_main_v32_apply]
  refine Finset.sum_congr rfl fun n _ => ?_
  have hl : lidx_main_v32 (ix3 b r l) n = ix3 b r n := funext fun a => match a with | ⟨0, _⟩ => rfl | ⟨1, _⟩ => rfl | ⟨2, _⟩ => rfl
  have hr : ridx_main_v32 (ix3 b r l) n = ix3 b n l := funext fun a => match a with | ⟨0, _⟩ => rfl | ⟨1, _⟩ => rfl | ⟨2, _⟩ => rfl
  rw [hl, hr, ref_gated T hb, ref_second T hb]

/-- A block's number as a word is itself. -/
theorem block_word (b : Fin 160) : (BitVec.ofNat 32 b.val).toInt = (b.val : ℤ) := by
  have h : (BitVec.ofNat 32 b.val).toNat = b.val := by rw [BitVec.toNat_ofNat]; omega
  rw [BitVec.toInt_eq_toNat_cond, if_pos (by omega), h]

/-- The reference's choice between a block's rows and nought. -/
theorem ref_answer (T : S160.Idx → BitVec 32) (hb : ∀ y, (T y).toNat < 32) (u : S1.Idx → BitVec 32) (x : S655360x128.Idx → EReal)
    (w1 w3 : S4x32x2048x512.Idx → EReal) (w2 : S4x32x512x2048.Idx → EReal) (b : Fin 160) (r : Fin 256) (l : Fin 2048) :
    val_main_v38 (F := Ideal) T u x w1 w3 w2 (ix3 b r l) = answer T (u (ix1 0)) x w1 w3 w2 b r l := by
  have hu : val_main_v34 (F := Ideal) u (idx_main_v35 (ix1 b)) = u (ix1 0) := by
    pointwise [val_main_v34]
  have hc : val_main_call1_v1 (F := Ideal) u (ix3 b r l) = IntOp.cmpi .slt (BitVec.ofNat 32 b.val) (u (ix1 0)) := by
    rw [val_main_call1_v1_apply, val_main_v37_apply, val_main_v36_apply, val_main_v33_apply, val_main_v35_apply, ← hu]
    rfl
  rw [val_main_v38_apply, ref_outer T hb, hc]
  unfold answer
  by_cases h : (b.val : ℤ) < (u (ix1 0)).toInt
  · rw [if_pos h, IntOp.cmpi_slt.2 (by rw [block_word]; exact h)]
    rfl
  · have hz : IntOp.cmpi .slt (BitVec.ofNat 32 b.val) (u (ix1 0)) = 0#1 :=
      (BitVec.eq_zero_or_eq_one _).resolve_right fun e => h (by rw [← block_word]; exact IntOp.cmpi_slt.1 e)
    rw [if_neg h, hz]
    rw [val_main_call1_v2_apply, val_main_call1_v0_apply, val_main_cst_apply]
    exact Ideal.ofBits_zero_f32

/-- The reference's result at an element. -/
theorem ref_eq (T : S160.Idx → BitVec 32) (hb : ∀ y, (T y).toNat < 32) (u : S1.Idx → BitVec 32) (x : S655360x128.Idx → EReal)
    (w1 w3 : S4x32x2048x512.Idx → EReal) (w2 : S4x32x512x2048.Idx → EReal) :
    val_main_v39 (F := Ideal) T u x w1 w3 w2 = fun i : S655360x128.Idx => flat T (u (ix1 0)) x w1 w3 w2 (i 0) (i 1) := by
  funext i
  idx_vars i
  show _ = flat T (u (ix1 0)) x w1 w3 w2 i0 i1
  unfold flat
  rw [← ref_answer T hb, val_main_v39_apply]
  refine congrArg (val_main_v38 (F := Ideal) T u x w1 w3 w2) (funext fun a => ?_)
  match a with
  | ⟨0, _⟩ => exact Fin.ext (show (i0.val * 128 + i1.val) / 524288 = i0.val / 4096 by omega)
  | ⟨1, _⟩ => exact Fin.ext (show (i0.val * 128 + i1.val) / 2048 % 256 = i0.val % 4096 / 16 by omega)
  | ⟨2, _⟩ => exact Fin.ext (show (i0.val * 128 + i1.val) % 2048 = 128 * (i0.val % 16) + i1.val by omega)

end Cert.Proof.Exp
-- ==== Proof.Exp.BodyIdeal.lean ====
module

public import proofs.«01_k».proof.Proof.Gen.ExpIdeal.Skeleton
public import proofs.«01_k».proof.Proof.Gen.ExpIdeal.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.VecWindow
public import Idealize.ShloMosaic.Lib.WholeRead
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.ExpIdeal.Run

open Cert.ExpIdeal Cert.ExpIdeal.Gen

local notation "𝕄" => MT nD τ sig Unit (Elt Ideal) ℕ (UR sig nD τ) ℕ

/-- The two tables and the three scratch buffers. -/
abbrev tb0 : Memref sig .tc .smem S160 .i32 := Memref.whole main_arg0
abbrev tb1 : Memref sig .tc .smem S1 .i32 := Memref.whole main_arg1
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The number of blocks in use, as the body reads it. -/
abbrev count (T1 : Vec Ideal S1 .i32) : BitVec 32 :=
  View.readAt (Elt Ideal) tb1.view (Rect.unit (s := S1) ![0] S1.size inb_S1_S1_0).toLoadRect T1 (Shape.Idx.first (numel1_S1.symm ▸ Nat.one_pos))
/-- The block's expert, as the body reads it. -/
abbrev here (i : grid0.Coords) (T0 : Vec Ideal S160 .i32) : BitVec 32 :=
  View.readAt (Elt Ideal) tb0.view (Rect.unit (s := S160) (k0_off1 i) S1.size (k0_off1_inb i)).toLoadRect T0 (Shape.Idx.first (numel1_S1.symm ▸ Nat.one_pos))
/-- The expert of the block before, as the body reads it. -/
abbrev prior (i : grid0.Coords) (T0 : Vec Ideal S160 .i32) : BitVec 32 :=
  View.readAt (Elt Ideal) tb0.view (Rect.unit (s := S160) (k0_off2 i) S1.size (k0_off2_inb i)).toLoadRect T0 (Shape.Idx.first (numel1_S1.symm ▸ Nat.one_pos))
/-- The word that says the weights are to be converted. -/
abbrev change (i : grid0.Coords) (T0 : Vec Ideal S160 .i32) (T1 : Vec Ideal S1 .i32) : BitVec 1 :=
  Scalar.cmpi .ne (Scalar.extui (Scalar.andi (Scalar.cmpi .slt (BitVec.ofNat 32 (i 0).val) (count T1)) (Scalar.ori (Scalar.cmpi .eq (BitVec.ofNat 32 (i 0).val) 0#32) (Scalar.cmpi .ne (here i T0) (prior i T0)))) : BitVec 32) 0#32

/-- One of the sixteen interleaved sets of rows of a block. -/
def rowsOf (x : Vec Ideal S4096x128 .f32) (k : ℕ) (hk : k < 16) : Vec Ideal S256x128 .f32 := fun z =>
  x fun | ⟨0, _⟩ => ⟨k + 16 * (z 0).val, by have : (z 0).val < 256 := (z 0).isLt; show _ < 4096; omega⟩ | ⟨1, _⟩ => ⟨(z 1).val, (z 1).isLt⟩ | ⟨_ + 2, h⟩ => absurd h (by simp)

/-- The block's rows, put side by side and rounded. -/
def wide (x : Vec Ideal S4096x128 .f32) : FVec Ideal S256x2048 .bf16 :=
  k0_pay12 (rowsOf x 0 (by omega)) (rowsOf x 1 (by omega)) (rowsOf x 2 (by omega)) (rowsOf x 3 (by omega)) (rowsOf x 4 (by omega)) (rowsOf x 5 (by omega)) (rowsOf x 6 (by omega)) (rowsOf x 7 (by omega)) (rowsOf x 8 (by omega)) (rowsOf x 9 (by omega)) (rowsOf x 10 (by omega)) (rowsOf x 11 (by omega)) (rowsOf x 12 (by omega)) (rowsOf x 13 (by omega)) (rowsOf x 14 (by omega)) (rowsOf x 15 (by omega))

/-- A block's output, its sixteen parts side by side. -/
def product (x : Vec Ideal S4096x128 .f32) (a b : Vec Ideal S2048x512 .bf16) (d : Vec Ideal S512x2048 .bf16) : FVec Ideal S256x2048 .f32 :=
  k0_pay15 (k0_pay13 (wide x) a) (k0_pay14 (wide x) b) d

/-- A block's sixteen parts, its rows interleaved again. -/
def unmix (V : FVec Ideal S256x2048 .f32) : Vec Ideal S4096x128 .f32 := fun y =>
  V fun | ⟨0, _⟩ => ⟨(y 0).val / 16, by have : (y 0).val < 4096 := (y 0).isLt; show _ < 256; omega⟩ | ⟨1, _⟩ => ⟨128 * ((y 0).val % 16) + (y 1).val, by have : (y 1).val < 128 := (y 1).isLt; show _ < 2048; omega⟩ | ⟨_ + 2, h⟩ => absurd h (by simp)

/-- What a block in use stores. -/
def result (x : Vec Ideal S4096x128 .f32) (a b : Vec Ideal S2048x512 .bf16) (d : Vec Ideal S512x2048 .bf16) : Vec Ideal S4096x128 .f32 :=
  unmix (product x a b d)

/-- A strided load of a whole buffer. -/
theorem load_rows {m : Memref sig .tc .vmem S4096x128 .f32} (h : m.IsWhole) (x : Vec Ideal S4096x128 .f32) (k : ℕ) (hk : k < 16)
    (inb : ∀ a, S256x128.size a = 0 ∨ (![k, 0] : Fin 2 → ℕ) a + (![16, 1] : Fin 2 → ℕ) a * (S256x128.size a - 1) < S4096x128.size a) :
    m.view.readAt (Elt Ideal) (⟨![k, 0], S256x128.size, ![16, 1], inb⟩ : LoadRect S4096x128) (h.unread x) = rowsOf x k hk := by
  funext z
  rw [h.readAt_unread]
  unfold rowsOf
  congr 1
  funext a
  match a with
  | ⟨0, _⟩ => rfl
  | ⟨1, _⟩ => exact Fin.ext (show 0 + 1 * (z 1).val = (z 1).val by omega)

/-- The sixteen loads make the wide block. -/
theorem wide_of_reads {m : Memref sig .tc .vmem S4096x128 .f32} (h : m.IsWhole) (x : Vec Ideal S4096x128 .f32) :
    k0_pay12 (m.view.readAt (Elt Ideal) (⟨![0, 0], S256x128.size, ![16, 1], inb_S4096x128_S256x128_0_0_s_16_1⟩ : LoadRect S4096x128) (h.unread x)) (m.view.readAt (Elt Ideal) (⟨![1, 0], S256x128.size, ![16, 1], inb_S4096x128_S256x128_1_0_s_16_1⟩ : LoadRect S4096x128) (h.unread x)) (m.view.readAt (Elt Ideal) (⟨![2, 0], S256x128.size, ![16, 1], inb_S4096x128_S256x128_2_0_s_16_1⟩ : LoadRect S4096x128) (h.unread x)) (m.view.readAt (Elt Ideal) (⟨![3, 0], S256x128.size, ![16, 1], inb_S4096x128_S256x128_3_0_s_16_1⟩ : LoadRect S4096x128) (h.unread x)) (m.view.readAt (Elt Ideal) (⟨![4, 0], S256x128.size, ![16, 1], inb_S4096x128_S256x128_4_0_s_16_1⟩ : LoadRect S4096x128) (h.unread x)) (m.view.readAt (Elt Ideal) (⟨![5, 0], S256x128.size, ![16, 1], inb_S4096x128_S256x128_5_0_s_16_1⟩ : LoadRect S4096x128) (h.unread x)) (m.view.readAt (Elt Ideal) (⟨![6, 0], S256x128.size, ![16, 1], inb_S4096x128_S256x128_6_0_s_16_1⟩ : LoadRect S4096x128) (h.unread x)) (m.view.readAt (Elt Ideal) (⟨![7, 0], S256x128.size, ![16, 1], inb_S4096x128_S256x128_7_0_s_16_1⟩ : LoadRect S4096x128) (h.unread x)) (m.view.readAt (Elt Ideal) (⟨![8, 0], S256x128.size, ![16, 1], inb_S4096x128_S256x128_8_0_s_16_1⟩ : LoadRect S4096x128) (h.unread x)) (m.view.readAt (Elt Ideal) (⟨![9, 0], S256x128.size, ![16, 1], inb_S4096x128_S256x128_9_0_s_16_1⟩ : LoadRect S4096x128) (h.unread x)) (m.view.readAt (Elt Ideal) (⟨![10, 0], S256x128.size, ![16, 1], inb_S4096x128_S256x128_10_0_s_16_1⟩ : LoadRect S4096x128) (h.unread x)) (m.view.readAt (Elt Ideal) (⟨![11, 0], S256x128.size, ![16, 1], inb_S4096x128_S256x128_11_0_s_16_1⟩ : LoadRect S4096x128) (h.unread x)) (m.view.readAt (Elt Ideal) (⟨![12, 0], S256x128.size, ![16, 1], inb_S4096x128_S256x128_12_0_s_16_1⟩ : LoadRect S4096x128) (h.unread x)) (m.view.readAt (Elt Ideal) (⟨![13, 0], S256x128.size, ![16, 1], inb_S4096x128_S256x128_13_0_s_16_1⟩ : LoadRect S4096x128) (h.unread x)) (m.view.readAt (Elt Ideal) (⟨![14, 0], S256x128.size, ![16, 1], inb_S4096x128_S256x128_14_0_s_16_1⟩ : LoadRect S4096x128) (h.unread x)) (m.view.readAt (Elt Ideal) (⟨![15, 0], S256x128.size, ![16, 1], inb_S4096x128_S256x128_15_0_s_16_1⟩ : LoadRect S4096x128) (h.unread x)) = wide x := by
  unfold wide
  rw [load_rows h x 0 (by omega) _, load_rows h x 1 (by omega) _, load_rows h x 2 (by omega) _, load_rows h x 3 (by omega) _, load_rows h x 4 (by omega) _, load_rows h x 5 (by omega) _, load_rows h x 6 (by omega) _, load_rows h x 7 (by omega) _, load_rows h x 8 (by omega) _, load_rows h x 9 (by omega) _, load_rows h x 10 (by omega) _, load_rows h x 11 (by omega) _, load_rows h x 12 (by omega) _, load_rows h x 13 (by omega) _, load_rows h x 14 (by omega) _, load_rows h x 15 (by omega) _]

theorem product_of {x : Vec Ideal S4096x128 .f32} {a b A B : Vec Ideal S2048x512 .bf16} {d D : Vec Ideal S512x2048 .bf16} {w : FVec Ideal S256x2048 .bf16}
    (hw : w = wide x) (hA : A = a) (hB : B = b) (hD : D = d) : k0_pay15 (k0_pay13 w A) (k0_pay14 w B) D = product x a b d := by
  subst hw hA hB hD; rfl

/-- A whole load of a whole buffer. -/
theorem load_whole {s : Shape} {e : EltTy} {m : Memref sig .tc .vmem s e} (h : m.IsWhole) (x : s.Idx → Elt Ideal e) {off : Fin s.rank → ℕ}
    (inb : ∀ a, off a + s.size a ≤ s.size a) : m.view.readAt (Elt Ideal) (Rect.unit off s.size inb).toLoadRect (h.unread x) = x :=
  (View.readAt_full _ _ _).trans (h.read_unread _)

/-- Which rows a strided store holds. -/
theorem mem_rows (k : ℕ) (hk : k < 16) (inb : ∀ a, S256x128.size a = 0 ∨ (![k, 0] : Fin 2 → ℕ) a + (![16, 1] : Fin 2 → ℕ) a * (S256x128.size a - 1) < S4096x128.size a)
    (y : S4096x128.Idx) (h : (y 0).val % 16 = k) : y ∈ (⟨(⟨![k, 0], S256x128.size, ![16, 1], inb⟩ : LoadRect S4096x128), spos_16_1⟩ : Rect S4096x128).set := by
  rw [LoadRect.mem_set]
  have h0 : (y 0).val < 4096 := (y 0).isLt
  intro a
  match a with
  | ⟨0, _⟩ => exact ⟨(y 0).val / 16, by show _ < 256; omega, by show (y 0).val = k + 16 * ((y 0).val / 16); omega⟩
  | ⟨1, _⟩ => exact ⟨(y 1).val, (y 1).isLt, by show (y 1).val = 0 + 1 * (y 1).val; omega⟩

/-- A strided store's payload, where it lands. -/
theorem piece_rows (V : FVec Ideal S256x2048 .f32) (k : ℕ) (hk : k < 16) (hs : S256x2048.Slices ![0, 128 * k] S256x128)
    (inb : ∀ a, S256x128.size a = 0 ∨ (![k, 0] : Fin 2 → ℕ) a + (![16, 1] : Fin 2 → ℕ) a * (S256x128.size a - 1) < S4096x128.size a) (z : S256x128.Idx) :
    extractStridedSlice S256x128 ![0, 128 * k] V hs z = unmix V ((⟨(⟨![k, 0], S256x128.size, ![16, 1], inb⟩ : LoadRect S4096x128), spos_16_1⟩ : Rect S4096x128).emb z) := by
  unfold unmix
  show V _ = V _
  congr 1
  funext a
  match a with
  | ⟨0, _⟩ => exact Fin.ext (show 0 + (z 0).val = (k + 16 * (z 0).val) / 16 by omega)
  | ⟨1, _⟩ => exact Fin.ext (show 128 * k + (z 1).val = 128 * ((k + 16 * (z 0).val) % 16) + (0 + 1 * (z 1).val) by omega)

/-- The sixteen stores leave the block's output. -/
theorem interleave (v : View sig .tc .vmem S4096x128 .f32) (f : v.ty.Contents (Elt Ideal)) (p q : FVec Ideal S256x512 .f32) (r : Vec Ideal S512x2048 .bf16)
    (V : FVec Ideal S256x2048 .f32) (hV : V = k0_pay15 p q r) :
    v.read (Elt Ideal) (v.writes (Elt Ideal) f [⟨⟨(⟨![15, 0], S256x128.size, ![16, 1], inb_S4096x128_S256x128_15_0_s_16_1⟩ : LoadRect S4096x128), spos_16_1⟩, k0_pay10 V⟩, ⟨⟨(⟨![14, 0], S256x128.size, ![16, 1], inb_S4096x128_S256x128_14_0_s_16_1⟩ : LoadRect S4096x128), spos_16_1⟩, k0_pay9 V⟩, ⟨⟨(⟨![13, 0], S256x128.size, ![16, 1], inb_S4096x128_S256x128_13_0_s_16_1⟩ : LoadRect S4096x128), spos_16_1⟩, k0_pay8 V⟩, ⟨⟨(⟨![12, 0], S256x128.size, ![16, 1], inb_S4096x128_S256x128_12_0_s_16_1⟩ : LoadRect S4096x128), spos_16_1⟩, k0_pay7 V⟩, ⟨⟨(⟨![11, 0], S256x128.size, ![16, 1], inb_S4096x128_S256x128_11_0_s_16_1⟩ : LoadRect S4096x128), spos_16_1⟩, k0_pay6 V⟩, ⟨⟨(⟨![10, 0], S256x128.size, ![16, 1], inb_S4096x128_S256x128_10_0_s_16_1⟩ : LoadRect S4096x128), spos_16_1⟩, k0_pay5 V⟩, ⟨⟨(⟨![9, 0], S256x128.size, ![16, 1], inb_S4096x128_S256x128_9_0_s_16_1⟩ : LoadRect S4096x128), spos_16_1⟩, k0_pay4 V⟩, ⟨⟨(⟨![8, 0], S256x128.size, ![16, 1], inb_S4096x128_S256x128_8_0_s_16_1⟩ : LoadRect S4096x128), spos_16_1⟩, k0_pay24 p q r⟩, ⟨⟨(⟨![7, 0], S256x128.size, ![16, 1], inb_S4096x128_S256x128_7_0_s_16_1⟩ : LoadRect S4096x128), spos_16_1⟩, k0_pay23 p q r⟩, ⟨⟨(⟨![6, 0], S256x128.size, ![16, 1], inb_S4096x128_S256x128_6_0_s_16_1⟩ : LoadRect S4096x128), spos_16_1⟩, k0_pay22 p q r⟩, ⟨⟨(⟨![5, 0], S256x128.size, ![16, 1], inb_S4096x128_S256x128_5_0_s_16_1⟩ : LoadRect S4096x128), spos_16_1⟩, k0_pay21 p q r⟩, ⟨⟨(⟨![4, 0], S256x128.size, ![16, 1], inb_S4096x128_S256x128_4_0_s_16_1⟩ : LoadRect S4096x128), spos_16_1⟩, k0_pay20 p q r⟩, ⟨⟨(⟨![3, 0], S256x128.size, ![16, 1], inb_S4096x128_S256x128_3_0_s_16_1⟩ : LoadRect S4096x128), spos_16_1⟩, k0_pay19 p q r⟩, ⟨⟨(⟨![2, 0], S256x128.size, ![16, 1], inb_S4096x128_S256x128_2_0_s_16_1⟩ : LoadRect S4096x128), spos_16_1⟩, k0_pay18 p q r⟩, ⟨⟨(⟨![1, 0], S256x128.size, ![16, 1], inb_S4096x128_S256x128_1_0_s_16_1⟩ : LoadRect S4096x128), spos_16_1⟩, k0_pay17 p q r⟩, ⟨⟨(⟨![0, 0], S256x128.size, ![16, 1], inb_S4096x128_S256x128_0_0_s_16_1⟩ : LoadRect S4096x128), spos_16_1⟩, k0_pay16 p q r⟩]) = unmix V := by
  subst hV
  funext y
  refine View.read_writes_apply_of_pieces v f (unmix (k0_pay15 p q r)) _ ?_ y ?_
  · intro pc hpc z
    simp only [List.mem_cons, List.not_mem_nil, or_false] at hpc
    rcases hpc with rfl | rfl | rfl | rfl | rfl | rfl | rfl | rfl | rfl | rfl | rfl | rfl | rfl | rfl | rfl | rfl
    · exact piece_rows (k0_pay15 p q r) 15 (by omega) (by decide) _ z
    · exact piece_rows (k0_pay15 p q r) 14 (by omega) (by decide) _ z
    · exact piece_rows (k0_pay15 p q r) 13 (by omega) (by decide) _ z
    · exact piece_rows (k0_pay15 p q r) 12 (by omega) (by decide) _ z
    · exact piece_rows (k0_pay15 p q r) 11 (by omega) (by decide) _ z
    · exact piece_rows (k0_pay15 p q r) 10 (by omega) (by decide) _ z
    · exact piece_rows (k0_pay15 p q r) 9 (by omega) (by decide) _ z
    · exact piece_rows (k0_pay15 p q r) 8 (by omega) (by decide) _ z
    · exact piece_rows (k0_pay15 p q r) 7 (by omega) (by decide) _ z
    · exact piece_rows (k0_pay15 p q r) 6 (by omega) (by decide) _ z
    · exact piece_rows (k0_pay15 p q r) 5 (by omega) (by decide) _ z
    · exact piece_rows (k0_pay15 p q r) 4 (by omega) (by decide) _ z
    · exact piece_rows (k0_pay15 p q r) 3 (by omega) (by decide) _ z
    · exact piece_rows (k0_pay15 p q r) 2 (by omega) (by decide) _ z
    · exact piece_rows (k0_pay15 p q r) 1 (by omega) (by decide) _ z
    · exact piece_rows (k0_pay15 p q r) 0 (by omega) (by decide) _ z
  · have h16 : (y 0).val % 16 < 16 := Nat.mod_lt _ (by omega)
    rcases (by omega : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15) with hk | hk | hk | hk | hk | hk | hk | hk | hk | hk | hk | hk | hk | hk | hk | hk
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_rows 0 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_rows 1 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_rows 2 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_rows 3 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_rows 4 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_rows 5 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_rows 6 (by omega) _ y hk⟩
    · exact ⟨_, List.Mem.tail _ (List.Mem.tail _ (List.Mem.tail _ (List.Mem.tail _ (List.Mem.tail _ (List.Mem.tail _ (List.Mem.tail _ (List.Mem.tail _ (List.Mem.head _)))))))), mem_rows 7 (by omega) _ y hk⟩
    · exact ⟨_, List.Mem.tail _ (List.Mem.tail _ (List.Mem.tail _ (List.Mem.tail _ (List.Mem.tail _ (List.Mem.tail _ (List.Mem.tail _ (List.Mem.head _))))))), mem_rows 8 (by omega) _ y hk⟩
    · exact ⟨_, List.Mem.tail _ (List.Mem.tail _ (List.Mem.tail _ (List.Mem.tail _ (List.Mem.tail _ (List.Mem.tail _ (List.Mem.head _)))))), mem_rows 9 (by omega) _ y hk⟩
    · exact ⟨_, List.Mem.tail _ (List.Mem.tail _ (List.Mem.tail _ (List.Mem.tail _ (List.Mem.tail _ (List.Mem.head _))))), mem_rows 10 (by omega) _ y hk⟩
    · exact ⟨_, List.Mem.tail _ (List.Mem.tail _ (List.Mem.tail _ (List.Mem.tail _ (List.Mem.head _)))), mem_rows 11 (by omega) _ y hk⟩
    · exact ⟨_, List.Mem.tail _ (List.Mem.tail _ (List.Mem.tail _ (List.Mem.head _))), mem_rows 12 (by omega) _ y hk⟩
    · exact ⟨_, List.Mem.tail _ (List.Mem.tail _ (List.Mem.head _)), mem_rows 13 (by omega) _ y hk⟩
    · exact ⟨_, List.Mem.tail _ (List.Mem.head _), mem_rows 14 (by omega) _ y hk⟩
    · exact ⟨_, List.Mem.head _, mem_rows 15 (by omega) _ y hk⟩

set_option maxHeartbeats 8000000 in
/-- The body at a block not in use: it stores zeros. -/
theorem run_unused (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Ideal S4096x128 .f32) (x1 x2 : Vec Ideal S1x1x2048x512 .f32) (x3 : Vec Ideal S1x1x512x2048 .f32) (a b : Vec Ideal S2048x512 .bf16) (d : Vec Ideal S512x2048 .bf16)
    (hc : ¬ change i T0 T1 = 1#1) (h2 : ¬ k0_cond2 i (count T1) = 1#1) (h3 : k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ owns (c : Thread nD τ) arg8 fullShare a ∗ owns (c : Thread nD τ) arg9 fullShare b ∗ owns (c : Thread nD τ) arg10 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (k0_pay11 (F := Ideal)) ∗ owns (c : Thread nD τ) arg8 fullShare a ∗ owns (c : Thread nD τ) arg9 fullShare b ∗ owns (c : Thread nD τ) arg10 fullShare d) -∗ K ⟨⟩))
      ⊢ wp frame (wpE (defs₀ (F := Ideal)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro; exact View.read_writes_full _ _ _ _ _
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

set_option maxHeartbeats 8000000 in
/-- The body at a block in use whose weights are converted first. -/
theorem run_changed (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Ideal S4096x128 .f32) (x1 x2 : Vec Ideal S1x1x2048x512 .f32) (x3 : Vec Ideal S1x1x512x2048 .f32)
    (hc : change i T0 T1 = 1#1) (h2 : k0_cond2 i (count T1) = 1#1) (h3 : ¬ k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (result x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3)) -∗ K ⟨⟩))
      ⊢ wp frame (wpE (defs₀ (F := Ideal)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    refine (interleave _ _ _ _ _ _ rfl).trans (congrArg unmix ?_)
    exact product_of (wide_of_reads harg3 x0) ((View.readCov_full _ _ _ _ _).trans (congrArg k0_pay1 (load_whole harg4 x1 _))) ((View.readCov_full _ _ _ _ _).trans (congrArg k0_pay2 (load_whole harg5 x2 _))) ((View.readCov_full _ _ _ _ _).trans (congrArg k0_pay3 (load_whole harg6 x3 _)))
  isplitl [HS0]
  · iexists _; isplitr
    swap; · iexact HS0
    ipureintro; exact (View.read_writes_full _ _ _ _ _).trans (congrArg k0_pay1 (load_whole harg4 x1 _))
  isplitl [HS1]
  · iexists _; isplitr
    swap; · iexact HS1
    ipureintro; exact (View.read_writes_full _ _ _ _ _).trans (congrArg k0_pay2 (load_whole harg5 x2 _))
  iexists _; isplitr
  swap; · iexact HS2
  ipureintro; exact (View.read_writes_full _ _ _ _ _).trans (congrArg k0_pay3 (load_whole harg6 x3 _))

set_option maxHeartbeats 8000000 in
/-- The body at a block in use whose weights are already converted. -/
theorem run_kept (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Ideal S4096x128 .f32) (x1 x2 : Vec Ideal S1x1x2048x512 .f32) (x3 : Vec Ideal S1x1x512x2048 .f32) (a b : Vec Ideal S2048x512 .bf16) (d : Vec Ideal S512x2048 .bf16)
    (hc : ¬ change i T0 T1 = 1#1) (h2 : k0_cond2 i (count T1) = 1#1) (h3 : ¬ k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ owns (c : Thread nD τ) arg8 fullShare a ∗ owns (c : Thread nD τ) arg9 fullShare b ∗ owns (c : Thread nD τ) arg10 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (result x0 a b d) ∗ owns (c : Thread nD τ) arg8 fullShare a ∗ owns (c : Thread nD τ) arg9 fullShare b ∗ owns (c : Thread nD τ) arg10 fullShare d) -∗ K ⟨⟩))
      ⊢ wp frame (wpE (defs₀ (F := Ideal)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    refine (interleave _ _ _ _ _ _ rfl).trans (congrArg unmix ?_)
    exact product_of (wide_of_reads harg3 x0) (load_whole harg8 a _) (load_whole harg9 b _) (load_whole harg10 d _)
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

end Cert.ExpIdeal.Run

end
-- ==== Proof.Exp.RunIdeal.lean ====
module

public import proofs.«01_k».proof.Proof.Exp.BodyIdeal

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.ExpIdeal.Run

open Cert.ExpIdeal Cert.ExpIdeal.Gen

local notation "𝕄" => MT nD τ sig Unit (Elt Ideal) ℕ (UR sig nD τ) ℕ

/-- A condition widened to a word and tested again. -/
theorem word_test (b : BitVec 1) : Scalar.cmpi .ne (Scalar.extui b : BitVec 32) 0#32 = 1#1 ↔ b = 1#1 := by
  rcases BitVec.eq_zero_or_eq_one b with h | h <;> subst h <;> decide

theorem slt_word (x y : BitVec 32) : Scalar.cmpi .slt x y = 1#1 ↔ x.toInt < y.toInt := by
  show BitVec.ofBool (x.slt y) = 1#1 ↔ _
  rw [BitVec.slt]
  by_cases h : x.toInt < y.toInt <;> simp [h]

/-- Exactly one of the two branches runs. -/
theorem other (i : grid0.Coords) (v : BitVec 32) : k0_cond3 i v = 1#1 ↔ ¬ k0_cond2 i v = 1#1 := by
  unfold k0_cond3 k0_cond2
  dsimp only
  generalize Scalar.cmpi .slt (BitVec.ofNat 32 (i 0).val) v = b
  rcases BitVec.eq_zero_or_eq_one b with h | h <;> subst h <;> decide

theorem stores (i : grid0.Coords) (v : BitVec 32) : (!(k0_cond2 i v == 1#1) && !(k0_cond3 i v == 1#1)) = false := by
  by_cases h : k0_cond2 i v = 1#1
  · simp [h]
  · have := (other i v).mpr h; simp [this]

/-- The words of an instance's number. -/
theorem words : ∀ t : Fin grid0.N, (BitVec.ofNat 32 (grid0.coords t 0).val).toInt = (t.val : ℤ)
    ∧ (BitVec.ofNat 32 (grid0.coords t 0).val = 0#32 ↔ t.val = 0)
    ∧ k0_off1 (grid0.coords t) 0 = t.val ∧ k0_off2 (grid0.coords t) 0 = t.val - 1 := by
  decide +kernel

/-- An instance's block is in use: its number is below the count, read with its sign. -/
theorem in_use (t : Fin grid0.N) (v : BitVec 32) : k0_cond2 (grid0.coords t) v = 1#1 ↔ (t.val : ℤ) < v.toInt := by
  unfold k0_cond2
  rw [word_test, slt_word, (words t).1]

/-- The table's word at an instance. -/
theorem here_eq (t : Fin grid0.N) (T0 : S160.Idx → BitVec 32) : here (grid0.coords t) T0 = T0 fun | ⟨0, _⟩ => ⟨t.val, t.isLt⟩ | ⟨_ + 1, h⟩ => absurd h (by simp) := by
  refine congrArg T0 ?_
  funext a
  match a with
  | ⟨0, _⟩ => exact Fin.ext (show k0_off1 (grid0.coords t) 0 + 1 * 0 = t.val by rw [(words t).2.2.1]; omega)

theorem prior_eq (t : Fin grid0.N) (T0 : S160.Idx → BitVec 32) : prior (grid0.coords t) T0 = T0 fun | ⟨0, _⟩ => ⟨t.val - 1, Nat.lt_of_le_of_lt (Nat.sub_le _ _) t.isLt⟩ | ⟨_ + 1, h⟩ => absurd h (by simp) := by
  refine congrArg T0 ?_
  funext a
  match a with
  | ⟨0, _⟩ => exact Fin.ext (show k0_off2 (grid0.coords t) 0 + 1 * 0 = t.val - 1 by rw [(words t).2.2.2]; omega)

/-- When the weights are converted anew. -/
theorem changes (t : Fin grid0.N) (T0 : S160.Idx → BitVec 32) (T1 : S1.Idx → BitVec 32) :
    change (grid0.coords t) T0 T1 = 1#1 ↔ k0_cond2 (grid0.coords t) (count T1) = 1#1 ∧ (t.val = 0 ∨ here (grid0.coords t) T0 ≠ prior (grid0.coords t) T0) := by
  unfold change k0_cond2
  rw [word_test, word_test, ← (words t).2.1]
  generalize Scalar.cmpi .slt (BitVec.ofNat 32 (grid0.coords t 0).val) (count T1) = b
  generalize BitVec.ofNat 32 (grid0.coords t 0).val = x
  generalize here (grid0.coords t) T0 = p
  generalize prior (grid0.coords t) T0 = q
  have hx : Scalar.cmpi .eq x 0#32 = BitVec.ofBool (decide (x = 0#32)) := by
    show BitVec.ofBool (x == 0#32) = _
    by_cases h : x = 0#32
    · subst h; simp
    · rw [beq_eq_false_iff_ne.mpr h, decide_eq_false h]
  have hp : Scalar.cmpi .ne p q = BitVec.ofBool (decide (p ≠ q)) := by
    show BitVec.ofBool (p != q) = _
    by_cases h : p = q
    · subst h; simp
    · rw [bne_iff_ne.mpr h, decide_eq_true h]
  rw [hx, hp]
  rcases BitVec.eq_zero_or_eq_one b with h | h <;> subst h <;> by_cases h1 : x = 0#32 <;> by_cases h2 : p = q <;> simp [h1, h2] <;> decide

variable (T0 : S160.Idx → BitVec 32) (T1 : S1.Idx → BitVec 32) (hb : ∀ y, (T0 y).toNat < 32)

/-- The two tables' contents. -/
def tables : pre0.Contents (Elt Ideal)
  | ⟨0, _⟩ => T0
  | ⟨1, _⟩ => T1
  | ⟨_ + 2, h⟩ => absurd h (by simp)

include hb in
theorem tables_ok : ok0 (F := Ideal) (tables T0 T1) := by
  refine ⟨fun i => ⟨fun a => ?_, Or.inl rfl⟩, fun i => ⟨fun a => ?_, Or.inl rfl⟩, fun i => ⟨fun a => ?_, Or.inl rfl⟩⟩
  all_goals
    match a with
    | ⟨0, _⟩ => show (0 + 1) * 1 ≤ 4; omega
    | ⟨1, _⟩ => show ((T0 _).toNat + 1) * 1 ≤ 32; rw [Nat.mul_one]; exact hb _
    | ⟨2, _⟩ => exact (Nat.one_mul _).le
    | ⟨3, _⟩ => exact (Nat.one_mul _).le

def adm : (pcfg0 (F := Ideal)).Adm := ⟨tables T0 T1, tables_ok T0 T1 hb⟩
abbrev cfgA : Pipeline.Cfg sig Λ₀ := cfg0 (F := Ideal) (adm T0 T1 hb)
abbrev pcs : Fin 1 → Pipeline.Cfg sig Λ₀ := Pipeline.pin (pcfgs (F := Ideal)) fun _ => adm T0 T1 hb

variable (m : (ℓ : Loc nD τ sig) → Buf (Elt Ideal) ℓ) (ρ : Dev nD → PrngReg)

/-- An instance's coordinates and its windows' staging buffers. -/
abbrev crd (t : Fin (cfgA T0 T1 hb).N) : (cfgA T0 T1 hb).grid.Coords := (cfgA T0 T1 hb).grid.coords t
abbrev ms0_0 (t : Fin (cfgA T0 T1 hb).N) : Memref sig .tc .vmem S4096x128 .f32 := spec0_0.stage ((cfgA T0 T1 hb).slots t (0 : Fin 5))
abbrev hs0_0 (t : Fin (cfgA T0 T1 hb).N) : (ms0_0 T0 T1 hb t).IsWhole := hstage0_0 (((cfgA T0 T1 hb).slots t (0 : Fin 5)).cast nbuf0_0)
abbrev ms0_1 (t : Fin (cfgA T0 T1 hb).N) : Memref sig .tc .vmem S1x1x2048x512 .f32 := spec0_1.stage ((cfgA T0 T1 hb).slots t (1 : Fin 5))
abbrev hs0_1 (t : Fin (cfgA T0 T1 hb).N) : (ms0_1 T0 T1 hb t).IsWhole := hstage0_1 (((cfgA T0 T1 hb).slots t (1 : Fin 5)).cast nbuf0_1)
abbrev ms0_2 (t : Fin (cfgA T0 T1 hb).N) : Memref sig .tc .vmem S1x1x2048x512 .f32 := spec0_2.stage ((cfgA T0 T1 hb).slots t (2 : Fin 5))
abbrev hs0_2 (t : Fin (cfgA T0 T1 hb).N) : (ms0_2 T0 T1 hb t).IsWhole := hstage0_2 (((cfgA T0 T1 hb).slots t (2 : Fin 5)).cast nbuf0_2)
abbrev ms0_3 (t : Fin (cfgA T0 T1 hb).N) : Memref sig .tc .vmem S1x1x512x2048 .f32 := spec0_3.stage ((cfgA T0 T1 hb).slots t (3 : Fin 5))
abbrev hs0_3 (t : Fin (cfgA T0 T1 hb).N) : (ms0_3 T0 T1 hb t).IsWhole := hstage0_3 (((cfgA T0 T1 hb).slots t (3 : Fin 5)).cast nbuf0_3)
abbrev ms0_4 (t : Fin (cfgA T0 T1 hb).N) : Memref sig .tc .vmem S4096x128 .f32 := spec0_4.stage ((cfgA T0 T1 hb).slots t (4 : Fin 5))
abbrev hs0_4 (t : Fin (cfgA T0 T1 hb).N) : (ms0_4 T0 T1 hb t).IsWhole := hstage0_4 (((cfgA T0 T1 hb).slots t (4 : Fin 5)).cast nbuf0_4)

/-- The block a window takes at an instance, read off its array at launch. -/
def iblk (c : Dev nD) (w : Fin (cfgA T0 T1 hb).W) (t : Fin (cfgA T0 T1 hb).N) : (((cfgA T0 T1 hb).win w).xblock (crd T0 T1 hb t)).Idx → Elt Ideal ((cfgA T0 T1 hb).win w).elt :=
  (((cfgA T0 T1 hb).win w).blk t).view.read (Elt Ideal) ((s₀ m ρ).mem (((cfgA T0 T1 hb).win w).arr.view.loc (c : Thread nD τ)))

/-- The block of a weight array that holds one expert's matrix. -/
def expertBlock (s : Fin 2 → ℕ) (A : (⟨4, ![4, 32, s 0, s 1]⟩ : Shape).Idx → EReal) (e : ℕ) (he : e < 32) : (⟨4, ![1, 1, s 0, s 1]⟩ : Shape).Idx → EReal := fun y =>
  A fun | ⟨0, _⟩ => ⟨0, by show 0 < 4; omega⟩ | ⟨1, _⟩ => ⟨e, he⟩ | ⟨2, _⟩ => ⟨(y 2).val, (y 2).isLt⟩ | ⟨3, _⟩ => ⟨(y 3).val, (y 3).isLt⟩ | ⟨_ + 4, h⟩ => absurd h (by simp)

theorem iblk1_eq (c : Dev nD) (t : Fin (cfgA T0 T1 hb).N) : iblk T0 T1 hb m ρ c (1 : Fin 5) t
    = expertBlock ![2048, 512] (m ((c : Thread nD τ).loc main_arg3)) (here (grid0.coords t) T0).toNat (hb _) := by
  funext y
  refine congrArg (m ((c : Thread nD τ).loc main_arg3)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 2048 + 1 * (y 2).val = (y 2).val by omega)
  | ⟨3, _⟩ => exact Fin.ext (show 0 * 512 + 1 * (y 3).val = (y 3).val by omega)

theorem iblk2_eq (c : Dev nD) (t : Fin (cfgA T0 T1 hb).N) : iblk T0 T1 hb m ρ c (2 : Fin 5) t
    = expertBlock ![2048, 512] (m ((c : Thread nD τ).loc main_arg4)) (here (grid0.coords t) T0).toNat (hb _) := by
  funext y
  refine congrArg (m ((c : Thread nD τ).loc main_arg4)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 2048 + 1 * (y 2).val = (y 2).val by omega)
  | ⟨3, _⟩ => exact Fin.ext (show 0 * 512 + 1 * (y 3).val = (y 3).val by omega)

theorem iblk3_eq (c : Dev nD) (t : Fin (cfgA T0 T1 hb).N) : iblk T0 T1 hb m ρ c (3 : Fin 5) t
    = expertBlock ![512, 2048] (m ((c : Thread nD τ).loc main_arg5)) (here (grid0.coords t) T0).toNat (hb _) := by
  funext y
  refine congrArg (m ((c : Thread nD τ).loc main_arg5)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 512 + 1 * (y 2).val = (y 2).val by omega)
  | ⟨3, _⟩ => exact Fin.ext (show 0 * 2048 + 1 * (y 3).val = (y 3).val by omega)

/-- Whether an instance's block is in use. -/
abbrev used (t : Fin (cfgA T0 T1 hb).N) : Prop := k0_cond2 (grid0.coords t) (count T1) = 1#1

/-- Where the weights are kept, the block before was in use and its expert the same. -/
theorem same (c : Dev nD) (t : Fin (cfgA T0 T1 hb).N) (hu : used T0 T1 hb t) (hc : ¬ change (grid0.coords t) T0 T1 = 1#1) :
    ∃ s : Fin (cfgA T0 T1 hb).N, s.val + 1 = t.val ∧ used T0 T1 hb s ∧ iblk T0 T1 hb m ρ c (1 : Fin 5) s = iblk T0 T1 hb m ρ c (1 : Fin 5) t
      ∧ iblk T0 T1 hb m ρ c (2 : Fin 5) s = iblk T0 T1 hb m ρ c (2 : Fin 5) t ∧ iblk T0 T1 hb m ρ c (3 : Fin 5) s = iblk T0 T1 hb m ρ c (3 : Fin 5) t := by
  rw [changes t T0 T1] at hc
  have h0 : t.val ≠ 0 := fun h => hc ⟨hu, Or.inl h⟩
  have he : here (grid0.coords t) T0 = prior (grid0.coords t) T0 := by by_contra h; exact hc ⟨hu, Or.inr h⟩
  have hlt : t.val - 1 < grid0.N := Nat.lt_of_le_of_lt (Nat.sub_le _ _) t.isLt
  have hs : here (grid0.coords ⟨t.val - 1, hlt⟩) T0 = here (grid0.coords t) T0 := by
    rw [he, here_eq, prior_eq]
  refine ⟨⟨t.val - 1, hlt⟩, by show t.val - 1 + 1 = t.val; omega, ?_, ?_, ?_, ?_⟩
  · have h2 := (in_use t (count T1)).mp hu
    exact (in_use ⟨t.val - 1, hlt⟩ (count T1)).mpr (by show ((t.val - 1 : ℕ) : ℤ) < _; omega)
  · rw [iblk1_eq, iblk1_eq]; congr 2
  · rw [iblk2_eq, iblk2_eq]; congr 2
  · rw [iblk3_eq, iblk3_eq]; congr 2

/-- What an instance leaves in the result's buffer. -/
def stored (c : Dev nD) (t : Fin (cfgA T0 T1 hb).N) : Vec Ideal S4096x128 .f32 :=
  if used T0 T1 hb t then result (iblk T0 T1 hb m ρ c (0 : Fin 5) t) (k0_pay1 (iblk T0 T1 hb m ρ c (1 : Fin 5) t)) (k0_pay2 (iblk T0 T1 hb m ρ c (2 : Fin 5) t)) (k0_pay3 (iblk T0 T1 hb m ρ c (3 : Fin 5) t))
  else k0_pay11 (F := Ideal)

/-- The scratches hold the weights of the block before, converted, where it was in use. -/
def holds (c : Dev nD) (n : ℕ) (a0 a1 : Vec Ideal S2048x512 .bf16) (a2 : Vec Ideal S512x2048 .bf16) : Prop :=
  ∀ s : Fin (cfgA T0 T1 hb).N, s.val + 1 = n → used T0 T1 hb s →
    a0 = k0_pay1 (iblk T0 T1 hb m ρ c (1 : Fin 5) s) ∧ a1 = k0_pay2 (iblk T0 T1 hb m ρ c (2 : Fin 5) s) ∧ a2 = k0_pay3 (iblk T0 T1 hb m ρ c (3 : Fin 5) s)

/-- The invariant before an instance. -/
def Phi (c : Dev nD) (n : ℕ) : sProp 𝕄 :=
  iprop(∃ a0 a1 a2, ⌜holds T0 T1 hb m ρ c n a0 a1 a2⌝ ∗ owns (c : Thread nD τ) sc0 fullShare a0 ∗ owns (c : Thread nD τ) sc1 fullShare a1 ∗ owns (c : Thread nD τ) sc2 fullShare a2
    ∗ (tb0.view.loc (c : Thread nD τ) ↦{fullShare.right} T0) ∗ (tb1.view.loc (c : Thread nD τ) ↦{fullShare.right} T1))

/-- The pipeline's proof data. -/
def dats (_ : Fin 1) (c : Dev nD) : Dat τ (Elt Ideal) Unit ℕ (UR sig nD τ) ℕ (cfgA T0 T1 hb) c where
  A w := (s₀ m ρ).mem (((cfgA T0 T1 hb).win w).arr.view.loc (c : Thread nD τ))
  after w t := match w with
    | ⟨0, _⟩ => iblk T0 T1 hb m ρ c (0 : Fin 5) t
    | ⟨1, _⟩ => iblk T0 T1 hb m ρ c (1 : Fin 5) t
    | ⟨2, _⟩ => iblk T0 T1 hb m ρ c (2 : Fin 5) t
    | ⟨3, _⟩ => iblk T0 T1 hb m ρ c (3 : Fin 5) t
    | ⟨4, _⟩ => stored T0 T1 hb m ρ c t
  Φ t := Phi T0 T1 hb m ρ c t.val
  q _ := fullShare
  owed _ := 0

theorem after0_0 (c : Dev nD) (t : Fin (cfgA T0 T1 hb).N) : (dats T0 T1 hb m ρ 0 c).after (0 : Fin 5) t = iblk T0 T1 hb m ρ c (0 : Fin 5) t := rfl
theorem after0_1 (c : Dev nD) (t : Fin (cfgA T0 T1 hb).N) : (dats T0 T1 hb m ρ 0 c).after (1 : Fin 5) t = iblk T0 T1 hb m ρ c (1 : Fin 5) t := rfl
theorem after0_2 (c : Dev nD) (t : Fin (cfgA T0 T1 hb).N) : (dats T0 T1 hb m ρ 0 c).after (2 : Fin 5) t = iblk T0 T1 hb m ρ c (2 : Fin 5) t := rfl
theorem after0_3 (c : Dev nD) (t : Fin (cfgA T0 T1 hb).N) : (dats T0 T1 hb m ρ 0 c).after (3 : Fin 5) t = iblk T0 T1 hb m ρ c (3 : Fin 5) t := rfl
theorem after0_4 (c : Dev nD) (t : Fin (cfgA T0 T1 hb).N) : (dats T0 T1 hb m ρ 0 c).after (4 : Fin 5) t = stored T0 T1 hb m ρ c t := rfl
theorem before0_0 (c : Dev nD) (t : Fin (cfgA T0 T1 hb).N) (d) : (dats T0 T1 hb m ρ 0 c).before (0 : Fin 5) t d = iblk T0 T1 hb m ρ c (0 : Fin 5) t :=
  ((dats T0 T1 hb m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 hb).N) (d) : (dats T0 T1 hb m ρ 0 c).before (1 : Fin 5) t d = iblk T0 T1 hb m ρ c (1 : Fin 5) t :=
  ((dats T0 T1 hb m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 hb).N) (d) : (dats T0 T1 hb m ρ 0 c).before (2 : Fin 5) t d = iblk T0 T1 hb m ρ c (2 : Fin 5) t :=
  ((dats T0 T1 hb m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 hb).N) (d) : (dats T0 T1 hb m ρ 0 c).before (3 : Fin 5) t d = iblk T0 T1 hb m ρ c (3 : Fin 5) t :=
  ((dats T0 T1 hb m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem idle4 (t : Fin (cfgA T0 T1 hb).N) : (cfgA T0 T1 hb).idle (4 : Fin 5) ((cfgA T0 T1 hb).grid.coords t) = false := stores _ _

/-- The body as the pipeline calls it. -/
abbrev bodyAt0 (t : Fin (cfgA T0 T1 hb).N) : Prog (TpuEff nD τ sig (Elt Ideal) Λ₀ .tc) PUnit :=
  cc0_moe_experts (crd T0 T1 hb t) tb0 (Memref.isWhole_whole _) tb1 (Memref.isWhole_whole _) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _)

set_option maxHeartbeats 4000000 in
/-- The body at any instance. -/
theorem sound_body (c : Dev nD) (t : Fin (cfgA T0 T1 hb).N) :
    iprop((dats T0 T1 hb m ρ 0 c).Φ t.castSucc ∗ (dats T0 T1 hb m ρ 0 c).owesAt () t.castSucc
        ∗ (∃ d, owns (c : Thread nD τ) (ms0_0 T0 T1 hb t) fullShare ((dats T0 T1 hb m ρ 0 c).before (0 : Fin 5) t d))
        ∗ (∃ d, owns (c : Thread nD τ) (ms0_1 T0 T1 hb t) fullShare ((dats T0 T1 hb m ρ 0 c).before (1 : Fin 5) t d))
        ∗ (∃ d, owns (c : Thread nD τ) (ms0_2 T0 T1 hb t) fullShare ((dats T0 T1 hb m ρ 0 c).before (2 : Fin 5) t d))
        ∗ (∃ d, owns (c : Thread nD τ) (ms0_3 T0 T1 hb t) fullShare ((dats T0 T1 hb m ρ 0 c).before (3 : Fin 5) t d))
        ∗ (∃ d, owns (c : Thread nD τ) (ms0_4 T0 T1 hb t) fullShare ((dats T0 T1 hb m ρ 0 c).before (4 : Fin 5) t d)))
      ⊢ wp frame (wpE (defs₀ (F := Ideal)) Variants.none c none) Set.univ (bodyAt0 T0 T1 hb t) fun _ =>
          iprop((dats T0 T1 hb m ρ 0 c).Φ t.succ ∗ (dats T0 T1 hb m ρ 0 c).owesAt () t.succ
            ∗ bigSep Finset.univ fun w : Fin (cfgA T0 T1 hb).W =>
                match (cfgA T0 T1 hb).idle w ((cfgA T0 T1 hb).grid.coords t) with
                | true =>
                  match ((cfgA T0 T1 hb).win w).flush t with
                  | false => iprop(∃ d, owns (c : Thread nD τ) (((cfgA T0 T1 hb).win w).stage ((cfgA T0 T1 hb).slots t w)) fullShare ((dats T0 T1 hb m ρ 0 c).before w t d))
                  | true => owns (c : Thread nD τ) (((cfgA T0 T1 hb).win w).stage ((cfgA T0 T1 hb).slots t w)) fullShare ((dats T0 T1 hb m ρ 0 c).after w t)
                | false => owns (c : Thread nD τ) (((cfgA T0 T1 hb).win w).stage ((cfgA T0 T1 hb).slots t w)) fullShare ((dats T0 T1 hb m ρ 0 c).after w t)) := by
  rw [bigSep_W0]
  rewrite [idle4]
  simp only [before0_0, before0_1, before0_2, before0_3, after0_0, after0_1, after0_2, after0_3, after0_4]
  rewrite [show (dats T0 T1 hb m ρ 0 c).Φ t.succ = Phi T0 T1 hb m ρ c (t.val + 1) from rfl, show (dats T0 T1 hb m ρ 0 c).Φ t.castSucc = Phi T0 T1 hb m ρ c t.val from rfl,
    show (dats T0 T1 hb m ρ 0 c).owesAt () t.succ = (dats T0 T1 hb m ρ 0 c).owesAt () t.castSucc from rfl]
  unfold Phi
  iintro ⟨⟨%a0, %a1, %a2, %hh, HS0, HS1, HS2, HT0, HT1⟩, Ho, ⟨%d0, H0⟩, ⟨%d1, H1⟩, ⟨%d2, H2⟩, ⟨%d3, H3⟩, ⟨%d4, H4⟩⟩
  by_cases hu : used T0 T1 hb t
  · have h3 : ¬ k0_cond3 (grid0.coords t) (count T1) = 1#1 := fun h => (other _ _).mp h hu
    have hst : stored T0 T1 hb m ρ c t = _ := if_pos hu
    rw [hst]
    by_cases hc : change (grid0.coords t) T0 T1 = 1#1
    · iapply (run_changed c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexists _; iexact HS0
      isplitl [HS1]; · iexists _; iexact HS1
      isplitl [HS2]; · iexists _; iexact HS2
      iintro ⟨H0, H1, H2, H3, HT0, HT1, H4, HS0, HS1, HS2⟩
      isplitl [HS0 HS1 HS2 HT0 HT1]
      · iexists _; iexists _; iexists _; isplitr
        · ipureintro
          intro s hs _
          obtain rfl : s = t := Fin.ext (Nat.succ.inj hs)
          exact ⟨rfl, rfl, rfl⟩
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4
    · obtain ⟨s, hs, hus, e1, e2, e3⟩ := same T0 T1 hb m ρ c t hu hc
      obtain ⟨q0, q1, q2⟩ := hh s hs hus
      rw [e1] at q0; rw [e2] at q1; rw [e3] at q2
      subst q0 q1 q2
      iapply (run_kept c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) _ _ _ hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists _; iexists _; iexists _; isplitr
        · ipureintro
          intro s hs _
          obtain rfl : s = t := Fin.ext (Nat.succ.inj hs)
          exact ⟨rfl, rfl, rfl⟩
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h3 : k0_cond3 (grid0.coords t) (count T1) = 1#1 := (other _ _).mpr hu
    have hc : ¬ change (grid0.coords t) T0 T1 = 1#1 := fun h => hu ((changes t T0 T1).mp h).1
    have hst : stored T0 T1 hb m ρ c t = _ := if_neg hu
    rw [hst]
    · iapply (run_unused c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) a0 a1 a2 hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists _; iexists _; iexists _; isplitr
        · ipureintro
          intro s hs hus
          obtain rfl : s = t := Fin.ext (Nat.succ.inj hs)
          exact absurd hus hu
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The library's body obligation, at every instance. -/
theorem body_obligation (c : Dev nD) : BodyObligation (dats T0 T1 hb m ρ 0 c) (defs₀ (F := Ideal)) Variants.none () Set.univ := fun t => by
  rw [bigSep_W0]
  exact sound_body T0 T1 hb m ρ c t

/-- The launch element. -/
def u₀ : UR sig nD τ :=
  initOf (Pipeline.cells (pcs T0 T1 hb) ((launch0 (F := Ideal)).cellOf_inj fun _ => adm T0 T1 hb))
    (Pipeline.launchToks (pcs T0 T1 hb) ((launch0 (F := Ideal)).cellOf_inj fun _ => adm T0 T1 hb))

theorem share_eq (c : Dev nD) (w : Fin (cfgA T0 T1 hb).W) : (dats T0 T1 hb m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant without its knowledge of the scratches' contents, with the buffers held outright. -/
theorem phi_eq (c : Dev nD) (n : ℕ) :
    (Phi T0 T1 hb m ρ c n : sProp 𝕄) = iprop(∃ a0 a1 a2, ⌜holds T0 T1 hb m ρ c n a0 a1 a2⌝ ∗ (((c : Thread nD τ).loc cc0_scratch0) ↦{fullShare} a0)
      ∗ (((c : Thread nD τ).loc cc0_scratch1) ↦{fullShare} a1) ∗ (((c : Thread nD τ).loc cc0_scratch2) ↦{fullShare} a2)
      ∗ (((c : Thread nD τ).loc main_arg0) ↦{fullShare.right} T0) ∗ (((c : Thread nD τ).loc main_arg1) ↦{fullShare.right} T1)) := by
  unfold Phi; simp only [sc0, sc1, sc2, owns_whole]

/-- The invariant at the first instance, whatever the scratches hold; -/
theorem phi0_intro (c : Dev nD) :
    iprop(BI.emp ∗ Pipeline.prefHeld pre0 c (fun _ => fullShare.right) (adm T0 T1 hb).1 ∗ Pipeline.scopedRest spec0 c) ⊢ (dats T0 T1 hb m ρ 0 c).Φ 0 := by
  rw [prefHeld_eq, scopedRest0_eq, show (dats T0 T1 hb m ρ 0 c).Φ 0 = Phi T0 T1 hb m ρ c 0 from rfl, phi_eq]
  iintro ⟨-, ⟨HT0, HT1⟩, ⟨%f0, HS0⟩, ⟨%f1, HS1⟩, ⟨%f2, HS2⟩⟩
  iexists f0; iexists f1; iexists f2
  isplitr
  · ipureintro; intro s hs; exact absurd hs (Nat.succ_ne_zero _)
  isplitl [HS0]; · iexact HS0
  isplitl [HS1]; · iexact HS1
  isplitl [HS2]; · iexact HS2
  isplitl [HT0]; · iexact HT0
  iexact HT1

/-- at the last it gives the scratches back. -/
theorem phiN_exit (c : Dev nD) : (dats T0 T1 hb m ρ 0 c).Φ (Fin.last (cfgA T0 T1 hb).N) ⊢ iprop(BI.emp ∗ Pipeline.scopedRest spec0 c) := by
  rw [scopedRest0_eq, show (dats T0 T1 hb m ρ 0 c).Φ (Fin.last (cfgA T0 T1 hb).N) = Phi T0 T1 hb m ρ c (cfgA T0 T1 hb).N from rfl, phi_eq]
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array ends at what the proof data says, every table as it was. -/
def QC : PUnit × MemSt nD τ sig (Elt Ideal) → Prop := fun r =>
  ∀ c : Dev nD, (∀ w : Fin (cfgA T0 T1 hb).W, r.2.mem (((cfgA T0 T1 hb).win w).arr.view.loc (c : Thread nD τ)) = (dats T0 T1 hb m ρ 0 c).arrAt w (cfgA T0 T1 hb).N)
    ∧ ∀ j, r.2.mem ((c : Thread nD τ).loc (pre0.ref j)) = (adm T0 T1 hb).1 j

variable (hp : (∀ c : Dev nD, m ((c : Thread nD τ).loc main_arg0) = T0) ∧ (∀ c : Dev nD, m ((c : Thread nD τ).loc main_arg1) = T1))

include hp in
theorem V_pre (c : Dev nD) (j : Fin 2) : m ((c : Thread nD τ).loc (pre0.ref j)) = (adm T0 T1 hb).1 j := by
  fin_cases j
  · exact hp.1 c
  · exact hp.2 c

include hp in
set_option backward.isDefEq.respectTransparency.types false in
set_option maxHeartbeats 4000000 in
/-- The launch: every execution ends, at the arrays the proof data says and with no counter left standing. -/
theorem run_main_quiescent : θ_run (defs (F := Ideal)) (onTc (τ := τ) (main (F := Ideal))) (s₀ m ρ) (fun r => QC T0 T1 hb m ρ r ∧ r.2.sem = fun _ => 0) :=
  Pipeline.θ_run_region_noSem_pf_quiescent pcfgs (fun _ => adm T0 T1 hb) (dats T0 T1 hb m ρ) () ((launch0 (F := Ideal)).cellOf_inj fun _ => adm T0 T1 hb) (0 : Fin 1)
    (launch0 (F := Ideal)).win.to₀ (launch0 (F := Ideal)).pre emb₁ defs₀ Variants.none m ρ main
    (hbody := fun c => (body_obligation T0 T1 hb m ρ c).loose) (hne := (launch0 (F := Ideal)).block_pos)
    (harr := (launch0 (F := Ideal)).arr_whole) (hstage := (launch0 (F := Ideal)).stage_whole) (howed := fun _ _ => rfl)
    (u₀ := u₀ T0 T1 hb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hb) (dats T0 T1 hb m ρ) 0 (launch0 (F := Ideal)).win.arr_inj c (launch0 (F := Ideal)).arr_whole
      (share_eq T0 T1 hb m ρ c) _ _ fun _ => rfl)
    (hpf := V_pre T0 T1 hb m hp)
    (X := fun _ => iprop(emp)) (Y := fun _ => iprop(emp)) (Z := fun _ => iprop(emp))
    (hX := fun c => by rw [unscopedRestP0_eq]; iintro -; isplitr <;> iempintro)
    (hin := phi0_intro T0 T1 hb m ρ)
    (hout := phiN_exit T0 T1 hb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hp in
theorem run_main : θ_run (defs (F := Ideal)) (onTc (τ := τ) (main (F := Ideal))) (s₀ m ρ) (QC T0 T1 hb m ρ) :=
  (θ_run defs _ _).mono (fun _ h => h.1) (run_main_quiescent T0 T1 hb m ρ hp)

include hp hb in
theorem unchanged : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T0 T1 hb m ρ 0 c).arrAt_in (0 : Fin 5) rfl _), ((h c).1 (1 : Fin 5)).trans ((dats T0 T1 hb m ρ 0 c).arrAt_in (1 : Fin 5) rfl _), ((h c).1 (2 : Fin 5)).trans ((dats T0 T1 hb m ρ 0 c).arrAt_in (2 : Fin 5) rfl _), ((h c).1 (3 : Fin 5)).trans ((dats T0 T1 hb m ρ 0 c).arrAt_in (3 : Fin 5) rfl _)⟩) (run_main T0 T1 hb m ρ hp)

include hp hb in
/-- The arguments end unchanged and the counters at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hb m ρ hp) ((θ_run defs _ _).mono (fun _ h => h.2) (run_main_quiescent T0 T1 hb m ρ hp))

end Cert.ExpIdeal.Run

end
-- ==== Proof.Exp.Parts.lean ====
module

public import proofs.«01_k».proof.Proof.Exp.Spec
public import proofs.«01_k».proof.Proof.Exp.RunIdeal

@[expose] public section

set_option maxRecDepth 16384

noncomputable section

open Idealize.ShloMosaic Idealize.ShloMosaic.TcCoe

namespace Cert.Proof.Exp

open Cert.ExpIdeal Cert.ExpIdeal.Gen Cert.ExpIdeal.Run Cert.Proof.Norm

/-- The first expert matrix, as the scratch holds it. -/
theorem first_at (v : Vec Ideal S1x1x2048x512 .f32) (k : Fin 2048) (n : Fin 512) : k0_pay1 v (ix2 k n) = v (ix4 0 0 k n) := by
  pointwise [k0_pay1]

/-- The third. -/
theorem third_at (v : Vec Ideal S1x1x2048x512 .f32) (k : Fin 2048) (n : Fin 512) : k0_pay2 v (ix2 k n) = v (ix4 0 0 k n) := by
  pointwise [k0_pay2]

/-- The second. -/
theorem second_at (v : Vec Ideal S1x1x512x2048 .f32) (n : Fin 512) (l : Fin 2048) : k0_pay3 v (ix2 n l) = v (ix4 0 0 n l) := by
  pointwise [k0_pay3]

/-- One of the sixteen parts of a block at an element. -/
theorem part_at (x : Vec Ideal S4096x128 .f32) (q : ℕ) (hq : q < 16) (r : Fin 256) (l : Fin 128) :
    rowsOf x q hq (ix2 r l) = x (ix2 ⟨q + 16 * r.val, by omega⟩ l) := by
  refine congrArg x (funext fun a => ?_)
  match a with
  | ⟨0, _⟩ => rfl
  | ⟨1, _⟩ => rfl

/-- A product of a block's rows with a matrix. -/
theorem inner_at (w : FVec Ideal S256x2048 .bf16) (a : Vec Ideal S2048x512 .bf16) (r : Fin 256) (n : Fin 512) :
    k0_pay13 w a (ix2 r n) = ∑ k : Fin 2048, w (ix2 r k) * a (ix2 k n) := by
  pointwise [k0_pay13]

theorem inner_at' (w : FVec Ideal S256x2048 .bf16) (a : Vec Ideal S2048x512 .bf16) (r : Fin 256) (n : Fin 512) :
    k0_pay14 w a (ix2 r n) = ∑ k : Fin 2048, w (ix2 r k) * a (ix2 k n) := by
  pointwise [k0_pay14]

/-- The last product of a block. -/
theorem outer_at (p q : FVec Ideal S256x512 .f32) (d : Vec Ideal S512x2048 .bf16) (r : Fin 256) (l : Fin 2048) :
    k0_pay15 p q d (ix2 r l) = ∑ n : Fin 512, silu (p (ix2 r n)) * q (ix2 r n) * d (ix2 n l) := by
  unfold silu
  pointwise [k0_pay15]
  simp only [zero_sub]

/-- A block's rows, put side by side. -/
theorem wide_at (x : Vec Ideal S4096x128 .f32) (r : Fin 256) (k : Fin 2048) :
    wide x (ix2 r k) = x (ix2 ⟨16 * r.val + k.val / 128, by omega⟩ ⟨k.val % 128, by omega⟩) := by
  refine (Idealize.ShloMosaic.concatenate_ofFn_apply (t := S256x2048) (s₁ := S256x128) 1 (fun q : Fin 16 => rowsOf x q.val q.isLt)
    concatenates_S256x128_S256x128_S256x128_S256x128_S256x128_S256x128_S256x128_S256x128_S256x128_S256x128_S256x128_S256x128_S256x128_S256x128_S256x128_S256x128_S256x2048_d1
    rfl 128 rfl (ix2 r k) ⟨k.val / 128, by omega⟩ rfl (ix2 r ⟨k.val % 128, by omega⟩) rfl fun b hb => ?_).trans ?_
  · match b with
    | ⟨0, _⟩ => rfl
    | ⟨1, _⟩ => exact absurd rfl hb
  · rw [part_at]
    exact congrArg x (congrArg (fun i => ix2 i _) (Fin.ext (Nat.add_comm _ _)))

/-- A block's output at an element. -/
theorem product_at (x : Vec Ideal S4096x128 .f32) (a b : Vec Ideal S2048x512 .bf16) (d : Vec Ideal S512x2048 .bf16) (r : Fin 256) (l : Fin 2048) :
    product x a b d (ix2 r l) = ∑ n : Fin 512, silu (∑ k : Fin 2048, x (ix2 ⟨16 * r.val + k.val / 128, by omega⟩ ⟨k.val % 128, by omega⟩) * a (ix2 k n))
      * (∑ k : Fin 2048, x (ix2 ⟨16 * r.val + k.val / 128, by omega⟩ ⟨k.val % 128, by omega⟩) * b (ix2 k n)) * d (ix2 n l) := by
  unfold product
  rw [outer_at]
  simp only [inner_at, inner_at', wide_at]

/-- What a block in use stores, at an element. -/
theorem result_at (x : Vec Ideal S4096x128 .f32) (a b : Vec Ideal S2048x512 .bf16) (d : Vec Ideal S512x2048 .bf16) (i : Fin 4096) (j : Fin 128) :
    result x a b d (ix2 i j) = product x a b d (ix2 ⟨i.val / 16, by omega⟩ ⟨128 * (i.val % 16) + j.val, by omega⟩) := by
  refine congrArg (product x a b d) (funext fun q => ?_)
  match q with
  | ⟨0, _⟩ => rfl
  | ⟨1, _⟩ => rfl

end Cert.Proof.Exp
-- ==== Proof.Exp.Kernel.lean ====
module

public import proofs.«01_k».proof.Proof.Exp.Parts
public import Idealize.ShloMosaic.Lib.Pipeline.ValueKit

@[expose] public section

set_option maxRecDepth 16384

noncomputable section

open Idealize.ShloMosaic Idealize.ShloMosaic.TcCoe
open Idealize.ShloMosaic.Pipeline (Dat)

namespace Cert.Proof.Exp

open Cert.ExpIdeal Cert.ExpIdeal.Gen Cert.ExpIdeal.Run Cert.Proof.Norm

variable (T0 : S160.Idx → BitVec 32) (T1 : S1.Idx → BitVec 32) (hb : ∀ y, (T0 y).toNat < 32)
variable (m : (ℓ : Loc nD τ sig) → Buf (Elt Ideal) ℓ) (ρ : Dev nD → PrngReg)

/-- The blocks of rows the operand's and the result's windows take. -/
theorem places : ∀ t : Fin grid0.N, cc0_transform_0 (grid0.coords t) = ![t.val, 0] ∧ cc0_transform_4 (grid0.coords t) = ![t.val, 0] := by
  decide +kernel

/-- The count the body reads is the second table's entry. -/
theorem count_at : count T1 = T1 (ix1 0) :=
  congrArg T1 (funext fun a => match a with | ⟨0, _⟩ => rfl)

/-- The expert the body reads for an instance is its entry of the first table. -/
theorem here_at (t : Fin grid0.N) : here (grid0.coords t) T0 = T0 (ix1 ⟨t.val, t.isLt⟩) :=
  (here_eq t T0).trans (congrArg T0 (funext fun a => match a with | ⟨0, _⟩ => rfl))

include hb in
/-- In range, an expert is its entry. -/
theorem expert_at (t : Fin grid0.N) : (here (grid0.coords t) T0).toNat = (expert T0 ⟨t.val, t.isLt⟩).val := by
  rw [here_at]
  have h := hb (ix1 ⟨t.val, t.isLt⟩)
  show _ = min _ 31
  omega

/-- The rows an instance loads. -/
theorem rows_at (c : Dev nD) (t : Fin (cfgA T0 T1 hb).N) (i : Fin 4096) (j : Fin 128) :
    iblk T0 T1 hb m ρ c (0 : Fin 5) t (ix2 i j) = m ((c : Thread nD τ).loc main_arg2) (ix2 ⟨t.val * 4096 + i.val, by have : t.val < 160 := t.isLt; omega⟩ j) := by
  have ht : cc0_transform_0 (grid0.coords t) 0 = t.val := congrFun (places t).1 0
  refine congrArg (m ((c : Thread nD τ).loc main_arg2)) (funext fun a => ?_)
  match a with
  | ⟨0, _⟩ => exact Fin.ext (show cc0_transform_0 (grid0.coords t) 0 * 4096 + 1 * i.val = t.val * 4096 + i.val by rw [ht, Nat.one_mul])
  | ⟨1, _⟩ => exact Fin.ext (show 0 * 128 + 1 * j.val = j.val by omega)

/-- The matrices an instance loads. -/
theorem first_block (c : Dev nD) (t : Fin (cfgA T0 T1 hb).N) (k : Fin 2048) (n : Fin 512) :
    iblk T0 T1 hb m ρ c (1 : Fin 5) t (ix4 0 0 k n) = m ((c : Thread nD τ).loc main_arg3) (ix4 0 (expert T0 ⟨t.val, t.isLt⟩) k n) := by
  rw [iblk1_eq]
  refine congrArg (m ((c : Thread nD τ).loc main_arg3)) (funext fun a => ?_)
  match a with
  | ⟨0, _⟩ => rfl
  | ⟨1, _⟩ => exact Fin.ext (expert_at T0 hb t)
  | ⟨2, _⟩ => rfl
  | ⟨3, _⟩ => rfl

theorem third_block (c : Dev nD) (t : Fin (cfgA T0 T1 hb).N) (k : Fin 2048) (n : Fin 512) :
    iblk T0 T1 hb m ρ c (2 : Fin 5) t (ix4 0 0 k n) = m ((c : Thread nD τ).loc main_arg4) (ix4 0 (expert T0 ⟨t.val, t.isLt⟩) k n) := by
  rw [iblk2_eq]
  refine congrArg (m ((c : Thread nD τ).loc main_arg4)) (funext fun a => ?_)
  match a with
  | ⟨0, _⟩ => rfl
  | ⟨1, _⟩ => exact Fin.ext (expert_at T0 hb t)
  | ⟨2, _⟩ => rfl
  | ⟨3, _⟩ => rfl

theorem second_block (c : Dev nD) (t : Fin (cfgA T0 T1 hb).N) (n : Fin 512) (l : Fin 2048) :
    iblk T0 T1 hb m ρ c (3 : Fin 5) t (ix4 0 0 n l) = m ((c : Thread nD τ).loc main_arg5) (ix4 0 (expert T0 ⟨t.val, t.isLt⟩) n l) := by
  rw [iblk3_eq]
  refine congrArg (m ((c : Thread nD τ).loc main_arg5)) (funext fun a => ?_)
  match a with
  | ⟨0, _⟩ => rfl
  | ⟨1, _⟩ => exact Fin.ext (expert_at T0 hb t)
  | ⟨2, _⟩ => rfl
  | ⟨3, _⟩ => rfl

/-- A block's row, read from the rows an instance loads. -/
theorem row_at (c : Dev nD) (t : Fin (cfgA T0 T1 hb).N) (r : Fin 256) (k : Fin 2048) :
    iblk T0 T1 hb m ρ c (0 : Fin 5) t (ix2 ⟨16 * r.val + k.val / 128, by omega⟩ ⟨k.val % 128, by omega⟩)
      = row (m ((c : Thread nD τ).loc main_arg2)) ⟨t.val, t.isLt⟩ r k := by
  rw [rows_at]
  exact congrArg (m ((c : Thread nD τ).loc main_arg2)) (congrArg (fun i => ix2 i _) (Fin.ext (show t.val * 4096 + (16 * r.val + k.val / 128) = (t.val * 256 + r.val) * 16 + k.val / 128 by omega)))

/-- What an instance stores, at an element. -/
theorem stored_at (c : Dev nD) (t : Fin (cfgA T0 T1 hb).N) (i : Fin 4096) (j : Fin 128) :
    stored T0 T1 hb m ρ c t (ix2 i j) = answer T0 (T1 (ix1 0)) (m ((c : Thread nD τ).loc main_arg2)) (m ((c : Thread nD τ).loc main_arg3))
      (m ((c : Thread nD τ).loc main_arg4)) (m ((c : Thread nD τ).loc main_arg5)) ⟨t.val, t.isLt⟩ ⟨i.val / 16, by omega⟩ ⟨128 * (i.val % 16) + j.val, by omega⟩ := by
  have hu : used T0 T1 hb t ↔ (t.val : ℤ) < (T1 (ix1 0)).toInt := (in_use t (count T1)).trans (by rw [count_at])
  unfold stored answer
  by_cases h : used T0 T1 hb t
  · rw [if_pos h, if_pos (hu.mp h), result_at, product_at]
    have hr := fun k => row_at T0 T1 hb m ρ c t ⟨i.val / 16, by omega⟩ k
    unfold outer inner
    simp only [first_at, second_at, third_at, first_block, second_block, third_block, hr]
  · rw [if_neg h, if_neg fun h' => h (hu.mpr h')]
    pointwise [k0_pay11]

/-- The flat result at a block's element. -/
theorem flat_at (u : BitVec 32) (x : S655360x128.Idx → EReal) (w1 w3 : S4x32x2048x512.Idx → EReal) (w2 : S4x32x512x2048.Idx → EReal)
    (t : Fin 160) (i : Fin 4096) (j : Fin 128) : flat T0 u x w1 w3 w2 ⟨t.val * 4096 + i.val, by omega⟩ j
      = answer T0 u x w1 w3 w2 t ⟨i.val / 16, by omega⟩ ⟨128 * (i.val % 16) + j.val, by omega⟩ := by
  have h0 : (⟨(t.val * 4096 + i.val) / 4096, by omega⟩ : Fin 160) = t := Fin.ext (show (t.val * 4096 + i.val) / 4096 = t.val by omega)
  have h1 : (⟨(t.val * 4096 + i.val) % 4096 / 16, by omega⟩ : Fin 256) = ⟨i.val / 16, by omega⟩ :=
    Fin.ext (show (t.val * 4096 + i.val) % 4096 / 16 = i.val / 16 by omega)
  have h2 : (⟨128 * ((t.val * 4096 + i.val) % 16) + j.val, by omega⟩ : Fin 2048) = ⟨128 * (i.val % 16) + j.val, by omega⟩ :=
    Fin.ext (show 128 * ((t.val * 4096 + i.val) % 16) + j.val = 128 * (i.val % 16) + j.val by omega)
  unfold flat
  simp only [h0, h1, h2]

/-- The result's window reaches every block of the result. -/
theorem cover : ((cfgA T0 T1 hb).win (4 : Fin 5)).Covers := by
  show ((cfgA (fun _ => 0#32) (fun _ => 0#32) (fun _ => Nat.succ_pos 31)).win (4 : Fin 5)).Covers
  decide +kernel

/-- The result array after the run. -/
theorem out_eq (c : Dev nD) : (dats T0 T1 hb m ρ 0 c).arrAt (4 : Fin 5) (cfgA T0 T1 hb).N
    = fun i : S655360x128.Idx => flat T0 (T1 (ix1 0)) (m ((c : Thread nD τ).loc main_arg2)) (m ((c : Thread nD τ).loc main_arg3))
      (m ((c : Thread nD τ).loc main_arg4)) (m ((c : Thread nD τ).loc main_arg5)) (i 0) (i 1) := by
  refine (dats T0 T1 hb m ρ 0 c).arrAt_eq_of_covers (4 : Fin 5) _ (cover T0 T1 hb) fun t hf y => ?_
  have ht : t.val < 160 := t.isLt
  have hp : cc0_transform_4 (grid0.coords t) 0 = t.val := congrFun (places t).2 0
  have e0 : ((((cfgA T0 T1 hb).win (4 : Fin 5)).blk t).view.emb y 0 : ℕ) = t.val * 4096 + (y 0).val := by
    show cc0_transform_4 (grid0.coords t) 0 * 4096 + 1 * (y 0).val = _
    rw [hp, Nat.one_mul]
  have e1 : ((((cfgA T0 T1 hb).win (4 : Fin 5)).blk t).view.emb y 1 : ℕ) = (y 1).val := by
    show 0 * 128 + 1 * (y 1).val = _
    omega
  have hi : (y 0).val < 4096 := (y 0).isLt
  have hj : (y 1).val < 128 := (y 1).isLt
  refine Eq.trans (b := stored T0 T1 hb m ρ c t (ix2 ⟨(y 0).val, hi⟩ ⟨(y 1).val, hj⟩)) ?_ ((stored_at T0 T1 hb m ρ c t _ _).trans ?_)
  · refine congrArg (stored T0 T1 hb m ρ c t) (funext fun a => ?_)
    match a with
    | ⟨0, _⟩ => rfl
    | ⟨1, _⟩ => rfl
  · refine (flat_at T0 _ _ _ _ _ ⟨t.val, ht⟩ ⟨(y 0).val, hi⟩ ⟨(y 1).val, hj⟩).symm.trans ?_
    exact (Loads.at_coords (flat T0 (T1 (ix1 0)) (m ((c : Thread nD τ).loc main_arg2)) (m ((c : Thread nD τ).loc main_arg3))
      (m ((c : Thread nD τ).loc main_arg4)) (m ((c : Thread nD τ).loc main_arg5))) _ ⟨t.val * 4096 + (y 0).val, by omega⟩ _ ⟨(y 1).val, hj⟩ e0 e1).symm

end Cert.Proof.Exp
-- ==== Proof.Exp.Body.lean ====
module

public import proofs.«01_k».proof.Proof.Gen.Exp.Skeleton
public import proofs.«01_k».proof.Proof.Gen.Exp.Launch
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Writes
public import Idealize.ShloMosaic.Lib.Ring
public import Idealize.ShloMosaic.Lib.Exec
public import Idealize.ShloMosaic.Lib.VecWindow
public import Idealize.ShloMosaic.Lib.WholeRead
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.Exp.Run

open Cert.Exp Cert.Exp.Gen

local notation "𝕄" => MT nD τ sig Unit (Elt Bits) ℕ (UR sig nD τ) ℕ

/-- The two tables and the three scratch buffers. -/
abbrev tb0 : Memref sig .tc .smem S160 .i32 := Memref.whole main_arg0
abbrev tb1 : Memref sig .tc .smem S1 .i32 := Memref.whole main_arg1
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The number of blocks in use, as the body reads it. -/
abbrev count (T1 : Vec Bits S1 .i32) : BitVec 32 :=
  View.readAt (Elt Bits) tb1.view (Rect.unit (s := S1) ![0] S1.size inb_S1_S1_0).toLoadRect T1 (Shape.Idx.first (numel1_S1.symm ▸ Nat.one_pos))
/-- The block's expert, as the body reads it. -/
abbrev here (i : grid0.Coords) (T0 : Vec Bits S160 .i32) : BitVec 32 :=
  View.readAt (Elt Bits) tb0.view (Rect.unit (s := S160) (k0_off1 i) S1.size (k0_off1_inb i)).toLoadRect T0 (Shape.Idx.first (numel1_S1.symm ▸ Nat.one_pos))
/-- The expert of the block before, as the body reads it. -/
abbrev prior (i : grid0.Coords) (T0 : Vec Bits S160 .i32) : BitVec 32 :=
  View.readAt (Elt Bits) tb0.view (Rect.unit (s := S160) (k0_off2 i) S1.size (k0_off2_inb i)).toLoadRect T0 (Shape.Idx.first (numel1_S1.symm ▸ Nat.one_pos))
/-- The word that says the weights are to be converted. -/
abbrev change (i : grid0.Coords) (T0 : Vec Bits S160 .i32) (T1 : Vec Bits S1 .i32) : BitVec 1 :=
  Scalar.cmpi .ne (Scalar.extui (Scalar.andi (Scalar.cmpi .slt (BitVec.ofNat 32 (i 0).val) (count T1)) (Scalar.ori (Scalar.cmpi .eq (BitVec.ofNat 32 (i 0).val) 0#32) (Scalar.cmpi .ne (here i T0) (prior i T0)))) : BitVec 32) 0#32

/-- One of the sixteen interleaved sets of rows of a block. -/
def rowsOf (x : Vec Bits S4096x128 .f32) (k : ℕ) (hk : k < 16) : Vec Bits S256x128 .f32 := fun z =>
  x fun | ⟨0, _⟩ => ⟨k + 16 * (z 0).val, by have : (z 0).val < 256 := (z 0).isLt; show _ < 4096; omega⟩ | ⟨1, _⟩ => ⟨(z 1).val, (z 1).isLt⟩ | ⟨_ + 2, h⟩ => absurd h (by simp)

/-- The block's rows, put side by side and rounded. -/
def wide (x : Vec Bits S4096x128 .f32) : FVec Bits S256x2048 .bf16 :=
  k0_pay12 (rowsOf x 0 (by omega)) (rowsOf x 1 (by omega)) (rowsOf x 2 (by omega)) (rowsOf x 3 (by omega)) (rowsOf x 4 (by omega)) (rowsOf x 5 (by omega)) (rowsOf x 6 (by omega)) (rowsOf x 7 (by omega)) (rowsOf x 8 (by omega)) (rowsOf x 9 (by omega)) (rowsOf x 10 (by omega)) (rowsOf x 11 (by omega)) (rowsOf x 12 (by omega)) (rowsOf x 13 (by omega)) (rowsOf x 14 (by omega)) (rowsOf x 15 (by omega))

/-- A block's output, its sixteen parts side by side. -/
def product (x : Vec Bits S4096x128 .f32) (a b : Vec Bits S2048x512 .bf16) (d : Vec Bits S512x2048 .bf16) : FVec Bits S256x2048 .f32 :=
  k0_pay15 (k0_pay13 (wide x) a) (k0_pay14 (wide x) b) d

/-- A block's sixteen parts, its rows interleaved again. -/
def unmix (V : FVec Bits S256x2048 .f32) : Vec Bits S4096x128 .f32 := fun y =>
  V fun | ⟨0, _⟩ => ⟨(y 0).val / 16, by have : (y 0).val < 4096 := (y 0).isLt; show _ < 256; omega⟩ | ⟨1, _⟩ => ⟨128 * ((y 0).val % 16) + (y 1).val, by have : (y 1).val < 128 := (y 1).isLt; show _ < 2048; omega⟩ | ⟨_ + 2, h⟩ => absurd h (by simp)

/-- What a block in use stores. -/
def result (x : Vec Bits S4096x128 .f32) (a b : Vec Bits S2048x512 .bf16) (d : Vec Bits S512x2048 .bf16) : Vec Bits S4096x128 .f32 :=
  unmix (product x a b d)

/-- A strided load of a whole buffer. -/
theorem load_rows {m : Memref sig .tc .vmem S4096x128 .f32} (h : m.IsWhole) (x : Vec Bits S4096x128 .f32) (k : ℕ) (hk : k < 16)
    (inb : ∀ a, S256x128.size a = 0 ∨ (![k, 0] : Fin 2 → ℕ) a + (![16, 1] : Fin 2 → ℕ) a * (S256x128.size a - 1) < S4096x128.size a) :
    m.view.readAt (Elt Bits) (⟨![k, 0], S256x128.size, ![16, 1], inb⟩ : LoadRect S4096x128) (h.unread x) = rowsOf x k hk := by
  funext z
  rw [h.readAt_unread]
  unfold rowsOf
  congr 1
  funext a
  match a with
  | ⟨0, _⟩ => rfl
  | ⟨1, _⟩ => exact Fin.ext (show 0 + 1 * (z 1).val = (z 1).val by omega)

/-- The sixteen loads make the wide block. -/
theorem wide_of_reads {m : Memref sig .tc .vmem S4096x128 .f32} (h : m.IsWhole) (x : Vec Bits S4096x128 .f32) :
    k0_pay12 (m.view.readAt (Elt Bits) (⟨![0, 0], S256x128.size, ![16, 1], inb_S4096x128_S256x128_0_0_s_16_1⟩ : LoadRect S4096x128) (h.unread x)) (m.view.readAt (Elt Bits) (⟨![1, 0], S256x128.size, ![16, 1], inb_S4096x128_S256x128_1_0_s_16_1⟩ : LoadRect S4096x128) (h.unread x)) (m.view.readAt (Elt Bits) (⟨![2, 0], S256x128.size, ![16, 1], inb_S4096x128_S256x128_2_0_s_16_1⟩ : LoadRect S4096x128) (h.unread x)) (m.view.readAt (Elt Bits) (⟨![3, 0], S256x128.size, ![16, 1], inb_S4096x128_S256x128_3_0_s_16_1⟩ : LoadRect S4096x128) (h.unread x)) (m.view.readAt (Elt Bits) (⟨![4, 0], S256x128.size, ![16, 1], inb_S4096x128_S256x128_4_0_s_16_1⟩ : LoadRect S4096x128) (h.unread x)) (m.view.readAt (Elt Bits) (⟨![5, 0], S256x128.size, ![16, 1], inb_S4096x128_S256x128_5_0_s_16_1⟩ : LoadRect S4096x128) (h.unread x)) (m.view.readAt (Elt Bits) (⟨![6, 0], S256x128.size, ![16, 1], inb_S4096x128_S256x128_6_0_s_16_1⟩ : LoadRect S4096x128) (h.unread x)) (m.view.readAt (Elt Bits) (⟨![7, 0], S256x128.size, ![16, 1], inb_S4096x128_S256x128_7_0_s_16_1⟩ : LoadRect S4096x128) (h.unread x)) (m.view.readAt (Elt Bits) (⟨![8, 0], S256x128.size, ![16, 1], inb_S4096x128_S256x128_8_0_s_16_1⟩ : LoadRect S4096x128) (h.unread x)) (m.view.readAt (Elt Bits) (⟨![9, 0], S256x128.size, ![16, 1], inb_S4096x128_S256x128_9_0_s_16_1⟩ : LoadRect S4096x128) (h.unread x)) (m.view.readAt (Elt Bits) (⟨![10, 0], S256x128.size, ![16, 1], inb_S4096x128_S256x128_10_0_s_16_1⟩ : LoadRect S4096x128) (h.unread x)) (m.view.readAt (Elt Bits) (⟨![11, 0], S256x128.size, ![16, 1], inb_S4096x128_S256x128_11_0_s_16_1⟩ : LoadRect S4096x128) (h.unread x)) (m.view.readAt (Elt Bits) (⟨![12, 0], S256x128.size, ![16, 1], inb_S4096x128_S256x128_12_0_s_16_1⟩ : LoadRect S4096x128) (h.unread x)) (m.view.readAt (Elt Bits) (⟨![13, 0], S256x128.size, ![16, 1], inb_S4096x128_S256x128_13_0_s_16_1⟩ : LoadRect S4096x128) (h.unread x)) (m.view.readAt (Elt Bits) (⟨![14, 0], S256x128.size, ![16, 1], inb_S4096x128_S256x128_14_0_s_16_1⟩ : LoadRect S4096x128) (h.unread x)) (m.view.readAt (Elt Bits) (⟨![15, 0], S256x128.size, ![16, 1], inb_S4096x128_S256x128_15_0_s_16_1⟩ : LoadRect S4096x128) (h.unread x)) = wide x := by
  unfold wide
  rw [load_rows h x 0 (by omega) _, load_rows h x 1 (by omega) _, load_rows h x 2 (by omega) _, load_rows h x 3 (by omega) _, load_rows h x 4 (by omega) _, load_rows h x 5 (by omega) _, load_rows h x 6 (by omega) _, load_rows h x 7 (by omega) _, load_rows h x 8 (by omega) _, load_rows h x 9 (by omega) _, load_rows h x 10 (by omega) _, load_rows h x 11 (by omega) _, load_rows h x 12 (by omega) _, load_rows h x 13 (by omega) _, load_rows h x 14 (by omega) _, load_rows h x 15 (by omega) _]

theorem product_of {x : Vec Bits S4096x128 .f32} {a b A B : Vec Bits S2048x512 .bf16} {d D : Vec Bits S512x2048 .bf16} {w : FVec Bits S256x2048 .bf16}
    (hw : w = wide x) (hA : A = a) (hB : B = b) (hD : D = d) : k0_pay15 (k0_pay13 w A) (k0_pay14 w B) D = product x a b d := by
  subst hw hA hB hD; rfl

/-- A whole load of a whole buffer. -/
theorem load_whole {s : Shape} {e : EltTy} {m : Memref sig .tc .vmem s e} (h : m.IsWhole) (x : s.Idx → Elt Bits e) {off : Fin s.rank → ℕ}
    (inb : ∀ a, off a + s.size a ≤ s.size a) : m.view.readAt (Elt Bits) (Rect.unit off s.size inb).toLoadRect (h.unread x) = x :=
  (View.readAt_full _ _ _).trans (h.read_unread _)

/-- Which rows a strided store holds. -/
theorem mem_rows (k : ℕ) (hk : k < 16) (inb : ∀ a, S256x128.size a = 0 ∨ (![k, 0] : Fin 2 → ℕ) a + (![16, 1] : Fin 2 → ℕ) a * (S256x128.size a - 1) < S4096x128.size a)
    (y : S4096x128.Idx) (h : (y 0).val % 16 = k) : y ∈ (⟨(⟨![k, 0], S256x128.size, ![16, 1], inb⟩ : LoadRect S4096x128), spos_16_1⟩ : Rect S4096x128).set := by
  rw [LoadRect.mem_set]
  have h0 : (y 0).val < 4096 := (y 0).isLt
  intro a
  match a with
  | ⟨0, _⟩ => exact ⟨(y 0).val / 16, by show _ < 256; omega, by show (y 0).val = k + 16 * ((y 0).val / 16); omega⟩
  | ⟨1, _⟩ => exact ⟨(y 1).val, (y 1).isLt, by show (y 1).val = 0 + 1 * (y 1).val; omega⟩

/-- A strided store's payload, where it lands. -/
theorem piece_rows (V : FVec Bits S256x2048 .f32) (k : ℕ) (hk : k < 16) (hs : S256x2048.Slices ![0, 128 * k] S256x128)
    (inb : ∀ a, S256x128.size a = 0 ∨ (![k, 0] : Fin 2 → ℕ) a + (![16, 1] : Fin 2 → ℕ) a * (S256x128.size a - 1) < S4096x128.size a) (z : S256x128.Idx) :
    extractStridedSlice S256x128 ![0, 128 * k] V hs z = unmix V ((⟨(⟨![k, 0], S256x128.size, ![16, 1], inb⟩ : LoadRect S4096x128), spos_16_1⟩ : Rect S4096x128).emb z) := by
  unfold unmix
  show V _ = V _
  congr 1
  funext a
  match a with
  | ⟨0, _⟩ => exact Fin.ext (show 0 + (z 0).val = (k + 16 * (z 0).val) / 16 by omega)
  | ⟨1, _⟩ => exact Fin.ext (show 128 * k + (z 1).val = 128 * ((k + 16 * (z 0).val) % 16) + (0 + 1 * (z 1).val) by omega)

/-- The sixteen stores leave the block's output. -/
theorem interleave (v : View sig .tc .vmem S4096x128 .f32) (f : v.ty.Contents (Elt Bits)) (p q : FVec Bits S256x512 .f32) (r : Vec Bits S512x2048 .bf16)
    (V : FVec Bits S256x2048 .f32) (hV : V = k0_pay15 p q r) :
    v.read (Elt Bits) (v.writes (Elt Bits) f [⟨⟨(⟨![15, 0], S256x128.size, ![16, 1], inb_S4096x128_S256x128_15_0_s_16_1⟩ : LoadRect S4096x128), spos_16_1⟩, k0_pay10 V⟩, ⟨⟨(⟨![14, 0], S256x128.size, ![16, 1], inb_S4096x128_S256x128_14_0_s_16_1⟩ : LoadRect S4096x128), spos_16_1⟩, k0_pay9 V⟩, ⟨⟨(⟨![13, 0], S256x128.size, ![16, 1], inb_S4096x128_S256x128_13_0_s_16_1⟩ : LoadRect S4096x128), spos_16_1⟩, k0_pay8 V⟩, ⟨⟨(⟨![12, 0], S256x128.size, ![16, 1], inb_S4096x128_S256x128_12_0_s_16_1⟩ : LoadRect S4096x128), spos_16_1⟩, k0_pay7 V⟩, ⟨⟨(⟨![11, 0], S256x128.size, ![16, 1], inb_S4096x128_S256x128_11_0_s_16_1⟩ : LoadRect S4096x128), spos_16_1⟩, k0_pay6 V⟩, ⟨⟨(⟨![10, 0], S256x128.size, ![16, 1], inb_S4096x128_S256x128_10_0_s_16_1⟩ : LoadRect S4096x128), spos_16_1⟩, k0_pay5 V⟩, ⟨⟨(⟨![9, 0], S256x128.size, ![16, 1], inb_S4096x128_S256x128_9_0_s_16_1⟩ : LoadRect S4096x128), spos_16_1⟩, k0_pay4 V⟩, ⟨⟨(⟨![8, 0], S256x128.size, ![16, 1], inb_S4096x128_S256x128_8_0_s_16_1⟩ : LoadRect S4096x128), spos_16_1⟩, k0_pay24 p q r⟩, ⟨⟨(⟨![7, 0], S256x128.size, ![16, 1], inb_S4096x128_S256x128_7_0_s_16_1⟩ : LoadRect S4096x128), spos_16_1⟩, k0_pay23 p q r⟩, ⟨⟨(⟨![6, 0], S256x128.size, ![16, 1], inb_S4096x128_S256x128_6_0_s_16_1⟩ : LoadRect S4096x128), spos_16_1⟩, k0_pay22 p q r⟩, ⟨⟨(⟨![5, 0], S256x128.size, ![16, 1], inb_S4096x128_S256x128_5_0_s_16_1⟩ : LoadRect S4096x128), spos_16_1⟩, k0_pay21 p q r⟩, ⟨⟨(⟨![4, 0], S256x128.size, ![16, 1], inb_S4096x128_S256x128_4_0_s_16_1⟩ : LoadRect S4096x128), spos_16_1⟩, k0_pay20 p q r⟩, ⟨⟨(⟨![3, 0], S256x128.size, ![16, 1], inb_S4096x128_S256x128_3_0_s_16_1⟩ : LoadRect S4096x128), spos_16_1⟩, k0_pay19 p q r⟩, ⟨⟨(⟨![2, 0], S256x128.size, ![16, 1], inb_S4096x128_S256x128_2_0_s_16_1⟩ : LoadRect S4096x128), spos_16_1⟩, k0_pay18 p q r⟩, ⟨⟨(⟨![1, 0], S256x128.size, ![16, 1], inb_S4096x128_S256x128_1_0_s_16_1⟩ : LoadRect S4096x128), spos_16_1⟩, k0_pay17 p q r⟩, ⟨⟨(⟨![0, 0], S256x128.size, ![16, 1], inb_S4096x128_S256x128_0_0_s_16_1⟩ : LoadRect S4096x128), spos_16_1⟩, k0_pay16 p q r⟩]) = unmix V := by
  subst hV
  funext y
  refine View.read_writes_apply_of_pieces v f (unmix (k0_pay15 p q r)) _ ?_ y ?_
  · intro pc hpc z
    simp only [List.mem_cons, List.not_mem_nil, or_false] at hpc
    rcases hpc with rfl | rfl | rfl | rfl | rfl | rfl | rfl | rfl | rfl | rfl | rfl | rfl | rfl | rfl | rfl | rfl
    · exact piece_rows (k0_pay15 p q r) 15 (by omega) (by decide) _ z
    · exact piece_rows (k0_pay15 p q r) 14 (by omega) (by decide) _ z
    · exact piece_rows (k0_pay15 p q r) 13 (by omega) (by decide) _ z
    · exact piece_rows (k0_pay15 p q r) 12 (by omega) (by decide) _ z
    · exact piece_rows (k0_pay15 p q r) 11 (by omega) (by decide) _ z
    · exact piece_rows (k0_pay15 p q r) 10 (by omega) (by decide) _ z
    · exact piece_rows (k0_pay15 p q r) 9 (by omega) (by decide) _ z
    · exact piece_rows (k0_pay15 p q r) 8 (by omega) (by decide) _ z
    · exact piece_rows (k0_pay15 p q r) 7 (by omega) (by decide) _ z
    · exact piece_rows (k0_pay15 p q r) 6 (by omega) (by decide) _ z
    · exact piece_rows (k0_pay15 p q r) 5 (by omega) (by decide) _ z
    · exact piece_rows (k0_pay15 p q r) 4 (by omega) (by decide) _ z
    · exact piece_rows (k0_pay15 p q r) 3 (by omega) (by decide) _ z
    · exact piece_rows (k0_pay15 p q r) 2 (by omega) (by decide) _ z
    · exact piece_rows (k0_pay15 p q r) 1 (by omega) (by decide) _ z
    · exact piece_rows (k0_pay15 p q r) 0 (by omega) (by decide) _ z
  · have h16 : (y 0).val % 16 < 16 := Nat.mod_lt _ (by omega)
    rcases (by omega : (y 0).val % 16 = 0 ∨ (y 0).val % 16 = 1 ∨ (y 0).val % 16 = 2 ∨ (y 0).val % 16 = 3 ∨ (y 0).val % 16 = 4 ∨ (y 0).val % 16 = 5 ∨ (y 0).val % 16 = 6 ∨ (y 0).val % 16 = 7 ∨ (y 0).val % 16 = 8 ∨ (y 0).val % 16 = 9 ∨ (y 0).val % 16 = 10 ∨ (y 0).val % 16 = 11 ∨ (y 0).val % 16 = 12 ∨ (y 0).val % 16 = 13 ∨ (y 0).val % 16 = 14 ∨ (y 0).val % 16 = 15) with hk | hk | hk | hk | hk | hk | hk | hk | hk | hk | hk | hk | hk | hk | hk | hk
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_rows 0 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_rows 1 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_rows 2 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_rows 3 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_rows 4 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_rows 5 (by omega) _ y hk⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_rows 6 (by omega) _ y hk⟩
    · exact ⟨_, List.Mem.tail _ (List.Mem.tail _ (List.Mem.tail _ (List.Mem.tail _ (List.Mem.tail _ (List.Mem.tail _ (List.Mem.tail _ (List.Mem.tail _ (List.Mem.head _)))))))), mem_rows 7 (by omega) _ y hk⟩
    · exact ⟨_, List.Mem.tail _ (List.Mem.tail _ (List.Mem.tail _ (List.Mem.tail _ (List.Mem.tail _ (List.Mem.tail _ (List.Mem.tail _ (List.Mem.head _))))))), mem_rows 8 (by omega) _ y hk⟩
    · exact ⟨_, List.Mem.tail _ (List.Mem.tail _ (List.Mem.tail _ (List.Mem.tail _ (List.Mem.tail _ (List.Mem.tail _ (List.Mem.head _)))))), mem_rows 9 (by omega) _ y hk⟩
    · exact ⟨_, List.Mem.tail _ (List.Mem.tail _ (List.Mem.tail _ (List.Mem.tail _ (List.Mem.tail _ (List.Mem.head _))))), mem_rows 10 (by omega) _ y hk⟩
    · exact ⟨_, List.Mem.tail _ (List.Mem.tail _ (List.Mem.tail _ (List.Mem.tail _ (List.Mem.head _)))), mem_rows 11 (by omega) _ y hk⟩
    · exact ⟨_, List.Mem.tail _ (List.Mem.tail _ (List.Mem.tail _ (List.Mem.head _))), mem_rows 12 (by omega) _ y hk⟩
    · exact ⟨_, List.Mem.tail _ (List.Mem.tail _ (List.Mem.head _)), mem_rows 13 (by omega) _ y hk⟩
    · exact ⟨_, List.Mem.tail _ (List.Mem.head _), mem_rows 14 (by omega) _ y hk⟩
    · exact ⟨_, List.Mem.head _, mem_rows 15 (by omega) _ y hk⟩

set_option maxHeartbeats 8000000 in
/-- The body at a block not in use: it stores zeros. -/
theorem run_unused (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Bits S4096x128 .f32) (x1 x2 : Vec Bits S1x1x2048x512 .f32) (x3 : Vec Bits S1x1x512x2048 .f32) (a b : Vec Bits S2048x512 .bf16) (d : Vec Bits S512x2048 .bf16)
    (hc : ¬ change i T0 T1 = 1#1) (h2 : ¬ k0_cond2 i (count T1) = 1#1) (h3 : k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ owns (c : Thread nD τ) arg8 fullShare a ∗ owns (c : Thread nD τ) arg9 fullShare b ∗ owns (c : Thread nD τ) arg10 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (k0_pay11 (F := Bits)) ∗ owns (c : Thread nD τ) arg8 fullShare a ∗ owns (c : Thread nD τ) arg9 fullShare b ∗ owns (c : Thread nD τ) arg10 fullShare d) -∗ K ⟨⟩))
      ⊢ wp frame (wpE (defs₀ (F := Bits)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro; exact View.read_writes_full _ _ _ _ _
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

set_option maxHeartbeats 8000000 in
/-- The body at a block in use whose weights are converted first. -/
theorem run_changed (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Bits S4096x128 .f32) (x1 x2 : Vec Bits S1x1x2048x512 .f32) (x3 : Vec Bits S1x1x512x2048 .f32)
    (hc : change i T0 T1 = 1#1) (h2 : k0_cond2 i (count T1) = 1#1) (h3 : ¬ k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (result x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3)) -∗ K ⟨⟩))
      ⊢ wp frame (wpE (defs₀ (F := Bits)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    refine (interleave _ _ _ _ _ _ rfl).trans (congrArg unmix ?_)
    exact product_of (wide_of_reads harg3 x0) ((View.readCov_full _ _ _ _ _).trans (congrArg k0_pay1 (load_whole harg4 x1 _))) ((View.readCov_full _ _ _ _ _).trans (congrArg k0_pay2 (load_whole harg5 x2 _))) ((View.readCov_full _ _ _ _ _).trans (congrArg k0_pay3 (load_whole harg6 x3 _)))
  isplitl [HS0]
  · iexists _; isplitr
    swap; · iexact HS0
    ipureintro; exact (View.read_writes_full _ _ _ _ _).trans (congrArg k0_pay1 (load_whole harg4 x1 _))
  isplitl [HS1]
  · iexists _; isplitr
    swap; · iexact HS1
    ipureintro; exact (View.read_writes_full _ _ _ _ _).trans (congrArg k0_pay2 (load_whole harg5 x2 _))
  iexists _; isplitr
  swap; · iexact HS2
  ipureintro; exact (View.read_writes_full _ _ _ _ _).trans (congrArg k0_pay3 (load_whole harg6 x3 _))

set_option maxHeartbeats 8000000 in
/-- The body at a block in use whose weights are already converted. -/
theorem run_kept (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (T0 : S160.Idx → BitVec 32) (T1 : S1.Idx → BitVec 32) (x0 : Vec Bits S4096x128 .f32) (x1 x2 : Vec Bits S1x1x2048x512 .f32) (x3 : Vec Bits S1x1x512x2048 .f32) (a b : Vec Bits S2048x512 .bf16) (d : Vec Bits S512x2048 .bf16)
    (hc : ¬ change i T0 T1 = 1#1) (h2 : k0_cond2 i (count T1) = 1#1) (h3 : ¬ k0_cond3 i (count T1) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ (∃ d, owns (c : Thread nD τ) arg7 fullShare d) ∗ owns (c : Thread nD τ) arg8 fullShare a ∗ owns (c : Thread nD τ) arg9 fullShare b ∗ owns (c : Thread nD τ) arg10 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ (tb0.view.loc (c : Thread nD τ) ↦{fullShare.right} T0) ∗ (tb1.view.loc (c : Thread nD τ) ↦{fullShare.right} T1) ∗ owns (c : Thread nD τ) arg7 fullShare (result x0 a b d) ∗ owns (c : Thread nD τ) arg8 fullShare a ∗ owns (c : Thread nD τ) arg9 fullShare b ∗ owns (c : Thread nD τ) arg10 fullShare d) -∗ K ⟨⟩))
      ⊢ wp frame (wpE (defs₀ (F := Bits)) Variants.none c none) E (cc0_moe_experts i tb0 (Memref.isWhole_whole _) tb1 (Memref.isWhole_whole _) arg3 harg3 arg4 harg4 arg5 harg5 arg6 harg6 arg7 harg7 arg8 harg8 arg9 harg9 arg10 harg10) K := by
  rw [cc0_moe_experts_eq_skeleton]; unfold cc0_moe_experts_skel

  unfold owns
  iintro ⟨⟨%f0, %hf0, H0⟩, ⟨%f1, %hf1, H1⟩, ⟨%f2, %hf2, H2⟩, ⟨%f3, %hf3, H3⟩, HT0, HT1, ⟨%d4, %f4, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3; obtain rfl := harg8.eq_unread hs0; obtain rfl := harg9.eq_unread hs1; obtain rfl := harg10.eq_unread hs2
  have hT0 : tb0.IsWhole := Memref.isWhole_whole _
  have hT1 : tb1.IsWhole := Memref.isWhole_whole _
  sl_exec! (disch := first | sl_exact hc | sl_exact h2 | sl_exact h3 | exact hc | exact h2 | exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [H4]
  · iexists _; isplitr
    swap; · iexact H4
    ipureintro
    refine (interleave _ _ _ _ _ _ rfl).trans (congrArg unmix ?_)
    exact product_of (wide_of_reads harg3 x0) (load_whole harg8 a _) (load_whole harg9 b _) (load_whole harg10 d _)
  isplitl [HS0]
  · iexists _; isplitr; · ipureintro; exact harg8.read_unread _
    iexact HS0
  isplitl [HS1]
  · iexists _; isplitr; · ipureintro; exact harg9.read_unread _
    iexact HS1
  iexists _; isplitr; · ipureintro; exact harg10.read_unread _
  iexact HS2

end Cert.Exp.Run

end
-- ==== Proof.Exp.Run.lean ====
module

public import proofs.«01_k».proof.Proof.Exp.Body

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

namespace Cert.Exp.Run

open Cert.Exp Cert.Exp.Gen

local notation "𝕄" => MT nD τ sig Unit (Elt Bits) ℕ (UR sig nD τ) ℕ

/-- A condition widened to a word and tested again. -/
theorem word_test (b : BitVec 1) : Scalar.cmpi .ne (Scalar.extui b : BitVec 32) 0#32 = 1#1 ↔ b = 1#1 := by
  rcases BitVec.eq_zero_or_eq_one b with h | h <;> subst h <;> decide

theorem slt_word (x y : BitVec 32) : Scalar.cmpi .slt x y = 1#1 ↔ x.toInt < y.toInt := by
  show BitVec.ofBool (x.slt y) = 1#1 ↔ _
  rw [BitVec.slt]
  by_cases h : x.toInt < y.toInt <;> simp [h]

/-- Exactly one of the two branches runs. -/
theorem other (i : grid0.Coords) (v : BitVec 32) : k0_cond3 i v = 1#1 ↔ ¬ k0_cond2 i v = 1#1 := by
  unfold k0_cond3 k0_cond2
  dsimp only
  generalize Scalar.cmpi .slt (BitVec.ofNat 32 (i 0).val) v = b
  rcases BitVec.eq_zero_or_eq_one b with h | h <;> subst h <;> decide

theorem stores (i : grid0.Coords) (v : BitVec 32) : (!(k0_cond2 i v == 1#1) && !(k0_cond3 i v == 1#1)) = false := by
  by_cases h : k0_cond2 i v = 1#1
  · simp [h]
  · have := (other i v).mpr h; simp [this]

/-- The words of an instance's number. -/
theorem words : ∀ t : Fin grid0.N, (BitVec.ofNat 32 (grid0.coords t 0).val).toInt = (t.val : ℤ)
    ∧ (BitVec.ofNat 32 (grid0.coords t 0).val = 0#32 ↔ t.val = 0)
    ∧ k0_off1 (grid0.coords t) 0 = t.val ∧ k0_off2 (grid0.coords t) 0 = t.val - 1 := by
  decide +kernel

/-- An instance's block is in use: its number is below the count, read with its sign. -/
theorem in_use (t : Fin grid0.N) (v : BitVec 32) : k0_cond2 (grid0.coords t) v = 1#1 ↔ (t.val : ℤ) < v.toInt := by
  unfold k0_cond2
  rw [word_test, slt_word, (words t).1]

/-- The table's word at an instance. -/
theorem here_eq (t : Fin grid0.N) (T0 : S160.Idx → BitVec 32) : here (grid0.coords t) T0 = T0 fun | ⟨0, _⟩ => ⟨t.val, t.isLt⟩ | ⟨_ + 1, h⟩ => absurd h (by simp) := by
  refine congrArg T0 ?_
  funext a
  match a with
  | ⟨0, _⟩ => exact Fin.ext (show k0_off1 (grid0.coords t) 0 + 1 * 0 = t.val by rw [(words t).2.2.1]; omega)

theorem prior_eq (t : Fin grid0.N) (T0 : S160.Idx → BitVec 32) : prior (grid0.coords t) T0 = T0 fun | ⟨0, _⟩ => ⟨t.val - 1, Nat.lt_of_le_of_lt (Nat.sub_le _ _) t.isLt⟩ | ⟨_ + 1, h⟩ => absurd h (by simp) := by
  refine congrArg T0 ?_
  funext a
  match a with
  | ⟨0, _⟩ => exact Fin.ext (show k0_off2 (grid0.coords t) 0 + 1 * 0 = t.val - 1 by rw [(words t).2.2.2]; omega)

/-- When the weights are converted anew. -/
theorem changes (t : Fin grid0.N) (T0 : S160.Idx → BitVec 32) (T1 : S1.Idx → BitVec 32) :
    change (grid0.coords t) T0 T1 = 1#1 ↔ k0_cond2 (grid0.coords t) (count T1) = 1#1 ∧ (t.val = 0 ∨ here (grid0.coords t) T0 ≠ prior (grid0.coords t) T0) := by
  unfold change k0_cond2
  rw [word_test, word_test, ← (words t).2.1]
  generalize Scalar.cmpi .slt (BitVec.ofNat 32 (grid0.coords t 0).val) (count T1) = b
  generalize BitVec.ofNat 32 (grid0.coords t 0).val = x
  generalize here (grid0.coords t) T0 = p
  generalize prior (grid0.coords t) T0 = q
  have hx : Scalar.cmpi .eq x 0#32 = BitVec.ofBool (decide (x = 0#32)) := by
    show BitVec.ofBool (x == 0#32) = _
    by_cases h : x = 0#32
    · subst h; simp
    · rw [beq_eq_false_iff_ne.mpr h, decide_eq_false h]
  have hp : Scalar.cmpi .ne p q = BitVec.ofBool (decide (p ≠ q)) := by
    show BitVec.ofBool (p != q) = _
    by_cases h : p = q
    · subst h; simp
    · rw [bne_iff_ne.mpr h, decide_eq_true h]
  rw [hx, hp]
  rcases BitVec.eq_zero_or_eq_one b with h | h <;> subst h <;> by_cases h1 : x = 0#32 <;> by_cases h2 : p = q <;> simp [h1, h2] <;> decide

variable (T0 : S160.Idx → BitVec 32) (T1 : S1.Idx → BitVec 32) (hb : ∀ y, (T0 y).toNat < 32)

/-- The two tables' contents. -/
def tables : pre0.Contents (Elt Bits)
  | ⟨0, _⟩ => T0
  | ⟨1, _⟩ => T1
  | ⟨_ + 2, h⟩ => absurd h (by simp)

include hb in
theorem tables_ok : ok0 (F := Bits) (tables T0 T1) := by
  refine ⟨fun i => ⟨fun a => ?_, Or.inl rfl⟩, fun i => ⟨fun a => ?_, Or.inl rfl⟩, fun i => ⟨fun a => ?_, Or.inl rfl⟩⟩
  all_goals
    match a with
    | ⟨0, _⟩ => show (0 + 1) * 1 ≤ 4; omega
    | ⟨1, _⟩ => show ((T0 _).toNat + 1) * 1 ≤ 32; rw [Nat.mul_one]; exact hb _
    | ⟨2, _⟩ => exact (Nat.one_mul _).le
    | ⟨3, _⟩ => exact (Nat.one_mul _).le

def adm : (pcfg0 (F := Bits)).Adm := ⟨tables T0 T1, tables_ok T0 T1 hb⟩
abbrev cfgA : Pipeline.Cfg sig Λ₀ := cfg0 (F := Bits) (adm T0 T1 hb)
abbrev pcs : Fin 1 → Pipeline.Cfg sig Λ₀ := Pipeline.pin (pcfgs (F := Bits)) fun _ => adm T0 T1 hb

variable (m : (ℓ : Loc nD τ sig) → Buf (Elt Bits) ℓ) (ρ : Dev nD → PrngReg)

/-- An instance's coordinates and its windows' staging buffers. -/
abbrev crd (t : Fin (cfgA T0 T1 hb).N) : (cfgA T0 T1 hb).grid.Coords := (cfgA T0 T1 hb).grid.coords t
abbrev ms0_0 (t : Fin (cfgA T0 T1 hb).N) : Memref sig .tc .vmem S4096x128 .f32 := spec0_0.stage ((cfgA T0 T1 hb).slots t (0 : Fin 5))
abbrev hs0_0 (t : Fin (cfgA T0 T1 hb).N) : (ms0_0 T0 T1 hb t).IsWhole := hstage0_0 (((cfgA T0 T1 hb).slots t (0 : Fin 5)).cast nbuf0_0)
abbrev ms0_1 (t : Fin (cfgA T0 T1 hb).N) : Memref sig .tc .vmem S1x1x2048x512 .f32 := spec0_1.stage ((cfgA T0 T1 hb).slots t (1 : Fin 5))
abbrev hs0_1 (t : Fin (cfgA T0 T1 hb).N) : (ms0_1 T0 T1 hb t).IsWhole := hstage0_1 (((cfgA T0 T1 hb).slots t (1 : Fin 5)).cast nbuf0_1)
abbrev ms0_2 (t : Fin (cfgA T0 T1 hb).N) : Memref sig .tc .vmem S1x1x2048x512 .f32 := spec0_2.stage ((cfgA T0 T1 hb).slots t (2 : Fin 5))
abbrev hs0_2 (t : Fin (cfgA T0 T1 hb).N) : (ms0_2 T0 T1 hb t).IsWhole := hstage0_2 (((cfgA T0 T1 hb).slots t (2 : Fin 5)).cast nbuf0_2)
abbrev ms0_3 (t : Fin (cfgA T0 T1 hb).N) : Memref sig .tc .vmem S1x1x512x2048 .f32 := spec0_3.stage ((cfgA T0 T1 hb).slots t (3 : Fin 5))
abbrev hs0_3 (t : Fin (cfgA T0 T1 hb).N) : (ms0_3 T0 T1 hb t).IsWhole := hstage0_3 (((cfgA T0 T1 hb).slots t (3 : Fin 5)).cast nbuf0_3)
abbrev ms0_4 (t : Fin (cfgA T0 T1 hb).N) : Memref sig .tc .vmem S4096x128 .f32 := spec0_4.stage ((cfgA T0 T1 hb).slots t (4 : Fin 5))
abbrev hs0_4 (t : Fin (cfgA T0 T1 hb).N) : (ms0_4 T0 T1 hb t).IsWhole := hstage0_4 (((cfgA T0 T1 hb).slots t (4 : Fin 5)).cast nbuf0_4)

/-- The block a window takes at an instance, read off its array at launch. -/
def iblk (c : Dev nD) (w : Fin (cfgA T0 T1 hb).W) (t : Fin (cfgA T0 T1 hb).N) : (((cfgA T0 T1 hb).win w).xblock (crd T0 T1 hb t)).Idx → Elt Bits ((cfgA T0 T1 hb).win w).elt :=
  (((cfgA T0 T1 hb).win w).blk t).view.read (Elt Bits) ((s₀ m ρ).mem (((cfgA T0 T1 hb).win w).arr.view.loc (c : Thread nD τ)))

/-- The block of a weight array that holds one expert's matrix. -/
def expertBlock (s : Fin 2 → ℕ) (A : (⟨4, ![4, 32, s 0, s 1]⟩ : Shape).Idx → Elt Bits .f32) (e : ℕ) (he : e < 32) : (⟨4, ![1, 1, s 0, s 1]⟩ : Shape).Idx → Elt Bits .f32 := fun y =>
  A fun | ⟨0, _⟩ => ⟨0, by show 0 < 4; omega⟩ | ⟨1, _⟩ => ⟨e, he⟩ | ⟨2, _⟩ => ⟨(y 2).val, (y 2).isLt⟩ | ⟨3, _⟩ => ⟨(y 3).val, (y 3).isLt⟩ | ⟨_ + 4, h⟩ => absurd h (by simp)

theorem iblk1_eq (c : Dev nD) (t : Fin (cfgA T0 T1 hb).N) : iblk T0 T1 hb m ρ c (1 : Fin 5) t
    = expertBlock ![2048, 512] (m ((c : Thread nD τ).loc main_arg3)) (here (grid0.coords t) T0).toNat (hb _) := by
  funext y
  refine congrArg (m ((c : Thread nD τ).loc main_arg3)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 2048 + 1 * (y 2).val = (y 2).val by omega)
  | ⟨3, _⟩ => exact Fin.ext (show 0 * 512 + 1 * (y 3).val = (y 3).val by omega)

theorem iblk2_eq (c : Dev nD) (t : Fin (cfgA T0 T1 hb).N) : iblk T0 T1 hb m ρ c (2 : Fin 5) t
    = expertBlock ![2048, 512] (m ((c : Thread nD τ).loc main_arg4)) (here (grid0.coords t) T0).toNat (hb _) := by
  funext y
  refine congrArg (m ((c : Thread nD τ).loc main_arg4)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 2048 + 1 * (y 2).val = (y 2).val by omega)
  | ⟨3, _⟩ => exact Fin.ext (show 0 * 512 + 1 * (y 3).val = (y 3).val by omega)

theorem iblk3_eq (c : Dev nD) (t : Fin (cfgA T0 T1 hb).N) : iblk T0 T1 hb m ρ c (3 : Fin 5) t
    = expertBlock ![512, 2048] (m ((c : Thread nD τ).loc main_arg5)) (here (grid0.coords t) T0).toNat (hb _) := by
  funext y
  refine congrArg (m ((c : Thread nD τ).loc main_arg5)) ?_
  have h0 : (y 0).val < 1 := (y 0).isLt
  have h1 : (y 1).val < 1 := (y 1).isLt
  funext a
  match a with
  | ⟨0, _⟩ => exact Fin.ext (show 0 * 1 + 1 * (y 0).val = 0 by omega)
  | ⟨1, _⟩ => exact Fin.ext (show (here (grid0.coords t) T0).toNat * 1 + 1 * (y 1).val = (here (grid0.coords t) T0).toNat by omega)
  | ⟨2, _⟩ => exact Fin.ext (show 0 * 512 + 1 * (y 2).val = (y 2).val by omega)
  | ⟨3, _⟩ => exact Fin.ext (show 0 * 2048 + 1 * (y 3).val = (y 3).val by omega)

/-- Whether an instance's block is in use. -/
abbrev used (t : Fin (cfgA T0 T1 hb).N) : Prop := k0_cond2 (grid0.coords t) (count T1) = 1#1

/-- Where the weights are kept, the block before was in use and its expert the same. -/
theorem same (c : Dev nD) (t : Fin (cfgA T0 T1 hb).N) (hu : used T0 T1 hb t) (hc : ¬ change (grid0.coords t) T0 T1 = 1#1) :
    ∃ s : Fin (cfgA T0 T1 hb).N, s.val + 1 = t.val ∧ used T0 T1 hb s ∧ iblk T0 T1 hb m ρ c (1 : Fin 5) s = iblk T0 T1 hb m ρ c (1 : Fin 5) t
      ∧ iblk T0 T1 hb m ρ c (2 : Fin 5) s = iblk T0 T1 hb m ρ c (2 : Fin 5) t ∧ iblk T0 T1 hb m ρ c (3 : Fin 5) s = iblk T0 T1 hb m ρ c (3 : Fin 5) t := by
  rw [changes t T0 T1] at hc
  have h0 : t.val ≠ 0 := fun h => hc ⟨hu, Or.inl h⟩
  have he : here (grid0.coords t) T0 = prior (grid0.coords t) T0 := by by_contra h; exact hc ⟨hu, Or.inr h⟩
  have hlt : t.val - 1 < grid0.N := Nat.lt_of_le_of_lt (Nat.sub_le _ _) t.isLt
  have hs : here (grid0.coords ⟨t.val - 1, hlt⟩) T0 = here (grid0.coords t) T0 := by
    rw [he, here_eq, prior_eq]
  refine ⟨⟨t.val - 1, hlt⟩, by show t.val - 1 + 1 = t.val; omega, ?_, ?_, ?_, ?_⟩
  · have h2 := (in_use t (count T1)).mp hu
    exact (in_use ⟨t.val - 1, hlt⟩ (count T1)).mpr (by show ((t.val - 1 : ℕ) : ℤ) < _; omega)
  · rw [iblk1_eq, iblk1_eq]; congr 2
  · rw [iblk2_eq, iblk2_eq]; congr 2
  · rw [iblk3_eq, iblk3_eq]; congr 2

/-- What an instance leaves in the result's buffer. -/
def stored (c : Dev nD) (t : Fin (cfgA T0 T1 hb).N) : Vec Bits S4096x128 .f32 :=
  if used T0 T1 hb t then result (iblk T0 T1 hb m ρ c (0 : Fin 5) t) (k0_pay1 (iblk T0 T1 hb m ρ c (1 : Fin 5) t)) (k0_pay2 (iblk T0 T1 hb m ρ c (2 : Fin 5) t)) (k0_pay3 (iblk T0 T1 hb m ρ c (3 : Fin 5) t))
  else k0_pay11 (F := Bits)

/-- The scratches hold the weights of the block before, converted, where it was in use. -/
def holds (c : Dev nD) (n : ℕ) (a0 a1 : Vec Bits S2048x512 .bf16) (a2 : Vec Bits S512x2048 .bf16) : Prop :=
  ∀ s : Fin (cfgA T0 T1 hb).N, s.val + 1 = n → used T0 T1 hb s →
    a0 = k0_pay1 (iblk T0 T1 hb m ρ c (1 : Fin 5) s) ∧ a1 = k0_pay2 (iblk T0 T1 hb m ρ c (2 : Fin 5) s) ∧ a2 = k0_pay3 (iblk T0 T1 hb m ρ c (3 : Fin 5) s)

/-- The invariant before an instance. -/
def Phi (c : Dev nD) (n : ℕ) : sProp 𝕄 :=
  iprop(∃ a0 a1 a2, ⌜holds T0 T1 hb m ρ c n a0 a1 a2⌝ ∗ owns (c : Thread nD τ) sc0 fullShare a0 ∗ owns (c : Thread nD τ) sc1 fullShare a1 ∗ owns (c : Thread nD τ) sc2 fullShare a2
    ∗ (tb0.view.loc (c : Thread nD τ) ↦{fullShare.right} T0) ∗ (tb1.view.loc (c : Thread nD τ) ↦{fullShare.right} T1))

/-- The pipeline's proof data. -/
def dats (_ : Fin 1) (c : Dev nD) : Dat τ (Elt Bits) Unit ℕ (UR sig nD τ) ℕ (cfgA T0 T1 hb) c where
  A w := (s₀ m ρ).mem (((cfgA T0 T1 hb).win w).arr.view.loc (c : Thread nD τ))
  after w t := match w with
    | ⟨0, _⟩ => iblk T0 T1 hb m ρ c (0 : Fin 5) t
    | ⟨1, _⟩ => iblk T0 T1 hb m ρ c (1 : Fin 5) t
    | ⟨2, _⟩ => iblk T0 T1 hb m ρ c (2 : Fin 5) t
    | ⟨3, _⟩ => iblk T0 T1 hb m ρ c (3 : Fin 5) t
    | ⟨4, _⟩ => stored T0 T1 hb m ρ c t
  Φ t := Phi T0 T1 hb m ρ c t.val
  q _ := fullShare
  owed _ := 0

theorem after0_0 (c : Dev nD) (t : Fin (cfgA T0 T1 hb).N) : (dats T0 T1 hb m ρ 0 c).after (0 : Fin 5) t = iblk T0 T1 hb m ρ c (0 : Fin 5) t := rfl
theorem after0_1 (c : Dev nD) (t : Fin (cfgA T0 T1 hb).N) : (dats T0 T1 hb m ρ 0 c).after (1 : Fin 5) t = iblk T0 T1 hb m ρ c (1 : Fin 5) t := rfl
theorem after0_2 (c : Dev nD) (t : Fin (cfgA T0 T1 hb).N) : (dats T0 T1 hb m ρ 0 c).after (2 : Fin 5) t = iblk T0 T1 hb m ρ c (2 : Fin 5) t := rfl
theorem after0_3 (c : Dev nD) (t : Fin (cfgA T0 T1 hb).N) : (dats T0 T1 hb m ρ 0 c).after (3 : Fin 5) t = iblk T0 T1 hb m ρ c (3 : Fin 5) t := rfl
theorem after0_4 (c : Dev nD) (t : Fin (cfgA T0 T1 hb).N) : (dats T0 T1 hb m ρ 0 c).after (4 : Fin 5) t = stored T0 T1 hb m ρ c t := rfl
theorem before0_0 (c : Dev nD) (t : Fin (cfgA T0 T1 hb).N) (d) : (dats T0 T1 hb m ρ 0 c).before (0 : Fin 5) t d = iblk T0 T1 hb m ρ c (0 : Fin 5) t :=
  ((dats T0 T1 hb m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 hb).N) (d) : (dats T0 T1 hb m ρ 0 c).before (1 : Fin 5) t d = iblk T0 T1 hb m ρ c (1 : Fin 5) t :=
  ((dats T0 T1 hb m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 hb).N) (d) : (dats T0 T1 hb m ρ 0 c).before (2 : Fin 5) t d = iblk T0 T1 hb m ρ c (2 : Fin 5) t :=
  ((dats T0 T1 hb m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 hb).N) (d) : (dats T0 T1 hb m ρ 0 c).before (3 : Fin 5) t d = iblk T0 T1 hb m ρ c (3 : Fin 5) t :=
  ((dats T0 T1 hb m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem idle4 (t : Fin (cfgA T0 T1 hb).N) : (cfgA T0 T1 hb).idle (4 : Fin 5) ((cfgA T0 T1 hb).grid.coords t) = false := stores _ _

/-- The body as the pipeline calls it. -/
abbrev bodyAt0 (t : Fin (cfgA T0 T1 hb).N) : Prog (TpuEff nD τ sig (Elt Bits) Λ₀ .tc) PUnit :=
  cc0_moe_experts (crd T0 T1 hb t) tb0 (Memref.isWhole_whole _) tb1 (Memref.isWhole_whole _) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _)

set_option maxHeartbeats 4000000 in
/-- The body at any instance. -/
theorem sound_body (c : Dev nD) (t : Fin (cfgA T0 T1 hb).N) :
    iprop((dats T0 T1 hb m ρ 0 c).Φ t.castSucc ∗ (dats T0 T1 hb m ρ 0 c).owesAt () t.castSucc
        ∗ (∃ d, owns (c : Thread nD τ) (ms0_0 T0 T1 hb t) fullShare ((dats T0 T1 hb m ρ 0 c).before (0 : Fin 5) t d))
        ∗ (∃ d, owns (c : Thread nD τ) (ms0_1 T0 T1 hb t) fullShare ((dats T0 T1 hb m ρ 0 c).before (1 : Fin 5) t d))
        ∗ (∃ d, owns (c : Thread nD τ) (ms0_2 T0 T1 hb t) fullShare ((dats T0 T1 hb m ρ 0 c).before (2 : Fin 5) t d))
        ∗ (∃ d, owns (c : Thread nD τ) (ms0_3 T0 T1 hb t) fullShare ((dats T0 T1 hb m ρ 0 c).before (3 : Fin 5) t d))
        ∗ (∃ d, owns (c : Thread nD τ) (ms0_4 T0 T1 hb t) fullShare ((dats T0 T1 hb m ρ 0 c).before (4 : Fin 5) t d)))
      ⊢ wp frame (wpE (defs₀ (F := Bits)) Variants.none c none) Set.univ (bodyAt0 T0 T1 hb t) fun _ =>
          iprop((dats T0 T1 hb m ρ 0 c).Φ t.succ ∗ (dats T0 T1 hb m ρ 0 c).owesAt () t.succ
            ∗ bigSep Finset.univ fun w : Fin (cfgA T0 T1 hb).W =>
                match (cfgA T0 T1 hb).idle w ((cfgA T0 T1 hb).grid.coords t) with
                | true =>
                  match ((cfgA T0 T1 hb).win w).flush t with
                  | false => iprop(∃ d, owns (c : Thread nD τ) (((cfgA T0 T1 hb).win w).stage ((cfgA T0 T1 hb).slots t w)) fullShare ((dats T0 T1 hb m ρ 0 c).before w t d))
                  | true => owns (c : Thread nD τ) (((cfgA T0 T1 hb).win w).stage ((cfgA T0 T1 hb).slots t w)) fullShare ((dats T0 T1 hb m ρ 0 c).after w t)
                | false => owns (c : Thread nD τ) (((cfgA T0 T1 hb).win w).stage ((cfgA T0 T1 hb).slots t w)) fullShare ((dats T0 T1 hb m ρ 0 c).after w t)) := by
  rw [bigSep_W0]
  rewrite [idle4]
  simp only [before0_0, before0_1, before0_2, before0_3, after0_0, after0_1, after0_2, after0_3, after0_4]
  rewrite [show (dats T0 T1 hb m ρ 0 c).Φ t.succ = Phi T0 T1 hb m ρ c (t.val + 1) from rfl, show (dats T0 T1 hb m ρ 0 c).Φ t.castSucc = Phi T0 T1 hb m ρ c t.val from rfl,
    show (dats T0 T1 hb m ρ 0 c).owesAt () t.succ = (dats T0 T1 hb m ρ 0 c).owesAt () t.castSucc from rfl]
  unfold Phi
  iintro ⟨⟨%a0, %a1, %a2, %hh, HS0, HS1, HS2, HT0, HT1⟩, Ho, ⟨%d0, H0⟩, ⟨%d1, H1⟩, ⟨%d2, H2⟩, ⟨%d3, H3⟩, ⟨%d4, H4⟩⟩
  by_cases hu : used T0 T1 hb t
  · have h3 : ¬ k0_cond3 (grid0.coords t) (count T1) = 1#1 := fun h => (other _ _).mp h hu
    have hst : stored T0 T1 hb m ρ c t = _ := if_pos hu
    rw [hst]
    by_cases hc : change (grid0.coords t) T0 T1 = 1#1
    · iapply (run_changed c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexists _; iexact HS0
      isplitl [HS1]; · iexists _; iexact HS1
      isplitl [HS2]; · iexists _; iexact HS2
      iintro ⟨H0, H1, H2, H3, HT0, HT1, H4, HS0, HS1, HS2⟩
      isplitl [HS0 HS1 HS2 HT0 HT1]
      · iexists _; iexists _; iexists _; isplitr
        · ipureintro
          intro s hs _
          obtain rfl : s = t := Fin.ext (Nat.succ.inj hs)
          exact ⟨rfl, rfl, rfl⟩
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4
    · obtain ⟨s, hs, hus, e1, e2, e3⟩ := same T0 T1 hb m ρ c t hu hc
      obtain ⟨q0, q1, q2⟩ := hh s hs hus
      rw [e1] at q0; rw [e2] at q1; rw [e3] at q2
      subst q0 q1 q2
      iapply (run_kept c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) _ _ _ hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists _; iexists _; iexists _; isplitr
        · ipureintro
          intro s hs _
          obtain rfl : s = t := Fin.ext (Nat.succ.inj hs)
          exact ⟨rfl, rfl, rfl⟩
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have h3 : k0_cond3 (grid0.coords t) (count T1) = 1#1 := (other _ _).mpr hu
    have hc : ¬ change (grid0.coords t) T0 T1 = 1#1 := fun h => hu ((changes t T0 T1).mp h).1
    have hst : stored T0 T1 hb m ρ c t = _ := if_neg hu
    rw [hst]
    · iapply (run_unused c (crd T0 T1 hb t) (ms0_0 T0 T1 hb t) (hs0_0 T0 T1 hb t) (ms0_1 T0 T1 hb t) (hs0_1 T0 T1 hb t) (ms0_2 T0 T1 hb t) (hs0_2 T0 T1 hb t) (ms0_3 T0 T1 hb t) (hs0_3 T0 T1 hb t) (ms0_4 T0 T1 hb t) (hs0_4 T0 T1 hb t) sc0 (Memref.isWhole_whole _) sc1 (Memref.isWhole_whole _) sc2 (Memref.isWhole_whole _) T0 T1 (iblk T0 T1 hb m ρ c (0 : Fin 5) t) (iblk T0 T1 hb m ρ c (1 : Fin 5) t) (iblk T0 T1 hb m ρ c (2 : Fin 5) t) (iblk T0 T1 hb m ρ c (3 : Fin 5) t) a0 a1 a2 hc hu h3 Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists _; iexists _; iexists _; isplitr
        · ipureintro
          intro s hs hus
          obtain rfl : s = t := Fin.ext (Nat.succ.inj hs)
          exact absurd hus hu
        isplitl [HS0]; · iexact HS0
        isplitl [HS1]; · iexact HS1
        isplitl [HS2]; · iexact HS2
        isplitl [HT0]; · iexact HT0
        iexact HT1
      isplitl [Ho]; · iexact Ho
      isplitl [H0]; · iexact H0
      isplitl [H1]; · iexact H1
      isplitl [H2]; · iexact H2
      isplitl [H3]; · iexact H3
      iexact H4

/-- The library's body obligation, at every instance. -/
theorem body_obligation (c : Dev nD) : BodyObligation (dats T0 T1 hb m ρ 0 c) (defs₀ (F := Bits)) Variants.none () Set.univ := fun t => by
  rw [bigSep_W0]
  exact sound_body T0 T1 hb m ρ c t

/-- The launch element. -/
def u₀ : UR sig nD τ :=
  initOf (Pipeline.cells (pcs T0 T1 hb) ((launch0 (F := Bits)).cellOf_inj fun _ => adm T0 T1 hb))
    (Pipeline.launchToks (pcs T0 T1 hb) ((launch0 (F := Bits)).cellOf_inj fun _ => adm T0 T1 hb))

theorem share_eq (c : Dev nD) (w : Fin (cfgA T0 T1 hb).W) : (dats T0 T1 hb m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant without its knowledge of the scratches' contents, with the buffers held outright. -/
theorem phi_eq (c : Dev nD) (n : ℕ) :
    (Phi T0 T1 hb m ρ c n : sProp 𝕄) = iprop(∃ a0 a1 a2, ⌜holds T0 T1 hb m ρ c n a0 a1 a2⌝ ∗ (((c : Thread nD τ).loc cc0_scratch0) ↦{fullShare} a0)
      ∗ (((c : Thread nD τ).loc cc0_scratch1) ↦{fullShare} a1) ∗ (((c : Thread nD τ).loc cc0_scratch2) ↦{fullShare} a2)
      ∗ (((c : Thread nD τ).loc main_arg0) ↦{fullShare.right} T0) ∗ (((c : Thread nD τ).loc main_arg1) ↦{fullShare.right} T1)) := by
  unfold Phi; simp only [sc0, sc1, sc2, owns_whole]

/-- The invariant at the first instance, whatever the scratches hold; -/
theorem phi0_intro (c : Dev nD) :
    iprop(BI.emp ∗ Pipeline.prefHeld pre0 c (fun _ => fullShare.right) (adm T0 T1 hb).1 ∗ Pipeline.scopedRest spec0 c) ⊢ (dats T0 T1 hb m ρ 0 c).Φ 0 := by
  rw [prefHeld_eq, scopedRest0_eq, show (dats T0 T1 hb m ρ 0 c).Φ 0 = Phi T0 T1 hb m ρ c 0 from rfl, phi_eq]
  iintro ⟨-, ⟨HT0, HT1⟩, ⟨%f0, HS0⟩, ⟨%f1, HS1⟩, ⟨%f2, HS2⟩⟩
  iexists f0; iexists f1; iexists f2
  isplitr
  · ipureintro; intro s hs; exact absurd hs (Nat.succ_ne_zero _)
  isplitl [HS0]; · iexact HS0
  isplitl [HS1]; · iexact HS1
  isplitl [HS2]; · iexact HS2
  isplitl [HT0]; · iexact HT0
  iexact HT1

/-- at the last it gives the scratches back. -/
theorem phiN_exit (c : Dev nD) : (dats T0 T1 hb m ρ 0 c).Φ (Fin.last (cfgA T0 T1 hb).N) ⊢ iprop(BI.emp ∗ Pipeline.scopedRest spec0 c) := by
  rw [scopedRest0_eq, show (dats T0 T1 hb m ρ 0 c).Φ (Fin.last (cfgA T0 T1 hb).N) = Phi T0 T1 hb m ρ c (cfgA T0 T1 hb).N from rfl, phi_eq]
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array ends at what the proof data says, every table as it was. -/
def QC : PUnit × MemSt nD τ sig (Elt Bits) → Prop := fun r =>
  ∀ c : Dev nD, (∀ w : Fin (cfgA T0 T1 hb).W, r.2.mem (((cfgA T0 T1 hb).win w).arr.view.loc (c : Thread nD τ)) = (dats T0 T1 hb m ρ 0 c).arrAt w (cfgA T0 T1 hb).N)
    ∧ ∀ j, r.2.mem ((c : Thread nD τ).loc (pre0.ref j)) = (adm T0 T1 hb).1 j

variable (hp : (∀ c : Dev nD, m ((c : Thread nD τ).loc main_arg0) = T0) ∧ (∀ c : Dev nD, m ((c : Thread nD τ).loc main_arg1) = T1))

include hp in
theorem V_pre (c : Dev nD) (j : Fin 2) : m ((c : Thread nD τ).loc (pre0.ref j)) = (adm T0 T1 hb).1 j := by
  fin_cases j
  · exact hp.1 c
  · exact hp.2 c

include hp in
set_option backward.isDefEq.respectTransparency.types false in
set_option maxHeartbeats 4000000 in
/-- The launch: every execution ends, at the arrays the proof data says and with no counter left standing. -/
theorem run_main_quiescent : θ_run (defs (F := Bits)) (onTc (τ := τ) (main (F := Bits))) (s₀ m ρ) (fun r => QC T0 T1 hb m ρ r ∧ r.2.sem = fun _ => 0) :=
  Pipeline.θ_run_region_noSem_pf_quiescent pcfgs (fun _ => adm T0 T1 hb) (dats T0 T1 hb m ρ) () ((launch0 (F := Bits)).cellOf_inj fun _ => adm T0 T1 hb) (0 : Fin 1)
    (launch0 (F := Bits)).win.to₀ (launch0 (F := Bits)).pre emb₁ defs₀ Variants.none m ρ main
    (hbody := fun c => (body_obligation T0 T1 hb m ρ c).loose) (hne := (launch0 (F := Bits)).block_pos)
    (harr := (launch0 (F := Bits)).arr_whole) (hstage := (launch0 (F := Bits)).stage_whole) (howed := fun _ _ => rfl)
    (u₀ := u₀ T0 T1 hb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hb) (dats T0 T1 hb m ρ) 0 (launch0 (F := Bits)).win.arr_inj c (launch0 (F := Bits)).arr_whole
      (share_eq T0 T1 hb m ρ c) _ _ fun _ => rfl)
    (hpf := V_pre T0 T1 hb m hp)
    (X := fun _ => iprop(emp)) (Y := fun _ => iprop(emp)) (Z := fun _ => iprop(emp))
    (hX := fun c => by rw [unscopedRestP0_eq]; iintro -; isplitr <;> iempintro)
    (hin := phi0_intro T0 T1 hb m ρ)
    (hout := phiN_exit T0 T1 hb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hp in
theorem run_main : θ_run (defs (F := Bits)) (onTc (τ := τ) (main (F := Bits))) (s₀ m ρ) (QC T0 T1 hb m ρ) :=
  (θ_run defs _ _).mono (fun _ h => h.1) (run_main_quiescent T0 T1 hb m ρ hp)

include hp hb in
theorem unchanged : θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T0 T1 hb m ρ 0 c).arrAt_in (0 : Fin 5) rfl _), ((h c).1 (1 : Fin 5)).trans ((dats T0 T1 hb m ρ 0 c).arrAt_in (1 : Fin 5) rfl _), ((h c).1 (2 : Fin 5)).trans ((dats T0 T1 hb m ρ 0 c).arrAt_in (2 : Fin 5) rfl _), ((h c).1 (3 : Fin 5)).trans ((dats T0 T1 hb m ρ 0 c).arrAt_in (3 : Fin 5) rfl _)⟩) (run_main T0 T1 hb m ρ hp)

include hp hb in
/-- The arguments end unchanged and the counters at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hb m ρ hp) ((θ_run defs _ _).mono (fun _ h => h.2) (run_main_quiescent T0 T1 hb m ρ hp))

end Cert.Exp.Run

end
-- ==== Proof.Exp.Claim.lean ====
module

public import proofs.«01_k».proof.Proof.Exp.Ref
public import proofs.«01_k».proof.Proof.Exp.Kernel
public import proofs.«01_k».proof.Proof.Exp.Run
public import proofs.«01_k».proof.Proof.Gen.ExpRefIdeal.Run
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Proof.Exp

open Cert.Proof.Norm

/-- The shape relations of the printed precondition. -/
instance preFacts : Cert.Pre_experts_in_range.Facts := ⟨by decide, by decide, by decide⟩

/-- A one-bit conjunction that is one has both its parts one. -/
theorem both (a b : BitVec 1) (h : IntOp.andi a b = 1#1) : a = 1#1 ∧ b = 1#1 := by
  revert a b
  decide

/-- A table on which the precondition holds names experts only. -/
theorem table_lt {F : FTy → Type} [FloatOps F] (T : Cert.Pre_experts_in_range.S160.Idx → BitVec 32) (u : IVec Cert.Pre_experts_in_range.S1 32)
    (x : FVec F Cert.Pre_experts_in_range.S655360x128 .f32) (w1 w3 : FVec F Cert.Pre_experts_in_range.S4x32x2048x512 .f32)
    (w2 : FVec F Cert.Pre_experts_in_range.S4x32x512x2048 .f32)
    (h : Cert.Pre_experts_in_range.fn T u x w1 w3 w2 = fun _ => 1#1) (y : Cert.Pre_experts_in_range.S160.Idx) : (T y).toNat < 32 := by
  have h0 := congrFun h (Shape.Idx.first Cert.Pre_experts_in_range.Facts.h_S_)
  unfold Cert.Pre_experts_in_range.fn at h0
  haveI : Subsingleton Cert.Pre_experts_in_range.S_.Idx := ⟨fun a b => funext fun k => k.elim0⟩
  have h1 := both _ _ (Host.reduce_andi_all _ _ _ _ _ h0 y)
  have hlo : (0#32 : BitVec 32).toInt ≤ (T y).toInt := IntOp.cmpi_sge.1 h1.1
  have hhi : (T y).toInt < (32#32 : BitVec 32).toInt := IntOp.cmpi_slt.1 h1.2
  have e0 : (0#32 : BitVec 32).toInt = 0 := by decide
  have e1 : (32#32 : BitVec 32).toInt = 32 := by decide
  rw [e0] at hlo
  rw [e1] at hhi
  rw [BitVec.toInt_eq_toNat_cond] at hlo hhi
  have := (T y).isLt
  split at hlo <;> omega

/-- The device. -/
abbrev dev0 : Dev Cert.ExpIdeal.nD := (0 : Fin 1)

/-- The device, for the word program. -/
abbrev dev0b : Dev Cert.Exp.nD := (0 : Fin 1)

/-- There is one device. -/
theorem device (c d : Dev Cert.ExpIdeal.nD) : c = d := Subsingleton.elim (α := Fin 1) c d

/-- The kernel runs, leaves its arguments and ends with its counters at zero. -/
theorem frame_bits : Cert.quiescent_Exp := fun m ρ hpre =>
  Cert.Exp.Run.frame (m (dev0b.tc.loc Cert.Exp.main_arg0)) (m (dev0b.tc.loc Cert.Exp.main_arg1))
    (table_lt _ _ _ _ _ _ (hpre dev0b)) m ρ
    ⟨fun c => by rw [device c dev0b], fun c => by rw [device c dev0b]⟩

/-- So does its ideal program. -/
theorem frame_ideal : Cert.quiescent_ExpIdeal := fun m ρ hpre =>
  Cert.ExpIdeal.Run.frame (m (dev0.tc.loc Cert.ExpIdeal.main_arg0)) (m (dev0.tc.loc Cert.ExpIdeal.main_arg1))
    (table_lt _ _ _ _ _ _ (hpre dev0)) m ρ
    ⟨fun c => by rw [device c dev0], fun c => by rw [device c dev0]⟩

/-- The reference's result when its arguments are those of the kernel. -/
theorem ref_eq_of (T T' : Cert.ExpRefIdeal.S160.Idx → BitVec 32) (hb : ∀ y, (T y).toNat < 32) (u u' : Cert.ExpRefIdeal.S1.Idx → BitVec 32)
    (x x' : Cert.ExpRefIdeal.S655360x128.Idx → EReal) (w1 w1' w3 w3' : Cert.ExpRefIdeal.S4x32x2048x512.Idx → EReal)
    (w2 w2' : Cert.ExpRefIdeal.S4x32x512x2048.Idx → EReal)
    (h : T' = T ∧ u' = u ∧ x' = x ∧ w1' = w1 ∧ w3' = w3 ∧ w2' = w2) :
    Cert.ExpRefIdeal.Read.val_main_v39 (F := Ideal) T' u' x' w1' w3' w2' =
      fun i : Cert.ExpRefIdeal.S655360x128.Idx => flat T (u (ix1 0)) x w1 w3 w2 (i 0) (i 1) := by
  obtain ⟨rfl, rfl, rfl, rfl, rfl, rfl⟩ := h
  exact ref_eq _ hb _ _ _ _ _

/-- The experts' call at the ideal instance computes the reference's. -/
theorem value : Cert.algebraic_ExpIdeal_ExpRefIdeal := by
  intro m ρ m' ρ' hpre hagree
  have hb := table_lt _ _ _ _ _ _ (hpre dev0)
  have hp : (∀ c : Dev Cert.ExpIdeal.nD, m (c.tc.loc Cert.ExpIdeal.main_arg0) = m (dev0.tc.loc Cert.ExpIdeal.main_arg0))
      ∧ (∀ c : Dev Cert.ExpIdeal.nD, m (c.tc.loc Cert.ExpIdeal.main_arg1) = m (dev0.tc.loc Cert.ExpIdeal.main_arg1)) :=
    ⟨fun c => by rw [device c dev0], fun c => by rw [device c dev0]⟩
  refine ⟨fun c => fun i : Cert.ExpIdeal.S655360x128.Idx => flat (m (dev0.tc.loc Cert.ExpIdeal.main_arg0))
    (m (dev0.tc.loc Cert.ExpIdeal.main_arg1) (ix1 0)) (m ((c.tc : Thread Cert.ExpIdeal.nD Cert.ExpIdeal.τ).loc Cert.ExpIdeal.main_arg2))
    (m ((c.tc : Thread Cert.ExpIdeal.nD Cert.ExpIdeal.τ).loc Cert.ExpIdeal.main_arg3)) (m ((c.tc : Thread Cert.ExpIdeal.nD Cert.ExpIdeal.τ).loc Cert.ExpIdeal.main_arg4))
    (m ((c.tc : Thread Cert.ExpIdeal.nD Cert.ExpIdeal.τ).loc Cert.ExpIdeal.main_arg5)) (i 0) (i 1), ?_, ?_⟩
  · have hu := Cert.ExpIdeal.Run.unchanged _ _ hb m ρ hp
    have hv := Cert.ExpIdeal.Run.run_main _ _ hb m ρ hp
    exact (θ_run Cert.ExpIdeal.defs _ _).mono (fun r h c => ⟨((h.2 c).1 (4 : Fin 5)).trans (out_eq _ _ hb m ρ c), h.1 c⟩) (Idealize.ShloMosaic.θ_run_and hu hv)
  · refine (θ_run Cert.ExpRefIdeal.defs _ _).mono (fun _ h c => ⟨(h c).1.trans ?_, (h c).2⟩) (Cert.ExpRefIdeal.Value.run (F := Ideal) m' ρ')
    refine (Cert.ExpRefIdeal.Read.val_main_v39_eq _ _ _ _ _ _).trans ?_
    exact ref_eq_of _ _ hb _ _ _ _ _ _ _ _ _ _ ⟨(hagree c).1.trans (hp.1 c), (hagree c).2.1.trans (hp.2 c), (hagree c).2.2⟩

/-- The reference runs and leaves its arguments. -/
theorem ref_quiescent : Cert.quiescent_ExpRefIdeal := fun m ρ _ =>
  (θ_run Cert.ExpRefIdeal.defs _ _).mono (fun r h => ⟨fun c => (h c).2, Idealize.ShloMosaic.sem_eq_zero_of_no_sems (by decide) r.2⟩)
    (Cert.ExpRefIdeal.Value.run (F := Ideal) m ρ)

end Cert.Proof.Exp
-- ==== Proof.Norm.Fnp.lean ====
module

public import proofs.«01_k».proof.Defs
public import proofs.«01_k».proof.Proof.Gen.FnpIdeal.Value
public import proofs.«01_k».proof.Proof.Gen.FnpRefIdeal.Read
public import proofs.«01_k».proof.Proof.Norm.Rms
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Norm.Fnp

open Cert.FnpIdeal Cert.FnpIdeal.Gen

variable (m : (ℓ : Loc nD τ sig) → Buf (Elt Ideal) ℓ)

/-- The blocks the windows take at an instance. -/
theorem idx : ∀ t : Fin grid0.N, win0_0.index t = ![t.val, 0] ∧ win0_1.index t = ![0, 0] ∧ win0_2.index t = ![t.val, 0] := by
  decide +kernel

/-- The result array after the run: the normalised context rows. -/
theorem out_eq (c : Dev nD) : (dats m 0 c).arrAt 2 cfg0.N
    = fun i : S8192x2048.Idx => rms (m ((c : Thread nD τ).loc main_arg0)) (m ((c : Thread nD τ).loc main_arg1))
        ⟨(i 0).val, lt_of_lt_of_le (i 0).isLt (by decide)⟩ (i 1) := by
  refine (dats m 0 c).arrAt_eq_of_covers 2 _ (by decide +kernel) fun t hf y => ?_
  blk_simp
  rw [after0_2]
  frame_out
  idx_vars y
  pointwise [k0_pay1, rms]
  blk_point [iblk, V, idx t]

/-- The reference's result at an element. -/
theorem ref_eq (x : FVec Ideal S16384x2048 .f32) (g : FVec Ideal S2048 .f32) :
    Cert.FnpRefIdeal.Read.val_main_v15 (F := Ideal) x g
      = fun i : S8192x2048.Idx => rms x g ⟨(i 0).val, lt_of_lt_of_le (i 0).isLt (by decide)⟩ (i 1) := by
  funext i
  idx_vars i
  have hd := Nat.div_add_mod i0.val 256
  rw [← Cert.FnpRefIdeal.Read.val_main_v15_eq]
  pointwise [rms]

/-- The call at the ideal instance computes the reference's normalisation. -/
theorem value : Cert.algebraic_FnpIdeal_FnpRefIdeal := by
  intro m ρ m' ρ' _ hagree
  refine ⟨fun c => fun i : S8192x2048.Idx => rms (m ((c : Thread nD τ).loc main_arg0)) (m ((c : Thread nD τ).loc main_arg1))
        ⟨(i 0).val, lt_of_lt_of_le (i 0).isLt (by decide)⟩ (i 1), ?_, ?_⟩
  · exact (θ_run Cert.FnpIdeal.defs _ _).mono (fun r h c => ⟨(h c).1.trans (out_eq m c), (h c).2⟩) (Cert.FnpIdeal.Value.run_blocks (F := Ideal) m ρ)
  · refine (θ_run Cert.FnpRefIdeal.defs _ _).mono (fun _ h c => ⟨(h c).1.trans ?_, (h c).2⟩) (Cert.FnpRefIdeal.Value.run (F := Ideal) m' ρ')
    refine (Cert.FnpRefIdeal.Read.val_main_v15_eq _ _).trans ((ref_eq _ _).trans ?_)
    rw [(hagree c).1, (hagree c).2]

/-- The reference runs and leaves its arguments. -/
theorem ref_quiescent : Cert.quiescent_FnpRefIdeal := fun m ρ _ =>
  (θ_run Cert.FnpRefIdeal.defs _ _).mono (fun r h => ⟨fun c => (h c).2, Idealize.ShloMosaic.sem_eq_zero_of_no_sems (by decide) r.2⟩)
    (Cert.FnpRefIdeal.Value.run (F := Ideal) m ρ)

end Cert.Proof.Norm.Fnp
-- ==== Proof.Norm.Fns.lean ====
module

public import proofs.«01_k».proof.Defs
public import proofs.«01_k».proof.Proof.Gen.FnsIdeal.Value
public import proofs.«01_k».proof.Proof.Gen.FnsRefIdeal.Read
public import proofs.«01_k».proof.Proof.Norm.Rms
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Proof.Norm.Fns

open Cert.FnsIdeal Cert.FnsIdeal.Gen

variable (m : (ℓ : Loc nD τ sig) → Buf (Elt Ideal) ℓ)

/-- The blocks the windows take at an instance. -/
theorem idx : ∀ t : Fin grid0.N, win0_0.index t = ![16 + t.val, 0] ∧ win0_1.index t = ![0, 0] ∧ win0_2.index t = ![t.val, 0] := by
  decide +kernel

/-- The result array after the run: the normalised latent rows. -/
theorem out_eq (c : Dev nD) : (dats m 0 c).arrAt 2 cfg0.N
    = fun i : S8192x2048.Idx => rms (m ((c : Thread nD τ).loc main_arg0)) (m ((c : Thread nD τ).loc main_arg1))
        ⟨8192 + (i 0).val, Nat.add_lt_add_left (i 0).isLt 8192⟩ (i 1) := by
  refine (dats m 0 c).arrAt_eq_of_covers 2 _ (by decide +kernel) fun t hf y => ?_
  blk_simp
  rw [after0_2]
  frame_out
  idx_vars y
  pointwise [k0_pay1, rms]
  blk_point [iblk, V, idx t]

/-- The reference's result at an element. -/
theorem ref_eq (x : FVec Ideal S16384x2048 .f32) (g : FVec Ideal S2048 .f32) :
    Cert.FnsRefIdeal.Read.val_main_v15 (F := Ideal) x g
      = fun i : S8192x2048.Idx => rms x g ⟨8192 + (i 0).val, Nat.add_lt_add_left (i 0).isLt 8192⟩ (i 1) := by
  funext i
  idx_vars i
  have hd := Nat.div_add_mod i0.val 2048
  rw [← Cert.FnsRefIdeal.Read.val_main_v15_eq]
  pointwise [rms]

/-- The call at the ideal instance computes the reference's normalisation. -/
theorem value : Cert.algebraic_FnsIdeal_FnsRefIdeal := by
  intro m ρ m' ρ' _ hagree
  refine ⟨fun c => fun i : S8192x2048.Idx => rms (m ((c : Thread nD τ).loc main_arg0)) (m ((c : Thread nD τ).loc main_arg1))
        ⟨8192 + (i 0).val, Nat.add_lt_add_left (i 0).isLt 8192⟩ (i 1), ?_, ?_⟩
  · exact (θ_run Cert.FnsIdeal.defs _ _).mono (fun r h c => ⟨(h c).1.trans (out_eq m c), (h c).2⟩) (Cert.FnsIdeal.Value.run_blocks (F := Ideal) m ρ)
  · refine (θ_run Cert.FnsRefIdeal.defs _ _).mono (fun _ h c => ⟨(h c).1.trans ?_, (h c).2⟩) (Cert.FnsRefIdeal.Value.run (F := Ideal) m' ρ')
    refine (Cert.FnsRefIdeal.Read.val_main_v15_eq _ _).trans ((ref_eq _ _).trans ?_)
    rw [(hagree c).1, (hagree c).2]

/-- The reference runs and leaves its arguments. -/
theorem ref_quiescent : Cert.quiescent_FnsRefIdeal := fun m ρ _ =>
  (θ_run Cert.FnsRefIdeal.defs _ _).mono (fun r h => ⟨fun c => (h c).2, Idealize.ShloMosaic.sem_eq_zero_of_no_sems (by decide) r.2⟩)
    (Cert.FnsRefIdeal.Value.run (F := Ideal) m ρ)

end Cert.Proof.Norm.Fns
-- ==== Proof.lean ====
module

public import proofs.«01_k».proof.Proof.Ctx.Claim
public import proofs.«01_k».proof.Proof.Proj.Claim
public import proofs.«01_k».proof.Proof.Proje.Claim
public import proofs.«01_k».proof.Proof.Oproj.Claim
public import proofs.«01_k».proof.Proof.Oprojt.Claim
public import proofs.«01_k».proof.Proof.Exp.Claim
public import proofs.«01_k».proof.Proof.Norm.Fnp
public import proofs.«01_k».proof.Proof.Norm.Fns
public import proofs.«01_k».proof.Proof.Gen.Ctx.Frame
public import proofs.«01_k».proof.Proof.Gen.CtxIdeal.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Proje.Run
public import proofs.«01_k».proof.Proof.Proje.RunIdeal
public import proofs.«01_k».proof.Proof.Gen.ProjeRefIdeal.Run
public import proofs.«01_k».proof.Proof.Gen.ProjeRefIdeal.Read
public import proofs.«01_k».proof.Proof.Gen.Oproj.Frame
public import proofs.«01_k».proof.Proof.Gen.OprojIdeal.Frame
public import proofs.«01_k».proof.Proof.Gen.OprojIdeal.Value
public import proofs.«01_k».proof.Proof.Gen.OprojRefIdeal.Run
public import proofs.«01_k».proof.Proof.Gen.OprojRefIdeal.Read
public import proofs.«01_k».proof.Proof.Gen.Oprojt.Frame
public import proofs.«01_k».proof.Proof.Gen.OprojtIdeal.Frame
public import proofs.«01_k».proof.Proof.Gen.OprojtIdeal.Value
public import proofs.«01_k».proof.Proof.Gen.OprojtRefIdeal.Run
public import proofs.«01_k».proof.Proof.Gen.OprojtRefIdeal.Read
public import proofs.«01_k».proof.Proof.Exp.Run
public import proofs.«01_k».proof.Proof.Exp.RunIdeal
public import proofs.«01_k».proof.Proof.Gen.ExpRefIdeal.Run
public import proofs.«01_k».proof.Proof.Gen.ExpRefIdeal.Read
public import proofs.«01_k».proof.Proof.Gen.Fnp.Frame
public import proofs.«01_k».proof.Proof.Gen.FnpIdeal.Frame
public import proofs.«01_k».proof.Proof.Gen.FnpIdeal.Value
public import proofs.«01_k».proof.Proof.Gen.FnpRefIdeal.Run
public import proofs.«01_k».proof.Proof.Gen.FnpRefIdeal.Read
public import proofs.«01_k».proof.Proof.Gen.Fns.Frame
public import proofs.«01_k».proof.Proof.Gen.FnsIdeal.Frame
public import proofs.«01_k».proof.Proof.Gen.FnsIdeal.Value
public import proofs.«01_k».proof.Proof.Gen.FnsRefIdeal.Run
public import proofs.«01_k».proof.Proof.Gen.FnsRefIdeal.Read
public import proofs.«01_k».proof.Defs
public import Idealize.ShloMosaic.Adequacy
public import Idealize.ShloMosaic.Init

@[expose] public section

noncomputable section

namespace Cert.Proof

open Idealize.ShloMosaic Idealize.SL.Sem

/-- Everything that is claimed: the facts the programs state, the frames of every program, and for each call that its ideal
program computes what its reference computes. -/
theorem claim : Cert.Claim :=
  ⟨Cert.Ctx.Gen.facts,
    Cert.CtxIdeal.Gen.facts,
    Cert.CtxRefIdeal.Gen.facts,
    Cert.Proj.Gen.facts,
    Cert.ProjIdeal.Gen.facts,
    Cert.ProjRefIdeal.Gen.facts,
    Cert.Proje.Gen.facts,
    Cert.ProjeIdeal.Gen.facts,
    Cert.ProjeRefIdeal.Gen.facts,
    Cert.Oproj.Gen.facts,
    Cert.OprojIdeal.Gen.facts,
    Cert.OprojRefIdeal.Gen.facts,
    Cert.Oprojt.Gen.facts,
    Cert.OprojtIdeal.Gen.facts,
    Cert.OprojtRefIdeal.Gen.facts,
    Cert.Exp.Gen.facts,
    Cert.ExpIdeal.Gen.facts,
    Cert.ExpRefIdeal.Gen.facts,
    Cert.Fnp.Gen.facts,
    Cert.FnpIdeal.Gen.facts,
    Cert.FnpRefIdeal.Gen.facts,
    Cert.Fns.Gen.facts,
    Cert.FnsIdeal.Gen.facts,
    Cert.FnsRefIdeal.Gen.facts,
    Ctx.preFacts,
    Proje.preFacts,
    Exp.preFacts,
    fun m ρ _ => Cert.Ctx.Gen.frame m ρ,
    fun m ρ _ => Cert.CtxIdeal.Gen.frame m ρ,
    fun m ρ _ => Cert.CtxIdeal.Gen.frame m ρ,
    Ctx.ref_quiescent,
    fun m ρ _ => Ctx.ref_quiescent m ρ trivial,
    fun m ρ _ => Cert.Proj.Gen.frame m ρ,
    fun m ρ _ => Cert.ProjIdeal.Gen.frame m ρ,
    Proj.ref_quiescent,
    fun m ρ _ => Cert.Proje.Run.frame m ρ,
    fun m ρ _ => Cert.ProjeIdeal.Run.frame m ρ,
    fun m ρ _ => Cert.ProjeIdeal.Run.frame m ρ,
    Proje.ref_quiescent,
    fun m ρ _ => Proje.ref_quiescent m ρ trivial,
    fun m ρ _ => Cert.Oproj.Gen.frame m ρ,
    fun m ρ _ => Cert.OprojIdeal.Gen.frame m ρ,
    Oproj.ref_quiescent,
    fun m ρ _ => Cert.Oprojt.Gen.frame m ρ,
    fun m ρ _ => Cert.OprojtIdeal.Gen.frame m ρ,
    Oprojt.ref_quiescent,
    Exp.frame_bits,
    Exp.frame_ideal,
    Exp.ref_quiescent,
    fun m ρ _ => Exp.ref_quiescent m ρ trivial,
    fun m ρ _ => Cert.Fnp.Gen.frame m ρ,
    fun m ρ _ => Cert.FnpIdeal.Gen.frame m ρ,
    Norm.Fnp.ref_quiescent,
    fun m ρ _ => Cert.Fns.Gen.frame m ρ,
    fun m ρ _ => Cert.FnsIdeal.Gen.frame m ρ,
    Norm.Fns.ref_quiescent,
    trivial,
    Ctx.value,
    trivial,
    Proj.value,
    trivial,
    Proje.value,
    trivial,
    Oproj.value,
    trivial,
    Oprojt.value,
    trivial,
    Exp.value,
    trivial,
    Norm.Fnp.value,
    trivial,
    Norm.Fns.value⟩

end Cert.Proof

end
